-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routes_in_range_KernelIdeal [hPre_routes_in_range_KernelIdeal : Cert.Pre_routes_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routes_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_in_range_ReferenceIdeal [hPre_routes_in_range_ReferenceIdeal : Cert.Pre_routes_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_routes_in_range_KernelIdeal [hKernelIdeal : Cert.KernelIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_routes_in_range_ReferenceIdeal [hReferenceIdeal : Cert.ReferenceIdeal.Facts] [hPre_routes_in_range_ReferenceIdeal : Cert.Pre_routes_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_routes_in_range_KernelIdeal [hKernelIdeal : Cert.KernelIdeal.Facts] [hReferenceIdeal : Cert.ReferenceIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_in_range_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 1]⟩ ⟨2, ![8192, 1]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_routes_in_range_KernelIdeal : Cert.Pre_routes_in_range_KernelIdeal.Facts) (hPre_routes_in_range_ReferenceIdeal : Cert.Pre_routes_in_range_ReferenceIdeal.Facts),
    quiescent_Kernel (hKernel := hKernel)
    ∧ quiescent_KernelIdeal (hKernelIdeal := hKernelIdeal)
    ∧ quiescent_KernelIdeal_pre_routes_in_range_KernelIdeal (hKernelIdeal := hKernelIdeal) (hPre_routes_in_range_KernelIdeal := hPre_routes_in_range_KernelIdeal)
    ∧ quiescent_ReferenceIdeal (hReferenceIdeal := hReferenceIdeal)
    ∧ quiescent_ReferenceIdeal_pre_routes_in_range_ReferenceIdeal (hReferenceIdeal := hReferenceIdeal) (hPre_routes_in_range_ReferenceIdeal := hPre_routes_in_range_ReferenceIdeal)
    ∧ preserves_Kernel_KernelIdeal
    ∧ algebraic_KernelIdeal_ReferenceIdeal_pre_routes_in_range_KernelIdeal (hKernelIdeal := hKernelIdeal) (hReferenceIdeal := hReferenceIdeal) (hPre_routes_in_range_KernelIdeal := hPre_routes_in_range_KernelIdeal)
-- ==== Pre_routes_in_range_KernelIdeal.lean ====
abbrev S2048x1024 : Shape := ⟨2, ![2048, 1024]⟩
abbrev S2048x1 : Shape := ⟨2, ![2048, 1]⟩
abbrev S8x1024x1024 : Shape := ⟨3, ![8, 1024, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x1024 .f32) (main_arg1 : IVec S2048x1 32) (main_arg2 : FVec F S8x1024x1024 .f32) : IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg1 main_v0
  let main_c_0 : IVec S_ 32 := constantI S_ 32 32#32
  let main_v2 : IVec S2048x1 32 := broadcastInDim S2048x1 ![] bcast_S_S2048x1 main_c_0
  let main_v3 : IVec S2048x1 1 := cmpi .slt main_arg1 main_v2
  let main_v4 : IVec S2048x1 1 := andi main_v1 main_v3
  main_v4
-- ==== Pre_routes_in_range_ReferenceIdeal.lean ====
abbrev S8192x1024 : Shape := ⟨2, ![8192, 1024]⟩
abbrev S8192x1 : Shape := ⟨2, ![8192, 1]⟩
abbrev S32x1024x1024 : Shape := ⟨3, ![32, 1024, 1024]⟩
abbrev S_ : Shape := ⟨0, ![]⟩

class Facts : Prop where
  bcast_S_S8192x1 : S_.BroadcastsInDim S8192x1 (![] : Fin 0 → Fin S8192x1.rank)

variable [Facts]

def fn {F : FTy → Type} [FloatOps F] (main_arg0 : FVec F S8192x1024 .f32) (main_arg1 : IVec S8192x1 32) (main_arg2 : FVec F S32x1024x1024 .f32) : IVec S8192x1 1 :=
  let main_c : IVec S_ 32 := constantI S_ 32 0#32
  let main_v0 : IVec S8192x1 32 := broadcastInDim S8192x1 ![] bcast_S_S8192x1 main_c
  let main_v1 : IVec S8192x1 1 := cmpi .sge main_arg1 main_v0
  let main_c_0 : IVec S_ 32 := constantI S_ 32 32#32
  let main_v2 : IVec S8192x1 32 := broadcastInDim S8192x1 ![] bcast_S_S8192x1 main_c_0
  let main_v3 : IVec S8192x1 1 := cmpi .slt main_arg1 main_v2
  let main_v4 : IVec S8192x1 1 := andi main_v1 main_v3
  main_v4
-- ==== Kernel.lean ====
abbrev S2048x1024 : Shape := ⟨2, ![2048, 1024]⟩
abbrev S2048x1 : Shape := ⟨2, ![2048, 1]⟩
abbrev S8x1024x1024 : Shape := ⟨3, ![8, 1024, 1024]⟩
abbrev S_ : Shape := ⟨0, ![]⟩
abbrev S16x128 : Shape := ⟨2, ![16, 128]⟩
abbrev S64x128 : Shape := ⟨2, ![64, 128]⟩
abbrev S3 : Shape := ⟨1, ![3]⟩
abbrev S1 : Shape := ⟨1, ![1]⟩
abbrev S8192 : Shape := ⟨1, ![8192]⟩
abbrev S8192x1 : Shape := ⟨2, ![8192, 1]⟩
abbrev S32 : Shape := ⟨1, ![32]⟩
abbrev S1x32 : Shape := ⟨2, ![1, 32]⟩
abbrev S8192x32 : Shape := ⟨2, ![8192, 32]⟩
abbrev S2048 : Shape := ⟨1, ![2048]⟩
abbrev S1x8192 : Shape := ⟨2, ![1, 8192]⟩
abbrev S8192x1024 : Shape := ⟨2, ![8192, 1024]⟩
abbrev S6656x1024 : Shape := ⟨2, ![6656, 1024]⟩
abbrev S1024x1024 : Shape := ⟨2, ![1024, 1024]⟩
abbrev S4 : Shape := ⟨1, ![4]⟩
abbrev S6 : Shape := ⟨1, ![6]⟩
abbrev S1664x1024 : Shape := ⟨2, ![1664, 1024]⟩
abbrev S1x2048 : Shape := ⟨2, ![1, 2048]⟩
abbrev S208x2048 : Shape := ⟨2, ![208, 2048]⟩
abbrev S208x1024 : Shape := ⟨2, ![208, 1024]⟩
abbrev S2048x512 : Shape := ⟨2, ![2048, 512]⟩
abbrev S1x1024x1024 : Shape := ⟨3, ![1, 1024, 1024]⟩
abbrev S832x1024 : Shape := ⟨2, ![832, 1024]⟩
abbrev S2048x1664 : Shape := ⟨2, ![2048, 1664]⟩
abbrev S1x1664 : Shape := ⟨2, ![1, 1664]⟩
abbrev S1664x512 : Shape := ⟨2, ![1664, 512]⟩

abbrev nBuf : Space → Nat
  | .hbm => 61
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1, .i32⟩
  | .hbm, ⟨2, _⟩ => ⟨S8x1024x1024, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S16x128, .i32⟩
  | .hbm, ⟨10, _⟩ => ⟨S64x128, .i32⟩
  | .hbm, ⟨11, _⟩ => ⟨S8192, .i32⟩
  | .hbm, ⟨12, _⟩ => ⟨S8192x1, .i32⟩
  | .hbm, ⟨13, _⟩ => ⟨S32, .i32⟩
  | .hbm, ⟨14, _⟩ => ⟨S1x32, .i32⟩
  | .hbm, ⟨15, _⟩ => ⟨S8192x32, .i32⟩
  | .hbm, ⟨16, _⟩ => ⟨S8192x32, .i32⟩
  | .hbm, ⟨17, _⟩ => ⟨S8192x32, .i1⟩
  | .hbm, ⟨18, _⟩ => ⟨S8192x32, .i32⟩
  | .hbm, ⟨19, _⟩ => ⟨S_, .i32⟩
  | .hbm, ⟨20, _⟩ => ⟨S_, .i32⟩
  | .hbm, ⟨21, _⟩ => ⟨S8192x32, .i32⟩
  | .hbm, ⟨22, _⟩ => ⟨S_, .i32⟩
  | .hbm, ⟨23, _⟩ => ⟨S8192x32, .i32⟩
  | .hbm, ⟨24, _⟩ => ⟨S8192x32, .i32⟩
  | .hbm, ⟨25, _⟩ => ⟨S8192x32, .i32⟩
  | .hbm, ⟨26, _⟩ => ⟨S_, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S2048x1024, .bf16⟩
  | .hbm, ⟨56, _⟩ => ⟨S1x8192, .i32⟩
  | .hbm, ⟨57, _⟩ => ⟨S1x8192, .i32⟩
  | .hbm, ⟨58, _⟩ => ⟨S2048x1, .i32⟩
  | .hbm, ⟨59, _⟩ => ⟨S2048x1024, .bf16⟩
  | .hbm, ⟨60, _⟩ => ⟨S2048x1024, .f32⟩
  | .local _ .vmem, ⟨0, _⟩ => ⟨S16x128, .i32⟩
  | .local _ .vmem, ⟨1, _⟩ => ⟨S64x128, .i32⟩
  | .local _ .vmem, ⟨2, _⟩ => ⟨S2048x1024, .bf16⟩
  | .local _ .vmem, ⟨3, _⟩ => ⟨S1x8192, .i32⟩
  | .local _ .vmem, ⟨4, _⟩ => ⟨S1x8192, .i32⟩
  | .local _ .vmem, ⟨5, _⟩ => ⟨S2048x1, .i32⟩
  | .local _ .vmem, ⟨6, _⟩ => ⟨S2048x1024, .bf16⟩
  | .local _ .vmem, ⟨7, _⟩ => ⟨S8192x1024, .bf16⟩
  | .local _ .vmem, ⟨8, _⟩ => ⟨S6656x1024, .bf16⟩
  | .local _ .vmem, ⟨9, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_call0_c : Ref sig .tc := ⟨.hbm, 19, rfl⟩
abbrev main_call0_call0_v0 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_c_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_9 : Ref sig .tc := ⟨.hbm, 44, rfl⟩
abbrev main_v30 : Ref sig .tc := ⟨.hbm, 45, rfl⟩
abbrev main_v31 : Ref sig .tc := ⟨.hbm, 46, rfl⟩
abbrev main_c_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_11 : Ref sig .tc := ⟨.hbm, 51, rfl⟩
abbrev main_call1_v0 : Ref sig .tc := ⟨.hbm, 52, rfl⟩
abbrev main_call1_v1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_scratch0 : Ref sig .tc := ⟨.vmem, 7, rfl⟩
abbrev cc1_scratch1 : Ref sig .tc := ⟨.vmem, 8, rfl⟩
abbrev cc1_scratch2 : Ref sig .tc := ⟨.vmem, 9, rfl⟩
abbrev cc0_sem0_0 : DmaSem sig := 0
abbrev cc0_sem1_0 : DmaSem sig := 1
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32 : BitVec 32 := 16#32
  let v15 : BitVec 32 := Scalar.muli v2 c16_i32
  let v16 : Index := Scalar.indexCast v15
  let c0_11 : Index := 0#32
  ![v16.toNat, 0]
def k0_off2 (d0 : Dev nD) (c0_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_12 : BitVec 32 := 4#32
  let v18 : BitVec 32 := Scalar.addi v2 c4_i32_12
  let v19 : BitVec 32 := Scalar.subi v18 c0_i32_13
  let c4_i32_14 : BitVec 32 := 4#32
  let v20 : BitVec 32 := Scalar.remsi v19 c4_i32_14
  let c16_i32_16 : BitVec 32 := 16#32
  let v22 : BitVec 32 := Scalar.muli v20 c16_i32_16
  let c0_i32_21 : BitVec 32 := 0#32
  ![v22.toNat, 0]
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_19 : BitVec 32 := 1#32
  let v23 : BitVec 32 := Scalar.muli v7 c1_i32_19
  let v24 : BitVec 32 := Scalar.addi c0_i32_20 v23
  v24.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_41 : BitVec 32 := 1#32
  let v46 : BitVec 32 := Scalar.muli v7 c1_i32_41
  let v47 : BitVec 32 := Scalar.addi c0_i32_42 v46
  v47.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_63 : BitVec 32 := 1#32
  let v69 : BitVec 32 := Scalar.muli v7 c1_i32_63
  let v70 : BitVec 32 := Scalar.addi c0_i32_64 v69
  v70.toNat
abbrev stage0_0 : Fin 1 → Memref sig .tc .vmem S16x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k1_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k1_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v17 : BitVec 32 := Scalar.muli v2 c2048_i32
  let v18 : Index := Scalar.indexCast v17
  let c0_13 : Index := 0#32
  ![v18.toNat, 0]
def k1_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_14 : BitVec 32 := 2048#32
  let v22 : BitVec 32 := Scalar.muli v2 c2048_i32_14
  let c0_i32_20 : BitVec 32 := 0#32
  ![v22.toNat, 0]
def k1_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_18 : BitVec 32 := 1#32
  let v24 : BitVec 32 := Scalar.muli v7 c1_i32_18
  let v25 : BitVec 32 := Scalar.addi c0_i32_19 v24
  v25.toNat
def k1_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_24 : BitVec 32 := 1#32
  let v32 : BitVec 32 := Scalar.muli v5 c1_i32_24
  let v33 : BitVec 32 := Scalar.addi c0_i32_25 v32
  v33.toNat
def k1_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1664_i32 : BitVec 32 := 1664#32
  let v41 : BitVec 32 := Scalar.muli v2 c1664_i32
  let v42 : Index := Scalar.indexCast v41
  let c0_28 : Index := 0#32
  ![v42.toNat, 0]
def k1_off4 (d0 : Dev nD) : Fin 2 → Nat :=
  let c0_30 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_29 : BitVec 32 := 2048#32
  let v46 : BitVec 32 := Scalar.muli v2 c2048_i32_29
  let v47 : Index := Scalar.indexCast v46
  ![0, v47.toNat]
@[reducible] def k1_t1_loop : Scf.Loop 32 :=
  let c0_i32_33 : BitVec 32 := 0#32
  let c8_i32 : BitVec 32 := 8#32
  let v56 : BitVec 32 := Scalar.addi c0_i32_33 c8_i32
  let c1_i32_34 : BitVec 32 := 1#32
  ⟨c0_i32_33, v56, c1_i32_34⟩
def k1_off5 (d0 : Dev nD) (k1_t1 : Fin k1_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1664_i32_270 : BitVec 32 := 1664#32
  let v362 : BitVec 32 := Scalar.muli v2 c1664_i32_270
  let c0_i32_33 : BitVec 32 := 0#32
  let c1_i32_34 : BitVec 32 := 1#32
  let arg14 : BitVec 32 := Scf.iv c0_i32_33 c1_i32_34 k1_t1
  let c208_i32 : BitVec 32 := 208#32
  let v363 : BitVec 32 := Scalar.muli arg14 c208_i32
  let v364 : BitVec 32 := Scalar.addi v362 v363
  let v365 : Index := Scalar.indexCast v364
  let c0_271 : Index := 0#32
  ![v365.toNat, 0]
def k1_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_272 : BitVec 32 := 2048#32
  let v367 : BitVec 32 := Scalar.muli v2 c2048_i32_272
  let v368 : Index := Scalar.indexCast v367
  let c0_273 : Index := 0#32
  ![v368.toNat, 0]
def k1_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_58 : BitVec 32 := 2048#32
  let v77 : BitVec 32 := Scalar.muli v5 c2048_i32_58
  let c0_i32_64 : BitVec 32 := 0#32
  ![v77.toNat, 0]
def k1_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_62 : BitVec 32 := 1#32
  let v79 : BitVec 32 := Scalar.muli v7 c1_i32_62
  let v80 : BitVec 32 := Scalar.addi c0_i32_63 v79
  v80.toNat
def k1_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c2048_i32_59 : BitVec 32 := 2048#32
  let v78 : BitVec 32 := Scalar.muli v7 c2048_i32_59
  let c512_i32 : BitVec 32 := 512#32
  ![v78.toNat, 512]
def k1_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_67 : BitVec 32 := 1#32
  let v87 : BitVec 32 := Scalar.muli v5 c1_i32_67
  let v88 : BitVec 32 := Scalar.addi c0_i32_68 v87
  v88.toNat
def k1_off9 (d0 : Dev nD) : Fin 2 → Nat :=
  let c0_71 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_70 : BitVec 32 := 2048#32
  let v95 : BitVec 32 := Scalar.muli v5 c2048_i32_70
  let v96 : Index := Scalar.indexCast v95
  ![0, v96.toNat]
@[reducible] def k1_t2_loop : Scf.Loop 32 :=
  let c0_i32_74 : BitVec 32 := 0#32
  let c8_i32_75 : BitVec 32 := 8#32
  let v105 : BitVec 32 := Scalar.addi c0_i32_74 c8_i32_75
  let c1_i32_76 : BitVec 32 := 1#32
  ⟨c0_i32_74, v105, c1_i32_76⟩
def k1_off10 (d0 : Dev nD) (k1_t2 : Fin k1_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1664_i32_270 : BitVec 32 := 1664#32
  let v362 : BitVec 32 := Scalar.muli v2 c1664_i32_270
  let c0_i32_74 : BitVec 32 := 0#32
  let c1_i32_76 : BitVec 32 := 1#32
  let arg14 : BitVec 32 := Scf.iv c0_i32_74 c1_i32_76 k1_t2
  let c208_i32 : BitVec 32 := 208#32
  let v363 : BitVec 32 := Scalar.muli arg14 c208_i32
  let v364 : BitVec 32 := Scalar.addi v362 v363
  let v365 : Index := Scalar.indexCast v364
  let c0_271 : Index := 0#32
  ![v365.toNat, 0]
def k1_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_272 : BitVec 32 := 2048#32
  let v367 : BitVec 32 := Scalar.muli v5 c2048_i32_272
  let v368 : Index := Scalar.indexCast v367
  let c0_273 : Index := 0#32
  ![v368.toNat, 0]
def k1_off12 (d0 : Dev nD) (c1_i32_3 : BitVec 32) : Fin 2 → Nat :=
  let c0_79 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c2048_i32_78 : BitVec 32 := 2048#32
  let v106 : BitVec 32 := Scalar.muli v7 c2048_i32_78
  let v107 : Index := Scalar.indexCast v106
  ![0, v107.toNat]
@[reducible] def k1_t3_loop : Scf.Loop 32 :=
  let c0_i32_82 : BitVec 32 := 0#32
  let c8_i32_83 : BitVec 32 := 8#32
  let v116 : BitVec 32 := Scalar.addi c0_i32_82 c8_i32_83
  let c1_i32_84 : BitVec 32 := 1#32
  ⟨c0_i32_82, v116, c1_i32_84⟩
def k1_off13 (d0 : Dev nD) (k1_t3 : Fin k1_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1664_i32_270 : BitVec 32 := 1664#32
  let v362 : BitVec 32 := Scalar.muli v2 c1664_i32_270
  let c0_i32_82 : BitVec 32 := 0#32
  let c1_i32_84 : BitVec 32 := 1#32
  let arg14 : BitVec 32 := Scf.iv c0_i32_82 c1_i32_84 k1_t3
  let c208_i32 : BitVec 32 := 208#32
  let v363 : BitVec 32 := Scalar.muli arg14 c208_i32
  let v364 : BitVec 32 := Scalar.addi v362 v363
  let v365 : Index := Scalar.indexCast v364
  let c0_271 : Index := 0#32
  ![v365.toNat, 0]
def k1_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c2048_i32_272 : BitVec 32 := 2048#32
  let v367 : BitVec 32 := Scalar.muli v7 c2048_i32_272
  let v368 : Index := Scalar.indexCast v367
  let c0_273 : Index := 0#32
  ![v368.toNat, 0]
@[reducible] def k1_t4_loop : Scf.Loop 32 :=
  let c0_i32_112 : BitVec 32 := 0#32
  let c8_i32_113 : BitVec 32 := 8#32
  let v147 : BitVec 32 := Scalar.addi c0_i32_112 c8_i32_113
  let c1_i32_114 : BitVec 32 := 1#32
  ⟨c0_i32_112, v147, c1_i32_114⟩
def k1_off15 (d0 : Dev nD) (k1_t4 : Fin k1_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1664_i32_270 : BitVec 32 := 1664#32
  let v362 : BitVec 32 := Scalar.muli v2 c1664_i32_270
  let c0_i32_112 : BitVec 32 := 0#32
  let c1_i32_114 : BitVec 32 := 1#32
  let arg14 : BitVec 32 := Scf.iv c0_i32_112 c1_i32_114 k1_t4
  let c208_i32 : BitVec 32 := 208#32
  let v363 : BitVec 32 := Scalar.muli arg14 c208_i32
  let v364 : BitVec 32 := Scalar.addi v362 v363
  let v365 : Index := Scalar.indexCast v364
  let c0_271 : Index := 0#32
  ![v365.toNat, 0]
def k1_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c2048_i32_272 : BitVec 32 := 2048#32
  let v367 : BitVec 32 := Scalar.muli v9 c2048_i32_272
  let v368 : Index := Scalar.indexCast v367
  let c0_273 : Index := 0#32
  ![v368.toNat, 0]
@[reducible] def k1_t5_loop : Scf.Loop 32 :=
  let c0_i32_116 : BitVec 32 := 0#32
  let c4_i32_117 : BitVec 32 := 4#32
  let v148 : BitVec 32 := Scalar.addi c0_i32_116 c4_i32_117
  let c1_i32_118 : BitVec 32 := 1#32
  ⟨c0_i32_116, v148, c1_i32_118⟩
def k1_off17 (k1_t5 : Fin k1_t5_loop.trips) : Fin 3 → Nat :=
  let c0_i32_116 : BitVec 32 := 0#32
  let c1_i32_118 : BitVec 32 := 1#32
  let arg14 : BitVec 32 := Scf.iv c0_i32_116 c1_i32_118 k1_t5
  let c0_i32_269 : BitVec 32 := 0#32
  let c0_i32_270 : BitVec 32 := 0#32
  ![arg14.toNat, 0, 0]
def k1_off18 (d0 : Dev nD) (k1_t5 : Fin k1_t5_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1664_i32_275 : BitVec 32 := 1664#32
  let v354 : BitVec 32 := Scalar.muli v2 c1664_i32_275
  let c0_i32_116 : BitVec 32 := 0#32
  let c1_i32_118 : BitVec 32 := 1#32
  let arg14 : BitVec 32 := Scf.iv c0_i32_116 c1_i32_118 k1_t5
  let c208_i32 : BitVec 32 := 208#32
  let v355 : BitVec 32 := Scalar.muli arg14 c208_i32
  let v356 : BitVec 32 := Scalar.addi v354 v355
  let v357 : Index := Scalar.indexCast v356
  let c0_276 : Index := 0#32
  ![v357.toNat, 0]
def k1_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1664_i32_120 : BitVec 32 := 1664#32
  let v149 : BitVec 32 := Scalar.muli v2 c1664_i32_120
  let c0_i32_126 : BitVec 32 := 0#32
  ![v149.toNat, 0]
def k1_dev7 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_124 : BitVec 32 := 1#32
  let v151 : BitVec 32 := Scalar.muli v7 c1_i32_124
  let v152 : BitVec 32 := Scalar.addi c0_i32_125 v151
  v152.toNat
def k1_dev8 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_130 : BitVec 32 := 1#32
  let v159 : BitVec 32 := Scalar.muli v5 c1_i32_130
  let v160 : BitVec 32 := Scalar.addi c0_i32_131 v159
  v160.toNat
@[reducible] def k1_t6_loop : Scf.Loop 32 :=
  let c4_i32_134 : BitVec 32 := 4#32
  let c4_i32_135 : BitVec 32 := 4#32
  let v167 : BitVec 32 := Scalar.addi c4_i32_134 c4_i32_135
  let c1_i32_136 : BitVec 32 := 1#32
  ⟨c4_i32_134, v167, c1_i32_136⟩
def k1_off20 (k1_t6 : Fin k1_t6_loop.trips) : Fin 3 → Nat :=
  let c4_i32_134 : BitVec 32 := 4#32
  let c1_i32_136 : BitVec 32 := 1#32
  let arg14 : BitVec 32 := Scf.iv c4_i32_134 c1_i32_136 k1_t6
  let c0_i32_269 : BitVec 32 := 0#32
  let c0_i32_270 : BitVec 32 := 0#32
  ![arg14.toNat, 0, 0]
def k1_off21 (d0 : Dev nD) (k1_t6 : Fin k1_t6_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1664_i32_275 : BitVec 32 := 1664#32
  let v354 : BitVec 32 := Scalar.muli v2 c1664_i32_275
  let c4_i32_134 : BitVec 32 := 4#32
  let c1_i32_136 : BitVec 32 := 1#32
  let arg14 : BitVec 32 := Scf.iv c4_i32_134 c1_i32_136 k1_t6
  let c208_i32 : BitVec 32 := 208#32
  let v355 : BitVec 32 := Scalar.muli arg14 c208_i32
  let v356 : BitVec 32 := Scalar.addi v354 v355
  let v357 : Index := Scalar.indexCast v356
  let c0_276 : Index := 0#32
  ![v357.toNat, 0]
def k1_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1664_i32_138 : BitVec 32 := 1664#32
  let v168 : BitVec 32 := Scalar.muli v2 c1664_i32_138
  let c832_i32 : BitVec 32 := 832#32
  let v169 : BitVec 32 := Scalar.addi v168 c832_i32
  let c0_i32_145 : BitVec 32 := 0#32
  ![v169.toNat, 0]
def k1_dev9 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_143 : BitVec 32 := 1#32
  let v172 : BitVec 32 := Scalar.muli v7 c1_i32_143
  let v173 : BitVec 32 := Scalar.addi c0_i32_144 v172
  v173.toNat
def k1_dev10 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_149 : BitVec 32 := 1#32
  let v180 : BitVec 32 := Scalar.muli v5 c1_i32_149
  let v181 : BitVec 32 := Scalar.addi c0_i32_150 v180
  v181.toNat
def k1_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1664_i32_210 : BitVec 32 := 1664#32
  let v253 : BitVec 32 := Scalar.muli v5 c1664_i32_210
  let c0_i32_216 : BitVec 32 := 0#32
  ![v253.toNat, 0]
def k1_dev11 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_214 : BitVec 32 := 1#32
  let v255 : BitVec 32 := Scalar.muli v7 c1_i32_214
  let v256 : BitVec 32 := Scalar.addi c0_i32_215 v255
  v256.toNat
def k1_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1664_i32_211 : BitVec 32 := 1664#32
  let v254 : BitVec 32 := Scalar.muli v7 c1664_i32_211
  let c512_i32_221 : BitVec 32 := 512#32
  ![v254.toNat, 512]
def k1_dev12 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_219 : BitVec 32 := 1#32
  let v263 : BitVec 32 := Scalar.muli v5 c1_i32_219
  let v264 : BitVec 32 := Scalar.addi c0_i32_220 v263
  v264.toNat
def k1_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1664_i32_226 : BitVec 32 := 1664#32
  let v283 : BitVec 32 := Scalar.muli v5 c1664_i32_226
  let v284 : Index := Scalar.indexCast v283
  let c0_227 : Index := 0#32
  ![v284.toNat, 0]
def k1_off26 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1664_i32_234 : BitVec 32 := 1664#32
  let v302 : BitVec 32 := Scalar.muli v7 c1664_i32_234
  let v303 : Index := Scalar.indexCast v302
  let c0_235 : Index := 0#32
  ![v303.toNat, 0]
abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x8192 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x8192 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S8192x1024 : Shape := ⟨2, ![8192, 1024]⟩
abbrev S8192x1 : Shape := ⟨2, ![8192, 1]⟩
abbrev S32x1024x1024 : Shape := ⟨3, ![32, 1024, 1024]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩
abbrev S8192x32x1024 : Shape := ⟨3, ![8192, 32, 1024]⟩
abbrev S32 : Shape := ⟨1, ![32]⟩
abbrev S1x32 : Shape := ⟨2, ![1, 32]⟩
abbrev S8192x32 : Shape := ⟨2, ![8192, 32]⟩
abbrev S8192x32x1 : Shape := ⟨3, ![8192, 32, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1, .i32⟩
  | .hbm, ⟨2, _⟩ => ⟨S32x1024x1024, .f32⟩
  | .hbm, ⟨3, _⟩ => ⟨S8192, .i32⟩
  | .hbm, ⟨4, _⟩ => ⟨S8192, .i32⟩
  | .hbm, ⟨5, _⟩ => ⟨S1x8192, .i32⟩
  | .hbm, ⟨6, _⟩ => ⟨S8192x1, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .i1⟩
  | .hbm, ⟨16, _⟩ => ⟨S8192x8192, .i32⟩
  | .hbm, ⟨17, _⟩ => ⟨S_, .i32⟩
  | .hbm, ⟨18, _⟩ => ⟨S8192, .i32⟩
  | .hbm, ⟨19, _⟩ => ⟨S8192x32x1024, .f32⟩
  | .hbm, ⟨20, _⟩ => ⟨S8192x1, .i32⟩
  | .hbm, ⟨21, _⟩ => ⟨S32, .i32⟩
  | .hbm, ⟨22, _⟩ => ⟨S1x32, .i32⟩
  | .hbm, ⟨23, _⟩ => ⟨S8192x32, .i32⟩
  | .hbm, ⟨24, _⟩ => ⟨S8192x32, .i32⟩
  | .hbm, ⟨25, _⟩ => ⟨S8192x32, .i1⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S8192x1, .i1⟩
  | .hbm, ⟨30, _⟩ => ⟨S8192x32, .i1⟩
  | .hbm, ⟨31, _⟩ => ⟨S8192x32, .i1⟩
  | .hbm, ⟨32, _⟩ => ⟨S8192x32x1, .i1⟩
  | .hbm, ⟨33, _⟩ => ⟨S_, .f32⟩
  | .hbm, ⟨34, _⟩ => ⟨S_, .f32⟩
  | .hbm, ⟨35, _⟩ => ⟨S8192x32x1024, .i1⟩
  | .hbm, ⟨36, _⟩ => ⟨S8192x32x1024, .f32⟩
  | .hbm, ⟨37, _⟩ => ⟨S8192x32x1024, .f32⟩
  | .hbm, ⟨38, _⟩ => ⟨S_, .f32⟩
  | .hbm, ⟨39, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Net.lean ====
/-
  The exchange between the four devices, written down once for both calls and for any float values `F`.

  The devices stand on a ring; `lf c` and `rt c` are the neighbours of device `c`, `op c` the device opposite.
  Call 0 passes the routes once around the ring to the right (three hops). Call 1 passes the activations (`xM`) and
  then the results of the experts (`yM`) to both neighbours, and on to the opposite device in two halves of columns.

  Who signals whom, and what is handed over:
  * barrier of call 0 / call 1 (two units): each neighbour signals it once. The unit hands the receiver the parts of
    the SIGNALLER's landing buffer that the receiver's own copies will fill, and says that the signaller's receive
    semaphores for them are at their first round.
  * a send semaphore gives back the share of the source that the copy read;
  * a receive semaphore gives the landing part, holding the rows the contents below name.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic

@[expose] public section

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The right neighbour. -/
def rt (c : Dev nD) : Dev nD := ⟨(c.val + 1) % 4, Nat.mod_lt _ (by decide)⟩
/-- The left neighbour. -/
def lf (c : Dev nD) : Dev nD := ⟨(c.val + 3) % 4, Nat.mod_lt _ (by decide)⟩
/-- The device opposite. -/
def op (c : Dev nD) : Dev nD := ⟨(c.val + 2) % 4, Nat.mod_lt _ (by decide)⟩

theorem rt_lf (c : Dev nD) : rt (lf c) = c := by revert c; decide
theorem lf_rt (c : Dev nD) : lf (rt c) = c := by revert c; decide
theorem lf_lf (c : Dev nD) : lf (lf c) = op c := by revert c; decide
theorem rt_rt (c : Dev nD) : rt (rt c) = op c := by revert c; decide
theorem op_rt (c : Dev nD) : op (rt c) = lf c := by revert c; decide
theorem op_lf (c : Dev nD) : op (lf c) = rt c := by revert c; decide

/-! ## The resource algebra -/

/-- The pipeline's copy of the rounds and the exchange's own. -/
abbrev UU : Type := UR sig nD τ × URounds (GSem nD τ sig) (Fin 2)

local notation "𝕄" => MT nD τ sig Unit (Elt F) ℕ UU ℕ

abbrev EP : Emb (UR sig nD τ) (MT nD τ sig Unit (Elt F) ℕ UU ℕ) := embL
abbrev ER : Emb (URounds (GSem nD τ sig) (Fin 2)) (MT nD τ sig Unit (Elt F) ℕ UU ℕ) := embR

abbrev 𝒱₀ : Variants := Variants.none

/-! ## The buffers and their parts -/

abbrev rM : Memref sig .tc .vmem S64x128 .i32 := Memref.whole cc0_stg1_0
abbrev xM : Memref sig .tc .vmem S8192x1024 .bf16 := Memref.whole cc1_scratch0
abbrev yM : Memref sig .tc .vmem S6656x1024 .bf16 := Memref.whole cc1_scratch1
abbrev wM : Memref sig .tc .vmem S1024x1024 .f32 := Memref.whole cc1_scratch2
abbrev eM : Memref sig .tc .hbm S8x1024x1024 .f32 := Memref.whole main_arg2

/-- Rows of device `d` in the gathered routes. -/
def rS (d : Dev nD) : Finset S64x128.Idx := Finset.univ.filter fun i => (i 0).val / 16 = d.val
/-- Rows of device `d` in the gathered activations; the left and the right half of their columns. -/
def xS (d : Dev nD) : Finset S8192x1024.Idx := Finset.univ.filter fun i => (i 0).val / 2048 = d.val
def xSl (d : Dev nD) : Finset S8192x1024.Idx := Finset.univ.filter fun i => (i 0).val / 2048 = d.val ∧ (i 1).val / 512 = 0
def xSr (d : Dev nD) : Finset S8192x1024.Idx := Finset.univ.filter fun i => (i 0).val / 2048 = d.val ∧ (i 1).val / 512 = 1
/-- Rows of device `d` in the expert results; their upper and lower half; the left and the right half of columns. -/
def yS (d : Dev nD) : Finset S6656x1024.Idx := Finset.univ.filter fun i => (i 0).val / 1664 = d.val
def ySu (d : Dev nD) : Finset S6656x1024.Idx := Finset.univ.filter fun i => (i 0).val / 1664 = d.val ∧ (i 0).val % 1664 / 832 = 0
def ySv (d : Dev nD) : Finset S6656x1024.Idx := Finset.univ.filter fun i => (i 0).val / 1664 = d.val ∧ (i 0).val % 1664 / 832 = 1
def ySl (d : Dev nD) : Finset S6656x1024.Idx := Finset.univ.filter fun i => (i 0).val / 1664 = d.val ∧ (i 1).val / 512 = 0
def ySr (d : Dev nD) : Finset S6656x1024.Idx := Finset.univ.filter fun i => (i 0).val / 1664 = d.val ∧ (i 1).val / 512 = 1

abbrev rP (c : Dev nD) (B : Finset S64x128.Idx) (q : PosShare TreeShare) (f : Vec F S64x128 .i32) : sProp 𝕄 :=
  (c : Thread nD τ).loc cc0_stg1_0 ↦[B]{q} f
abbrev xP (c : Dev nD) (B : Finset S8192x1024.Idx) (q : PosShare TreeShare) (f : Vec F S8192x1024 .bf16) : sProp 𝕄 :=
  (c : Thread nD τ).loc cc1_scratch0 ↦[B]{q} f
abbrev yP (c : Dev nD) (B : Finset S6656x1024.Idx) (q : PosShare TreeShare) (f : Vec F S6656x1024 .bf16) : sProp 𝕄 :=
  (c : Thread nD τ).loc cc1_scratch1 ↦[B]{q} f
abbrev wP (c : Dev nD) (f : Vec F S1024x1024 .f32) : sProp 𝕄 :=
  (c : Thread nD τ).loc cc1_scratch2 ↦{fullShare} f
abbrev eP (c : Dev nD) (B : Finset S8x1024x1024.Idx) (f : Vec F S8x1024x1024 .f32) : sProp 𝕄 :=
  (c : Thread nD τ).loc main_arg2 ↦[B]{fullShare} f

/-- The parts as the copies name them. -/
abbrev vR0 (c : Dev nD) := rM.slice (Rect.unit (s := S64x128) (k0_off2 c 0#32) S16x128.size (k0_off2_inb c 0)) (fun _ => rfl)
abbrev vR1 (c : Dev nD) := rM.slice (Rect.unit (s := S64x128) (k0_off2 c 1#32) S16x128.size (k0_off2_inb c 1)) (fun _ => rfl)
abbrev vR2 (c : Dev nD) := rM.slice (Rect.unit (s := S64x128) (k0_off2 c 2#32) S16x128.size (k0_off2_inb c 2)) (fun _ => rfl)
abbrev vX (c : Dev nD) := xM.slice (Rect.unit (s := S8192x1024) (k1_off2 c) S2048x1024.size (k1_off2_inb c)) (fun _ => rfl)
abbrev vXl (c : Dev nD) := xM.slice (Rect.unit (s := S8192x1024) (k1_off7 c) S2048x512.size (k1_off7_inb c)) (fun _ => rfl)
abbrev vXr (c : Dev nD) := xM.slice (Rect.unit (s := S8192x1024) (k1_off8 c) S2048x512.size (k1_off8_inb c)) (fun _ => rfl)
abbrev vYu (c : Dev nD) := yM.slice (Rect.unit (s := S6656x1024) (k1_off19 c) S832x1024.size (k1_off19_inb c)) (fun _ => rfl)
abbrev vYv (c : Dev nD) := yM.slice (Rect.unit (s := S6656x1024) (k1_off22 c) S832x1024.size (k1_off22_inb c)) (fun _ => rfl)
abbrev vYl (c : Dev nD) := yM.slice (Rect.unit (s := S6656x1024) (k1_off23 c) S1664x512.size (k1_off23_inb c)) (fun _ => rfl)
abbrev vYr (c : Dev nD) := yM.slice (Rect.unit (s := S6656x1024) (k1_off24 c) S1664x512.size (k1_off24_inb c)) (fun _ => rfl)
/-- Expert `k` of the device's weights. -/
abbrev vE (k : Fin 4) := (eM.slice (Rect.unit (s := S8x1024x1024) (k1_off17 k) S1x1024x1024.size (k1_off17_inb k)) (fun _ => rfl)).squeeze S1024x1024 squeezes_S1x1024x1024_S1024x1024
abbrev vE' (k : Fin 4) := (eM.slice (Rect.unit (s := S8x1024x1024) (k1_off20 k) S1x1024x1024.size (k1_off20_inb k)) (fun _ => rfl)).squeeze S1024x1024 squeezes_S1x1024x1024_S1024x1024

theorem mem_rX (off size : Fin 2 → ℕ) (inb) (i : S8192x1024.Idx) :
    i ∈ (xM.access (Rect.unit (s := S8192x1024) off size inb)).set
      ↔ (off 0 ≤ (i 0).val ∧ (i 0).val < off 0 + size 0) ∧ (off 1 ≤ (i 1).val ∧ (i 1).val < off 1 + size 1) := by
  rw [show (xM.access (Rect.unit off size inb)).set = (Rect.unit off size inb).set from View.set_slice_whole _ _, Rect.mem_set_unit]
  exact Fin.forall_fin_two
theorem mem_rY (off size : Fin 2 → ℕ) (inb) (i : S6656x1024.Idx) :
    i ∈ (yM.access (Rect.unit (s := S6656x1024) off size inb)).set
      ↔ (off 0 ≤ (i 0).val ∧ (i 0).val < off 0 + size 0) ∧ (off 1 ≤ (i 1).val ∧ (i 1).val < off 1 + size 1) := by
  rw [show (yM.access (Rect.unit off size inb)).set = (Rect.unit off size inb).set from View.set_slice_whole _ _, Rect.mem_set_unit]
  exact Fin.forall_fin_two
theorem mem_rR (off size : Fin 2 → ℕ) (inb) (i : S64x128.Idx) :
    i ∈ (rM.access (Rect.unit (s := S64x128) off size inb)).set
      ↔ (off 0 ≤ (i 0).val ∧ (i 0).val < off 0 + size 0) ∧ (off 1 ≤ (i 1).val ∧ (i 1).val < off 1 + size 1) := by
  rw [show (rM.access (Rect.unit off size inb)).set = (Rect.unit off size inb).set from View.set_slice_whole _ _, Rect.mem_set_unit]
  exact Fin.forall_fin_two

theorem bX (i : S8192x1024.Idx) : (i 0).val < 8192 ∧ (i 1).val < 1024 := ⟨(i 0).isLt, (i 1).isLt⟩
theorem bY (i : S6656x1024.Idx) : (i 0).val < 6656 ∧ (i 1).val < 1024 := ⟨(i 0).isLt, (i 1).isLt⟩
theorem bR (i : S64x128.Idx) : (i 0).val < 64 ∧ (i 1).val < 128 := ⟨(i 0).isLt, (i 1).isLt⟩

/-- A unit rectangle of the activations is the rows of device `d`. -/
theorem xS_of (d : Dev nD) (off) (inb) (h : off = ![2048 * d.val, 0]) :
    (xM.access (Rect.unit (s := S8192x1024) off S2048x1024.size inb)).set = xS d := by
  subst h
  ext i; have := bX i; have : d.val < 4 := d.isLt
  rw [mem_rX]
  simp only [xS, Finset.mem_filter, Finset.mem_univ, true_and, Matrix.cons_val_zero, Matrix.cons_val_one]
  omega
theorem xSl_of (d : Dev nD) (off) (inb) (h : off = ![2048 * d.val, 0]) :
    (xM.access (Rect.unit (s := S8192x1024) off S2048x512.size inb)).set = xSl d := by
  subst h
  ext i; have := bX i; have : d.val < 4 := d.isLt
  rw [mem_rX]
  simp only [xSl, Finset.mem_filter, Finset.mem_univ, true_and, Matrix.cons_val_zero, Matrix.cons_val_one]
  omega
theorem xSr_of (d : Dev nD) (off) (inb) (h : off = ![2048 * d.val, 512]) :
    (xM.access (Rect.unit (s := S8192x1024) off S2048x512.size inb)).set = xSr d := by
  subst h
  ext i; have := bX i; have : d.val < 4 := d.isLt
  rw [mem_rX]
  simp only [xSr, Finset.mem_filter, Finset.mem_univ, true_and, Matrix.cons_val_zero, Matrix.cons_val_one]
  omega
theorem yS_of (d : Dev nD) (off) (inb) (h : off = ![1664 * d.val, 0]) :
    (yM.access (Rect.unit (s := S6656x1024) off S1664x1024.size inb)).set = yS d := by
  subst h
  ext i; have := bY i; have : d.val < 4 := d.isLt
  rw [mem_rY]
  simp only [yS, Finset.mem_filter, Finset.mem_univ, true_and, Matrix.cons_val_zero, Matrix.cons_val_one]
  omega
theorem ySu_of (d : Dev nD) (off) (inb) (h : off = ![1664 * d.val, 0]) :
    (yM.access (Rect.unit (s := S6656x1024) off S832x1024.size inb)).set = ySu d := by
  subst h
  ext i; have := bY i; have : d.val < 4 := d.isLt
  rw [mem_rY]
  simp only [ySu, Finset.mem_filter, Finset.mem_univ, true_and, Matrix.cons_val_zero, Matrix.cons_val_one]
  omega
theorem ySv_of (d : Dev nD) (off) (inb) (h : off = ![1664 * d.val + 832, 0]) :
    (yM.access (Rect.unit (s := S6656x1024) off S832x1024.size inb)).set = ySv d := by
  subst h
  ext i; have := bY i; have : d.val < 4 := d.isLt
  rw [mem_rY]
  simp only [ySv, Finset.mem_filter, Finset.mem_univ, true_and, Matrix.cons_val_zero, Matrix.cons_val_one]
  omega
theorem ySl_of (d : Dev nD) (off) (inb) (h : off = ![1664 * d.val, 0]) :
    (yM.access (Rect.unit (s := S6656x1024) off S1664x512.size inb)).set = ySl d := by
  subst h
  ext i; have := bY i; have : d.val < 4 := d.isLt
  rw [mem_rY]
  simp only [ySl, Finset.mem_filter, Finset.mem_univ, true_and, Matrix.cons_val_zero, Matrix.cons_val_one]
  omega
theorem ySr_of (d : Dev nD) (off) (inb) (h : off = ![1664 * d.val, 512]) :
    (yM.access (Rect.unit (s := S6656x1024) off S1664x512.size inb)).set = ySr d := by
  subst h
  ext i; have := bY i; have : d.val < 4 := d.isLt
  rw [mem_rY]
  simp only [ySr, Finset.mem_filter, Finset.mem_univ, true_and, Matrix.cons_val_zero, Matrix.cons_val_one]
  omega
theorem rS_of (d : Dev nD) (off) (inb) (h : off = ![16 * d.val, 0]) :
    (rM.access (Rect.unit (s := S64x128) off S16x128.size inb)).set = rS d := by
  subst h
  ext i; have := bR i; have : d.val < 4 := d.isLt
  rw [mem_rR]
  simp only [rS, Finset.mem_filter, Finset.mem_univ, true_and, Matrix.cons_val_zero, Matrix.cons_val_one]
  omega

/-! The parts the copies name, as those sets. -/
theorem set_vR0 (c : Dev nD) : (vR0 c).view.set = rS c := rS_of c _ _ (by revert c; decide)
theorem set_vR1 (c : Dev nD) : (vR1 c).view.set = rS (lf c) := rS_of (lf c) _ _ (by revert c; decide)
theorem set_vR2 (c : Dev nD) : (vR2 c).view.set = rS (op c) := rS_of (op c) _ _ (by revert c; decide)
theorem set_vX (c : Dev nD) : (vX c).view.set = xS c := xS_of c _ _ (by revert c; decide)
theorem set_vXl (c : Dev nD) : (vXl c).view.set = xSl (lf c) := xSl_of (lf c) _ _ (by revert c; decide)
theorem set_vXr (c : Dev nD) : (vXr c).view.set = xSr (rt c) := xSr_of (rt c) _ _ (by revert c; decide)
theorem set_vYu (c : Dev nD) : (vYu c).view.set = ySu c := ySu_of c _ _ (by revert c; decide)
theorem set_vYv (c : Dev nD) : (vYv c).view.set = ySv c := ySv_of c _ _ (by revert c; decide)
theorem set_vYl (c : Dev nD) : (vYl c).view.set = ySl (lf c) := ySl_of (lf c) _ _ (by revert c; decide)
theorem set_vYr (c : Dev nD) : (vYr c).view.set = ySr (rt c) := ySr_of (rt c) _ _ (by revert c; decide)

/-! ## The contents

    What each buffer holds, as a function of what every device brings to the two calls. -/

/-- What the devices bring: their routes (call 0); their activations, all routes, all ranks, their tokens' slots and
    their experts' weights (call 1). -/
structure Inp (F : FTy → Type) where
  ro : Dev nD → Vec F S16x128 .i32
  xx : Dev nD → Vec F S2048x1024 .bf16
  rr : Dev nD → Vec F S1x8192 .i32
  rk : Dev nD → Vec F S1x8192 .i32
  gm : Dev nD → Vec F S2048x1 .i32
  ew : Dev nD → Vec F S8x1024x1024 .f32

/-- `n` steps of a counted loop of `N` trips. -/
def steps {α : Type} {N : ℕ} (st : Fin N → α → α) (a : α) : ℕ → α
  | 0 => a
  | k + 1 => if h : k < N then st ⟨k, h⟩ (steps st a k) else steps st a k

theorem steps_succ {α : Type} {N : ℕ} (st : Fin N → α → α) (a : α) (k : Fin N) : steps st a (k.val + 1) = st k (steps st a k.val) :=
  dif_pos k.isLt

/-- The device whose rows these are. -/
def dR (i : S64x128.Idx) : Dev nD := ⟨(i 0).val / 16, by have := (bR i).1; show _ < 4; omega⟩
def dX (i : S8192x1024.Idx) : Dev nD := ⟨(i 0).val / 2048, by have := (bX i).1; show _ < 4; omega⟩
def dY (i : S6656x1024.Idx) : Dev nD := ⟨(i 0).val / 1664, by have := (bY i).1; show _ < 4; omega⟩

variable (I : Inp F)

def zR : Vec F S64x128 .i32 := fun _ => (0#32 : BitVec 32)
def zX : Vec F S8192x1024 .bf16 := fun _ => Scalar.ofBits .bf16 0x0000#16
def zY : Vec F S6656x1024 .bf16 := fun _ => Scalar.ofBits .bf16 0x0000#16

/-- All routes: every device's sixteen rows as it stored them. -/
def RG : Vec F S64x128 .i32 := fun i =>
  (rM.access (Rect.unit (s := S64x128) (k0_off1 (dR i)) S16x128.size (k0_off1_inb (dR i)))).write (Elt F) zR (k0_pay1 (F := F) (I.ro (dR i))) Finset.univ i
/-- All activations. -/
def XG : Vec F S8192x1024 .bf16 := fun i =>
  (xM.access (Rect.unit (s := S8192x1024) (k1_off1 (dX i)) S2048x1024.size (k1_off1_inb (dX i)))).write (Elt F) zX (k1_pay2 (F := F) (I.xx (dX i))) Finset.univ i

/-! The expert results at device `c`, stage by stage. -/

abbrev rrM : Memref sig .tc .vmem S1x8192 .i32 := Memref.whole cc1_stg1_0
abbrev rkM : Memref sig .tc .vmem S1x8192 .i32 := Memref.whole cc1_stg2_0

/-- The device's number on the ring, and those of its neighbours, as the kernel computes them. -/
def w0 (c : Dev nD) : BitVec 32 := Scalar.remsi (Scalar.divsi (Dev.word c) 1#32) 4#32
def w1 (c : Dev nD) : BitVec 32 := Scalar.remsi (Scalar.subi (Scalar.addi (w0 c) 4#32) 1#32) 4#32
def w2 (c : Dev nD) : BitVec 32 := Scalar.remsi (Scalar.addi (w0 c) 1#32) 4#32
def w3 (c : Dev nD) : BitVec 32 := Scalar.remsi (Scalar.addi (w0 c) 2#32) 4#32

/-- Dispatch from the own tokens: trip `k` adds the rows of the device's expert `k` to its tile. -/
def st1 (c : Dev nD) (k : Fin k1_t1_loop.trips) (f : Vec F S6656x1024 .bf16) : Vec F S6656x1024 .bf16 :=
  (yM.access (Rect.unit (s := S6656x1024) (k1_off5 c k) S208x1024.size (k1_off5_inb c k))).write (Elt F) f
    (k1_pay4 (w0 c)
      ((rrM.access (Rect.unit (s := S1x8192) (k1_off4 c) S1x2048.size (k1_off4_inb c))).read (Elt F) (I.rr c))
      ((rkM.access (Rect.unit (s := S1x8192) (k1_off4 c) S1x2048.size (k1_off4_inb c))).read (Elt F) (I.rk c)) k
      ((yM.access (Rect.unit (s := S6656x1024) (k1_off5 c k) S208x1024.size (k1_off5_inb c k))).read (Elt F) f)
      ((xM.access (Rect.unit (s := S8192x1024) (k1_off6 c) S2048x1024.size (k1_off6_inb c))).read (Elt F) (XG I)))
    Finset.univ
/-- Dispatch from the left neighbour's tokens: trip `k` adds the rows of the device's expert `k` to its tile. -/
def st2 (c : Dev nD) (k : Fin k1_t2_loop.trips) (f : Vec F S6656x1024 .bf16) : Vec F S6656x1024 .bf16 :=
  (yM.access (Rect.unit (s := S6656x1024) (k1_off10 c k) S208x1024.size (k1_off10_inb c k))).write (Elt F) f
    (k1_pay5 (w0 c)
      ((rrM.access (Rect.unit (s := S1x8192) (k1_off9 c) S1x2048.size (k1_off9_inb c))).read (Elt F) (I.rr c))
      ((rkM.access (Rect.unit (s := S1x8192) (k1_off9 c) S1x2048.size (k1_off9_inb c))).read (Elt F) (I.rk c)) k
      ((yM.access (Rect.unit (s := S6656x1024) (k1_off10 c k) S208x1024.size (k1_off10_inb c k))).read (Elt F) f)
      ((xM.access (Rect.unit (s := S8192x1024) (k1_off11 c) S2048x1024.size (k1_off11_inb c))).read (Elt F) (XG I)))
    Finset.univ
/-- Dispatch from the right neighbour's tokens: trip `k` adds the rows of the device's expert `k` to its tile. -/
def st3 (c : Dev nD) (k : Fin k1_t3_loop.trips) (f : Vec F S6656x1024 .bf16) : Vec F S6656x1024 .bf16 :=
  (yM.access (Rect.unit (s := S6656x1024) (k1_off13 c k) S208x1024.size (k1_off13_inb c k))).write (Elt F) f
    (k1_pay6 (w0 c)
      ((rrM.access (Rect.unit (s := S1x8192) (k1_off12 c 1#32) S1x2048.size (k1_off12_inb c 0))).read (Elt F) (I.rr c))
      ((rkM.access (Rect.unit (s := S1x8192) (k1_off12 c 1#32) S1x2048.size (k1_off12_inb c 0))).read (Elt F) (I.rk c)) k
      ((yM.access (Rect.unit (s := S6656x1024) (k1_off13 c k) S208x1024.size (k1_off13_inb c k))).read (Elt F) f)
      ((xM.access (Rect.unit (s := S8192x1024) (k1_off14 c) S2048x1024.size (k1_off14_inb c))).read (Elt F) (XG I)))
    Finset.univ
/-- Dispatch from the opposite device's tokens: trip `k` adds the rows of the device's expert `k` to its tile. -/
def st4 (c : Dev nD) (k : Fin k1_t4_loop.trips) (f : Vec F S6656x1024 .bf16) : Vec F S6656x1024 .bf16 :=
  (yM.access (Rect.unit (s := S6656x1024) (k1_off15 c k) S208x1024.size (k1_off15_inb c k))).write (Elt F) f
    (k1_pay7 (w0 c)
      ((rrM.access (Rect.unit (s := S1x8192) (k1_off12 c 2#32) S1x2048.size (k1_off12_inb c 1))).read (Elt F) (I.rr c))
      ((rkM.access (Rect.unit (s := S1x8192) (k1_off12 c 2#32) S1x2048.size (k1_off12_inb c 1))).read (Elt F) (I.rk c)) k
      ((yM.access (Rect.unit (s := S6656x1024) (k1_off15 c k) S208x1024.size (k1_off15_inb c k))).read (Elt F) f)
      ((xM.access (Rect.unit (s := S8192x1024) (k1_off16 c) S2048x1024.size (k1_off16_inb c))).read (Elt F) (XG I)))
    Finset.univ
/-- The product with the weights of the first four experts: trip `k` replaces the expert's tile. -/
def st5 (c : Dev nD) (k : Fin k1_t5_loop.trips) (f : Vec F S6656x1024 .bf16) : Vec F S6656x1024 .bf16 :=
  (yM.access (Rect.unit (s := S6656x1024) (k1_off18 c k) S208x1024.size (k1_off18_inb c k))).write (Elt F) f
    (k1_pay8 ((vE k).view.read (Elt F) (I.ew c))
      ((yM.access (Rect.unit (s := S6656x1024) (k1_off18 c k) S208x1024.size (k1_off18_inb c k))).read (Elt F) f))
    Finset.univ
/-- The product with the weights of the last four experts: trip `k` replaces the expert's tile. -/
def st6 (c : Dev nD) (k : Fin k1_t6_loop.trips) (f : Vec F S6656x1024 .bf16) : Vec F S6656x1024 .bf16 :=
  (yM.access (Rect.unit (s := S6656x1024) (k1_off21 c k) S208x1024.size (k1_off21_inb c k))).write (Elt F) f
    (k1_pay9 ((vE' k).view.read (Elt F) (I.ew c))
      ((yM.access (Rect.unit (s := S6656x1024) (k1_off21 c k) S208x1024.size (k1_off21_inb c k))).read (Elt F) f))
    Finset.univ

/-- The device's rows cleared. -/
def Y0 (c : Dev nD) : Vec F S6656x1024 .bf16 :=
  (yM.access (Rect.unit (s := S6656x1024) (k1_off3 c) S1664x1024.size (k1_off3_inb c))).write (Elt F) zY (k1_pay3 (F := F)) Finset.univ
def Y1 (c : Dev nD) : Vec F S6656x1024 .bf16 := steps (st1 I c) (Y0 c) 8
def Y2 (c : Dev nD) : Vec F S6656x1024 .bf16 := steps (st2 I c) (Y1 I c) 8
def Y3 (c : Dev nD) : Vec F S6656x1024 .bf16 := steps (st3 I c) (Y2 I c) 8
def Y4 (c : Dev nD) : Vec F S6656x1024 .bf16 := steps (st4 I c) (Y3 I c) 8
/-- The upper half of the tiles multiplied, and then all of them. -/
def Y5 (c : Dev nD) : Vec F S6656x1024 .bf16 := steps (st5 I c) (Y4 I c) 4
def Y6 (c : Dev nD) : Vec F S6656x1024 .bf16 := steps (st6 I c) (Y5 I c) 4

/-- All expert results: of every device the upper half as it was sent first, the lower half as it was sent second. -/
def YG : Vec F S6656x1024 .bf16 := fun i =>
  if (i 0).val % 1664 / 832 = 0 then Y5 I (dY i) i else Y6 I (dY i) i

/-- The results read for the combination. -/
def ybo (c : Dev nD) : Vec F S1664x1024 .bf16 :=
  (yM.access (Rect.unit (s := S6656x1024) (k1_off3 c) S1664x1024.size (k1_off3_inb c))).read (Elt F) (YG I)
def ybl (c : Dev nD) : Vec F S1664x1024 .bf16 :=
  (yM.access (Rect.unit (s := S6656x1024) (k1_off25 c) S1664x1024.size (k1_off25_inb c))).read (Elt F) (YG I)
def ybr (c : Dev nD) : Vec F S1664x1024 .bf16 :=
  (yM.access (Rect.unit (s := S6656x1024) (k1_off26 c 1#32) S1664x1024.size (k1_off26_inb c 0))).read (Elt F) (YG I)
def ybp (c : Dev nD) : Vec F S1664x1024 .bf16 :=
  (yM.access (Rect.unit (s := S6656x1024) (k1_off26 c 2#32) S1664x1024.size (k1_off26_inb c 1))).read (Elt F) (YG I)

/-- The output, stage by stage: the device's own experts, the left's, the right's, the opposite's. -/
def slots16 (c : Dev nD) : IVec S2048x1 16 := k1_pay10 (F := F) (I.gm c)
def iota16 : IVec S2048x1664 16 := iota .tc S2048x1664 16 [1] iota_S2048x1664_d1_w16
def o1 (c : Dev nD) : Vec F S2048x1024 .bf16 := k1_pay12 (w0 c) (I.gm c) (k1_pay11 (F := F)) (ybo I c)
def o2 (c : Dev nD) : Vec F S2048x1024 .bf16 := k1_pay13 (w1 c) (slots16 I c) iota16 (o1 I c) (ybl I c)
def o3 (c : Dev nD) : Vec F S2048x1024 .bf16 := k1_pay14 (w2 c) (slots16 I c) iota16 (o2 I c) (ybr I c)
def OUT (c : Dev nD) : Vec F S2048x1024 .bf16 := k1_pay1 (k1_pay15 (F := F) (w3 c) (slots16 I c) iota16) (o3 I c) (ybp I c)

end Cert.KernelIdeal.Net
-- ==== Proof.Sched.lean ====
/-
  The schedule of the exchange (Proof/Net.lean says it in words): for every semaphore that a copy or a signal raises, who
  pays it, how much, and what the payment hands over; what every device owes at launch, in the order in which it pays;
  the levels that make every wait admissible; and one lemma per kind of step.
-/
module

public import proofs.«01_k».proof.Proof.Net

@[expose] public section

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## Cells, shares, amounts -/

abbrev cl (c : Dev nD) (s : SemLoc sig) : GSem nD τ sig := ((c : Thread nD τ), s)
abbrev dc (c : Dev nD) (i : DmaSem sig) : GSem nD τ sig := ((c : Thread nD τ), .dma i)
abbrev bc (c : Dev nD) (i : Sem sig) : GSem nD τ sig := ((c : Thread nD τ), .reg i)

abbrev qL : PosShare TreeShare := fullShare.left
abbrev qR : PosShare TreeShare := fullShare.right
abbrev qRL : PosShare TreeShare := fullShare.right.left
abbrev qRR : PosShare TreeShare := fullShare.right.right

/-- What a copy of each shape raises its semaphores by. -/
def NR : ℕ := (vR0 0).view.dmaCredit
def NX : ℕ := (vX 0).view.dmaCredit
def NXh : ℕ := (vXl 0).view.dmaCredit
def NYh : ℕ := (vYu 0).view.dmaCredit
def NYc : ℕ := (vYl 0).view.dmaCredit
def NW : ℕ := (wM : Memref sig .tc .vmem S1024x1024 .f32).view.dmaCredit

def amt (n : ℕ) : ℕ :=
  match n with
  | 2 | 3 | 4 | 5 | 6 | 7 => NR
  | 13 => NW
  | 14 | 15 | 18 | 19 => NX
  | 16 | 17 | 20 | 21 => NXh
  | 22 | 23 | 24 | 25 | 28 | 29 | 30 | 31 => NYh
  | 26 | 27 | 32 | 33 => NYc
  | _ => 1

theorem amt_pos (n : ℕ) : 0 < amt n := by
  unfold amt
  split <;> first | exact Nat.one_pos | exact View.dmaCredit_pos _ (by decide)

/-! ## What the payments hand over -/

/-- The set of a weight slice, by the round of its copy. -/
def eS (r : ℕ) : Finset S8x1024x1024.Idx :=
  if h : r < 4 then (vE ⟨r, h⟩).view.set else if h : r - 4 < 4 then (vE' ⟨r - 4, h⟩).view.set else ∅
/-- What the copy of a round leaves in the weight buffer. -/
def wC (c : Dev nD) (r : ℕ) : Vec F S1024x1024 .f32 :=
  if h : r < 4 then (vE ⟨r, h⟩).view.read (Elt F) (I.ew c)
  else if h : r - 4 < 4 then (vE' ⟨r - 4, h⟩).view.read (Elt F) (I.ew c) else fun _ => Scalar.ofBits .f32 0x00000000#32

/-- To the left neighbour's copies of call 0 belong these parts of device `p`'s landing buffer (`c` is that neighbour). -/
def bar0P (c : Dev nD) : sProp 𝕄 :=
  iprop((∃ f, rP (rt c) (rS c) fullShare f) ∗ (∃ f, rP (rt c) (rS (lf c)) fullShare f) ∗ (∃ f, rP (rt c) (rS (op c)) fullShare f)
    ∗ reached ER (dc (rt c) 5) 0 ∗ reached ER (dc (rt c) 6) 0 ∗ reached ER (dc (rt c) 7) 0)
/-- What the right neighbour hands to device `c` at the start of call 1. -/
def bar1R (c : Dev nD) : sProp 𝕄 :=
  iprop((∃ f, xP (rt c) (xS c) fullShare f) ∗ (∃ f, xP (rt c) (xSl (lf c)) fullShare f)
    ∗ (∃ f, yP (rt c) (ySu c) fullShare f) ∗ (∃ f, yP (rt c) (ySv c) fullShare f) ∗ (∃ f, yP (rt c) (ySl (lf c)) fullShare f)
    ∗ reached ER (dc (rt c) 18) 0 ∗ reached ER (dc (rt c) 20) 0 ∗ reached ER (dc (rt c) 28) 0
    ∗ reached ER (dc (rt c) 30) 0 ∗ reached ER (dc (rt c) 32) 0)
/-- What the left neighbour hands to device `c` at the start of call 1. -/
def bar1L (c : Dev nD) : sProp 𝕄 :=
  iprop((∃ f, xP (lf c) (xS c) fullShare f) ∗ (∃ f, xP (lf c) (xSr (rt c)) fullShare f)
    ∗ (∃ f, yP (lf c) (ySu c) fullShare f) ∗ (∃ f, yP (lf c) (ySv c) fullShare f) ∗ (∃ f, yP (lf c) (ySr (rt c)) fullShare f)
    ∗ reached ER (dc (lf c) 19) 0 ∗ reached ER (dc (lf c) 21) 0 ∗ reached ER (dc (lf c) 29) 0
    ∗ reached ER (dc (lf c) 31) 0 ∗ reached ER (dc (lf c) 33) 0)

def barPay (n : ℕ) (d : Fin 2) (c : Dev nD) : sProp 𝕄 :=
  if n = 0 then (if d = 0 then bar0P c else iprop(emp)) else (if d = 0 then bar1R c else bar1L c)

/-- A copy's semaphore hands its device this. -/
def dmaPay (n r : ℕ) (c : Dev nD) : sProp 𝕄 :=
  match n with
  | 2 => rP c (rS c) fullShare (RG I)
  | 3 => rP c (rS (lf c)) fullShare (RG I)
  | 4 => rP c (rS (op c)) fullShare (RG I)
  | 5 => rP c (rS (lf c)) fullShare (RG I)
  | 6 => rP c (rS (op c)) fullShare (RG I)
  | 7 => rP c (rS (rt c)) fullShare (RG I)
  | 13 => iprop(wP c (wC I c r) ∗ eP c (eS r) (I.ew c))
  | 14 => xP c (xS c) qL (XG I)
  | 15 => xP c (xS c) qRL (XG I)
  | 16 => xP c (xSl (lf c)) qL (XG I)
  | 17 => xP c (xSr (rt c)) qL (XG I)
  | 18 => xP c (xS (lf c)) fullShare (XG I)
  | 19 => xP c (xS (rt c)) fullShare (XG I)
  | 20 => xP c (xSl (op c)) fullShare (XG I)
  | 21 => xP c (xSr (op c)) fullShare (XG I)
  | 22 => yP c (ySu c) qL (YG I)
  | 23 => yP c (ySu c) qRL (YG I)
  | 24 => yP c (ySv c) qL (YG I)
  | 25 => yP c (ySv c) qRL (YG I)
  | 26 => yP c (ySl (lf c)) qL (YG I)
  | 27 => yP c (ySr (rt c)) qL (YG I)
  | 28 => yP c (ySu (lf c)) fullShare (YG I)
  | 29 => yP c (ySu (rt c)) fullShare (YG I)
  | 30 => yP c (ySv (lf c)) fullShare (YG I)
  | 31 => yP c (ySv (rt c)) fullShare (YG I)
  | 32 => yP c (ySl (op c)) fullShare (YG I)
  | 33 => yP c (ySr (op c)) fullShare (YG I)
  | _ => iprop(emp)

/-- The semaphores of the remote copies: one payment each. -/
def one (n : ℕ) : Bool := (decide (2 ≤ n) && decide (n ≤ 7)) || (decide (14 ≤ n) && decide (n ≤ 33))

/-- The duties of a semaphore in a round. -/
def duty (s : SemLoc sig) (r : ℕ) : Finset (Fin 2) :=
  match s with
  | .reg _ => if r = 0 then {0, 1} else ∅
  | .dma i => if (r = 0 ∧ one i.val = true) ∨ (i.val = 13 ∧ r < 8) then {0} else ∅

def amount (s : SemLoc sig) : ℕ := match s with | .reg _ => 1 | .dma i => amt i.val
def pay (s : SemLoc sig) (r : ℕ) (d : Fin 2) (c : Dev nD) : sProp 𝕄 := match s with | .reg i => barPay i.val d c | .dma i => dmaPay I i.val r c

/-- The whole schedule. -/
def Rd : Rounds.Schedule (GSem nD τ sig) (Fin 2) 𝕄 where
  duties g r := if g.1.2 = .tc then duty g.2 r else ∅
  unitless _ := False
  amount g _ _ := amount g.2
  payload g r d := pay I g.2 r d g.1.1
  amount_pos g _ _ _ := by
    unfold amount
    split
    · exact Nat.one_pos
    · exact amt_pos _

instance barPay_storable (n : ℕ) (d : Fin 2) (c : Dev nD) : BI.Storable (upEmb : UEmb _ 𝕄) (barPay (F := F) n d c) := by
  unfold barPay bar0P bar1R bar1L
  (repeat' split) <;> infer_instance
instance dmaPay_storable (n r : ℕ) (c : Dev nD) : BI.Storable (upEmb : UEmb _ 𝕄) (dmaPay I n r c) := by
  unfold dmaPay
  split <;> infer_instance
instance Rd_payload_storable (g : GSem nD τ sig) (r : ℕ) (d : Fin 2) : BI.Storable (upEmb : UEmb _ 𝕄) ((Rd I).payload g r d) := by
  show BI.Storable upEmb (pay I g.2 r d g.1.1)
  unfold pay
  split <;> infer_instance

/-! ## The schedule read off -/

theorem duties_dma (c : Dev nD) (i : DmaSem sig) (h : one i.val = true) : (Rd I).duties (dc c i) 0 = {0} := by
  show (if (c : Thread nD τ).2 = .tc then duty (.dma i) 0 else ∅) = _
  rw [if_pos rfl]
  show (if _ then _ else _) = _
  rw [if_pos (.inl ⟨rfl, h⟩)]
theorem duties_bar (c : Dev nD) (i : Sem sig) : (Rd I).duties (bc c i) 0 = {0, 1} := by
  show (if (c : Thread nD τ).2 = .tc then duty (.reg i) 0 else ∅) = _
  rw [if_pos rfl]; rfl
theorem duties_loc (c : Dev nD) (r : ℕ) (h : r < 8) : (Rd I).duties (dc c 13) r = {0} := by
  show (if (c : Thread nD τ).2 = .tc then duty (.dma 13) r else ∅) = _
  rw [if_pos rfl]
  show (if _ then _ else _) = _
  rw [if_pos (.inr ⟨rfl, h⟩)]

theorem expect_dma (c : Dev nD) (i : DmaSem sig) (h : one i.val = true) : (Rd I).expect (dc c i) 0 = amt i.val := by
  unfold Schedule.expect Schedule.amountOf; rw [duties_dma I c i h, Finset.sum_singleton]; rfl
theorem expect_loc (c : Dev nD) (r : ℕ) (h : r < 8) : (Rd I).expect (dc c 13) r = NW := by
  unfold Schedule.expect Schedule.amountOf; rw [duties_loc I c r h, Finset.sum_singleton]; rfl
theorem expect_bar (c : Dev nD) (i : Sem sig) : (Rd I).expect (bc c i) 0 = 2 := by
  unfold Schedule.expect Schedule.amountOf; rw [duties_bar I c i]; rfl

theorem rest_dma (c : Dev nD) (i : DmaSem sig) (h : one i.val = true) :
    bigSep ((Rd I).duties (dc c i) 0 \ ∅) (fun u => (Rd I).payload (dc c i) 0 u) = dmaPay I i.val 0 c := by
  rw [Finset.sdiff_empty, duties_dma I c i h, bigSep_singleton]; rfl
theorem rest_loc (c : Dev nD) (r : ℕ) (h : r < 8) :
    bigSep ((Rd I).duties (dc c 13) r \ ∅) (fun u => (Rd I).payload (dc c 13) r u) = dmaPay I 13 r c := by
  rw [Finset.sdiff_empty, duties_loc I c r h, bigSep_singleton]; rfl
theorem rest_bar (c : Dev nD) (i : Sem sig) :
    bigSep ((Rd I).duties (bc c i) 0 \ ∅) (fun u => (Rd I).payload (bc c i) 0 u) = iprop(barPay i.val 0 c ∗ barPay i.val 1 c) := by
  rw [Finset.sdiff_empty, duties_bar I c i, bigSep_insert (by decide), bigSep_singleton]; rfl

/-- No duties after a semaphore's last round. -/
theorem duties_after (g : GSem nD τ sig) (h : g.2 ≠ .dma 13) : ∀ r, 1 ≤ r → (Rd I).duties g r = ∅ := fun r hr => by
  obtain ⟨t, s⟩ := g
  show (if t.2 = .tc then duty s r else ∅) = ∅
  split
  · cases s with
    | reg i => exact if_neg (by omega)
    | dma i =>
      refine if_neg ?_
      rintro (⟨h0, -⟩ | ⟨h13, -⟩)
      · omega
      · exact h (congrArg SemLoc.dma (Fin.ext h13))
  · rfl
theorem duties_after8 (g : GSem nD τ sig) : ∀ r, 8 ≤ r → (Rd I).duties g r = ∅ := fun r hr => by
  obtain ⟨t, s⟩ := g
  show (if t.2 = .tc then duty s r else ∅) = ∅
  split
  · cases s with
    | reg i => exact if_neg (by omega)
    | dma i => exact if_neg (by rintro (⟨h0, -⟩ | ⟨-, h8⟩) <;> omega)
  · rfl

/-! ## What a device owes, in the order it pays; levels -/

/-- The cell and the amount of payment `n` of device `c`. -/
def dueAt (c : Dev nD) (n : ℕ) : GSem nD τ sig × ℕ :=
  match n with
  | 0 => (bc (lf c) 0, 1)
  | 1 => (bc (rt c) 0, 1)
  | 2 => (dc (rt c) 5, NR)
  | 3 => (dc (rt c) 6, NR)
  | 4 => (dc (rt c) 7, NR)
  | 5 => (bc (lf c) 1, 1)
  | 6 => (bc (rt c) 1, 1)
  | 7 => (dc (rt c) 18, NX)
  | 8 => (dc (lf c) 19, NX)
  | 9 => (dc (rt c) 20, NXh)
  | 10 => (dc (lf c) 21, NXh)
  | 11 => (dc (rt c) 28, NYh)
  | 12 => (dc (lf c) 29, NYh)
  | 13 => (dc (rt c) 30, NYh)
  | 14 => (dc (lf c) 31, NYh)
  | 15 => (dc (rt c) 32, NYc)
  | _ => (dc (lf c) 33, NYc)

def due (c : Dev nD) (n : ℕ) : CellTallies nD τ sig Unit := tallyAt (dueAt c n).1 () (dueAt c n).2

/-- What is still owed when `k` payments are left. -/
def rem (c : Dev nD) : ℕ → CellTallies nD τ sig Unit
  | 0 => 0
  | k + 1 => rem c k + due c (16 - k)

theorem rem_succ (c : Dev nD) (k : ℕ) : rem c (k + 1) = rem c k + due c (16 - k) := rfl

/-- The level of a semaphore: the place of its payment in the order. -/
def lvS (s : SemLoc sig) : ℕ :=
  match s with
  | .reg i => if i.val = 0 then 1 else 5
  | .dma i =>
    match i.val with
    | 5 => 2 | 6 => 3 | 7 => 4
    | 18 => 6 | 19 => 7 | 20 => 8 | 21 => 9
    | 28 => 10 | 29 => 11 | 30 => 12 | 31 => 13 | 32 => 14 | 33 => 15
    | _ => 0
def lv (g : GSem nD τ sig) (_ : Unit) : ℕ := lvS g.2
def L (g : GSem nD τ sig) : Finset Unit := if g.1.2 = .tc then {()} else ∅
theorem L_of_ne (g : GSem nD τ sig) (h : g.1.2 ≠ .tc) : L g = ∅ := if_neg h
theorem L_tc (c : Dev nD) (s : SemLoc sig) : L ((c : Thread nD τ), s) = {()} := if_pos rfl

theorem dueAt_tc (c : Dev nD) (n : ℕ) : L (dueAt c n).1 = {()} := by
  unfold dueAt; split <;> exact if_pos rfl

/-- A cell still owed to is the cell of one of the payments left. -/
theorem rem_pos (c : Dev nD) (k : ℕ) (g : GSem nD τ sig) (u : Unit) (h : 0 < rem c k g u) : ∃ j, j < k ∧ g = (dueAt c (16 - j)).1 := by
  induction k with
  | zero => exact absurd h (Nat.lt_irrefl 0)
  | succ k ih =>
    rw [rem, Pi.add_apply, Finsupp.add_apply] at h
    by_cases h1 : 0 < rem c k g u
    · obtain ⟨j, hj, e⟩ := ih h1; exact ⟨j, by omega, e⟩
    · have h2 : 0 < due c (16 - k) g u := by omega
      unfold due at h2
      rw [tallyAt_apply] at h2
      by_cases h3 : g = (dueAt c (16 - k)).1 ∧ u = ()
      · exact ⟨k, Nat.lt_succ_self k, h3.1⟩
      · rw [if_neg h3] at h2; exact absurd h2 (Nat.lt_irrefl 0)

/-- The level of payment `n`. -/
def dl (n : ℕ) : ℕ := match n with | 0 | 1 => 1 | 2 => 2 | 3 => 3 | 4 => 4 | 5 | 6 => 5 | 7 => 6 | 8 => 7 | 9 => 8 | 10 => 9 | 11 => 10 | 12 => 11 | 13 => 12 | 14 => 13 | 15 => 14 | _ => 15
theorem lv_dueAt (c : Dev nD) (n : ℕ) (u : Unit) : lv (dueAt c n).1 u = dl n := by
  unfold dueAt dl; split <;> rfl

/-- A wait is admissible while everything still owed lies above it. -/
theorem mayWait (c : Dev nD) (s : SemLoc sig) (k : ℕ) (h : ∀ j < k, lvS s < dl (16 - j)) :
    (levAts L lv : sProp 𝕄) ⊢ MayWait (c : Thread nD τ) s () (rem c k) :=
  MayOwe.of_cut (L := L) (lev := lv) (lvS s) (fun p hp => by rw [Finset.mem_singleton.mp hp, L_tc]; exact Finset.mem_singleton_self _)
    (fun g u hg => by obtain ⟨j, -, rfl⟩ := rem_pos c k g u hg; rw [dueAt_tc]; exact Finset.mem_singleton_self _)
    (fun p hp => by rw [Finset.mem_singleton.mp hp]; exact le_rfl)
    (fun g u hg => by obtain ⟨j, hj, rfl⟩ := rem_pos c k g u hg; rw [lv_dueAt]; exact h j hj)

/-! ## The records every device consults -/

/-- The semaphores of the exchange. -/
def tk (s : SemLoc sig) : Bool := match s with | .reg _ => true | .dma i => one i.val || decide (i.val = 13)
def cellEmb : Dev nD × SemLoc sig ↪ GSem nD τ sig :=
  ⟨fun p => ((p.1 : Thread nD τ), p.2), fun _ _ h => Prod.ext (congrArg (fun g : GSem nD τ sig => g.1.1) h) (congrArg (fun g : GSem nD τ sig => g.2) h)⟩
/-- The barrier cells, and the cells of the copies. -/
def barCells : Finset (GSem nD τ sig) := (Finset.univ ×ˢ Finset.univ.filter fun s : SemLoc sig => tk s = true ∧ s.isScoped .tc = false).map cellEmb
def cpyCells : Finset (GSem nD τ sig) := (Finset.univ ×ˢ Finset.univ.filter fun s : SemLoc sig => tk s = true ∧ s.isScoped .tc = true).map cellEmb

theorem cell_mem (c : Dev nD) (s : SemLoc sig) (h : tk s = true) : cl c s ∈ barCells ∪ cpyCells := by
  by_cases h' : s.isScoped .tc = true
  · exact Finset.mem_union_right _ (Finset.mem_map_of_mem cellEmb (a := (c, s)) (Finset.mem_product.mpr ⟨Finset.mem_univ _, Finset.mem_filter.mpr ⟨Finset.mem_univ _, h, h'⟩⟩))
  · exact Finset.mem_union_left _ (Finset.mem_map_of_mem cellEmb (a := (c, s)) (Finset.mem_product.mpr ⟨Finset.mem_univ _, Finset.mem_filter.mpr ⟨Finset.mem_univ _, h, by simpa using h'⟩⟩))
theorem bar_mem (c : Dev nD) (i : Sem sig) : bc c i ∈ barCells :=
  Finset.mem_map_of_mem cellEmb (a := (c, SemLoc.reg i)) (Finset.mem_product.mpr ⟨Finset.mem_univ _, Finset.mem_filter.mpr ⟨Finset.mem_univ _, rfl, (by decide : ∀ i : Sem sig, (SemLoc.reg i : SemLoc sig).isScoped .tc = false) i⟩⟩)

/-- All invariants under one map of names; every barrier is at its first round; the levels. -/
def env (κ : GSem nD τ sig → ℕ) : sProp 𝕄 :=
  iprop((bigSep (barCells ∪ cpyCells) fun g => cellInv ER (Rd I) (κ g) g) ∗ (bigSep barCells fun g => reached ER g 0) ∗ levAts L lv)
instance env_persistent (κ : GSem nD τ sig → ℕ) : BI.Persistent (env I κ) := by unfold env; infer_instance

theorem env_inv (κ : GSem nD τ sig → ℕ) (c : Dev nD) (s : SemLoc sig) (h : tk s = true) : env I κ ⊢ cellInv ER (Rd I) (κ (cl c s)) (cl c s) := by
  unfold env
  iintro ⟨H, -, -⟩
  iapply (show (bigSep (barCells ∪ cpyCells) fun g => (cellInv ER (Rd I) (κ g) g : sProp 𝕄)) ⊢ cellInv ER (Rd I) (κ (cl c s)) (cl c s) from
    bigSep_elim (cell_mem c s h)) $$ H
theorem env_bar (κ : GSem nD τ sig → ℕ) (c : Dev nD) (i : Sem sig) : env I κ ⊢ reached ER (bc c i) 0 := by
  unfold env
  iintro ⟨-, H, -⟩
  iapply (show (bigSep barCells fun g => (reached ER g 0 : sProp 𝕄)) ⊢ reached ER (bc c i) 0 from bigSep_elim (bar_mem c i)) $$ H
theorem env_wait (κ : GSem nD τ sig → ℕ) (c : Dev nD) (s : SemLoc sig) (k : ℕ) (h : ∀ j < k, lvS s < dl (16 - j)) :
    env I κ ⊢ MayWait (c : Thread nD τ) s () (rem c k) := by
  unfold env
  iintro ⟨-, -, H⟩
  iapply (mayWait c s k h) $$ H

theorem tk_of_one (i : DmaSem sig) (h : one i.val = true) : tk (.dma i) = true := by
  show (one i.val || _) = true
  rw [h]; rfl

/-! ## The steps -/

/-- A device owing its last `k` payments. -/
def ow (c : Dev nD) (k : ℕ) : sProp 𝕄 := iprop(∃ W, owes (c : Thread nD τ) (rem c k) W)

variable {α : Type} (κ : GSem nD τ sig → ℕ) (c : Dev nD)

/-- Wait for the copy on semaphore `a`: what it hands over comes back. -/
theorem wp_wt (a : DmaSem sig) (k : ℕ) (P : sProp 𝕄) {s s' : Shape} {e e' : EltTy} {cs cs' : CoreSpace} {src : Memref sig .tc cs' s' e'} {dst : Memref sig .tc cs s e}
    {h1} {h2} {kk : PUnit → Prog (TpuEff nD τ sig (Elt F) Λ₀ .tc) α} {Q : α → sProp 𝕄}
    (ha : one a.val = true) (hN : dst.view.dmaCredit = amt a.val) (hl : ∀ j < k, lvS (.dma a) < dl (16 - j)) (hP : dmaPay I a.val 0 c = P) :
    iprop(env I κ ∗ cred (tallyAt (dc c a) () (amt a.val)) ∗ ow c k ∗ atPos ER (dc c a) 0 ∅ 0)
      ⊢ iprop(((P ∗ ow c k ∗ atPos ER (dc c a) 1 ∅ 0) -∗ wp frame (wpE (defs₀ (F := F)) 𝒱₀ c none) Set.univ (kk ⟨⟩) Q)
        -∗ wp frame (wpE (defs₀ (F := F)) 𝒱₀ c none) Set.univ (.op (.waitDma2 a src dst h1 h2) kk) Q) := by
  unfold ow
  iintro ⟨#He, Hc, ⟨%W, HO⟩, Hat⟩ Hk
  iapply (Rounds.wp_wait_rest_token 𝒱₀ ER (Rd I) (c : Thread nD τ) none (κ := κ (dc c a))
      (wpE_waitDma2_eq (src := src) (dst := dst) 𝒱₀ (c : Thread nD τ) none Set.univ) (Set.mem_univ _) () (O := rem c k) (W := W) (R := 0) (m := 0) (T := ∅)
      (by rw [Nat.zero_add, expect_dma I c a ha]; exact hN)) $$ [Hc HO Hat]
  · isplitr; · iapply (env_inv I κ c (.dma a) (tk_of_one a ha)); iexact He
    isplitl [Hc]; · rw [hN]; iexact Hc
    isplitl [HO]; · iexact HO
    isplitr; · iapply (env_wait I κ c (.dma a) k hl); iexact He
    iexact Hat
  iintro ⟨HO, Hat, -, Hpay⟩
  ihave Hp := (Entails.of_eq ((rest_dma I c a ha).trans hP)) $$ Hpay
  iapply Hk
  isplitl [Hp]; · iexact Hp
  isplitl [HO]; · iexists _; iexact HO
  iexact Hat

/-- Wait for both signals on a barrier. -/
theorem wp_bw (i : Sem sig) (k : ℕ) {kk : PUnit → Prog (TpuEff nD τ sig (Elt F) Λ₀ .tc) α} {Q : α → sProp 𝕄}
    (hl : ∀ j < k, lvS (.reg i) < dl (16 - j)) :
    iprop(env I κ ∗ cred (tallyAt (bc c i) () 2) ∗ ow c k ∗ atPos ER (bc c i) 0 ∅ 0)
      ⊢ iprop(((barPay (F := F) i.val 0 c ∗ barPay i.val 1 c ∗ ow c k ∗ atPos ER (bc c i) 1 ∅ 0) -∗ wp frame (wpE (defs₀ (F := F)) 𝒱₀ c none) Set.univ (kk ⟨⟩) Q)
        -∗ wp frame (wpE (defs₀ (F := F)) 𝒱₀ c none) Set.univ (.op (.semWait i 2) kk) Q) := by
  unfold ow
  iintro ⟨#He, Hc, ⟨%W, HO⟩, Hat⟩ Hk
  iapply (Rounds.wp_wait_rest_token 𝒱₀ ER (Rd I) (c : Thread nD τ) none (κ := κ (bc c i))
      (wpE_semWait_eq 𝒱₀ (c : Thread nD τ) none Set.univ) (Set.mem_univ _) () (O := rem c k) (W := W) (R := 0) (m := 0) (T := ∅)
      (by rw [Nat.zero_add, expect_bar I c i])) $$ [Hc HO Hat]
  · isplitr; · iapply (env_inv I κ c (.reg i) rfl); iexact He
    isplitl [Hc]; · iexact Hc
    isplitl [HO]; · iexact HO
    isplitr; · iapply (env_wait I κ c (.reg i) k hl); iexact He
    iexact Hat
  iintro ⟨HO, Hat, -, Hpay⟩
  ihave Hp := (Entails.of_eq (rest_bar I c i)) $$ Hpay
  icases Hp with ⟨Hp0, Hp1⟩
  iapply Hk
  isplitl [Hp0]; · iexact Hp0
  isplitl [Hp1]; · iexact Hp1
  isplitl [HO]; · iexists _; iexact HO
  iexact Hat

/-- Signal a neighbour's barrier, handing over what it asks. -/
theorem wp_sg (p : Dev nD) (i : Sem sig) (d : Fin 2) (k : ℕ) {kk : PUnit → Prog (TpuEff nD τ sig (Elt F) Λ₀ .tc) α} {Q : α → sProp 𝕄}
    (hk : dueAt c (16 - k) = (bc p i, 1)) :
    iprop(env I κ ∗ ow c (k + 1) ∗ dutyTok ER (bc p i) 0 d ∗ barPay i.val d p)
      ⊢ iprop((ow c k -∗ wp frame (wpE (defs₀ (F := F)) 𝒱₀ c none) Set.univ (kk ⟨⟩) Q)
        -∗ wp frame (wpE (defs₀ (F := F)) 𝒱₀ c none) Set.univ (.op (.semSignal (p : Thread nD τ) i 1) kk) Q) := by
  unfold ow
  iintro ⟨#He, ⟨%W, HO⟩, Ht, Hp⟩ Hk
  iapply (Rounds.wp_signal 𝒱₀ ER (Rd I) (c : Thread nD τ) none (dst := (p : Thread nD τ)) (sem := i) (r := 0) (d := d) (κ := κ (bc p i))
      (by rw [duties_bar]; revert d; decide) rfl () (rem c k) ((rem_succ c k).trans (by rw [due, hk]; rfl))) $$ [HO Ht Hp]
  · isplitr; · iapply (env_inv I κ p (.reg i) rfl); iexact He
    isplitl [HO]; · iexact HO
    isplitl [Ht]; · iexact Ht
    isplitl [Hp]; · iapply (Entails.of_eq (show barPay i.val d p = (Rd I).payload (bc p i) 0 d from rfl)) $$ Hp
    iapply (env_bar I κ p i); iexact He
  iintro HO
  iapply Hk
  iexists _; iexact HO

/-- Start a copy into a neighbour's buffer: the source's share and the landing part go in. -/
theorem wp_put (p : Dev nD) (a b : DmaSem sig) (k : ℕ) {s : Shape} {e : EltTy} {v : Memref sig .tc .vmem s e} {q : PosShare TreeShare}
    {hsc} {h1} {h2} {h3} (fs : Buf (Elt F) (v.view.loc (c : Thread nD τ)))
    {kk : PUnit → Prog (TpuEff nD τ sig (Elt F) Λ₀ .tc) α} {Q : α → sProp 𝕄}
    (ha : one a.val = true) (hb : one b.val = true) (hN : v.view.dmaCredit = amt b.val) (hab : amt a.val = amt b.val)
    (hk : dueAt c (16 - k) = (dc p b, amt b.val))
    (hsrc : (v.view.loc (c : Thread nD τ) ↦[v.view.set]{q} fs) ⊢ dmaPay I a.val 0 c)
    (hdst : ∀ fd : Buf (Elt F) (v.view.loc (p : Thread nD τ)),
      (v.view.loc (p : Thread nD τ) ↦[v.view.set]{fullShare} v.view.write (Elt F) fd (v.view.read (Elt F) fs) Finset.univ) ⊢ dmaPay I b.val 0 p) :
    iprop(env I κ ∗ (v.view.loc (c : Thread nD τ) ↦[v.view.set]{q} fs) ∗ (∃ fd, v.view.loc (p : Thread nD τ) ↦[v.view.set]{fullShare} fd)
        ∗ ow c (k + 1) ∗ dutyTok ER (dc c a) 0 0 ∗ reached ER (dc c a) 0 ∗ dutyTok ER (dc p b) 0 0 ∗ reached ER (dc p b) 0)
      ⊢ iprop(((cred (tallyAt (dc c a) () (amt a.val)) ∗ ow c k) -∗ wp frame (wpE (defs₀ (F := F)) 𝒱₀ c none) Set.univ (kk ⟨⟩) Q)
        -∗ wp frame (wpE (defs₀ (F := F)) 𝒱₀ c none) Set.univ (.op (.enqueueDma v (.remote (p : Thread nD τ) v (.dma a) hsc) (.dma b) h1 h2 h3) kk) Q) := by
  unfold ow
  iintro ⟨#He, Hs, ⟨%fd, Hd⟩, ⟨%W, HO⟩, Hta, Hra, Htb, Hrb⟩ Hk
  iapply (Rounds.wp_send_pointsTo 𝒱₀ ER (Rd I) (c : Thread nD τ) none (c' := (p : Thread nD τ)) (src := v) (dst := v)
      (sS := .dma a) (sem := .dma b) (q := q) (fs := fs) (κ₁ := κ (dc c a)) (κ₂ := κ (dc p b))
      (r₁ := 0) (r₂ := 0) (d₁ := 0) (d₂ := 0) (fd := fd)
      (by rw [duties_dma I c a ha]; exact Finset.mem_singleton_self _) (by rw [duties_dma I p b hb]; exact Finset.mem_singleton_self _)
      () () (amt b.val) hN hab rfl (rem c k) ((rem_succ c k).trans (by rw [due, hk])) (W := W) hsrc (hdst fd)) $$ [Hs Hd HO Hta Hra Htb Hrb]
  · isplitr; · iapply (env_inv I κ c (.dma a) (tk_of_one a ha)); iexact He
    isplitr; · iapply (env_inv I κ p (.dma b) (tk_of_one b hb)); iexact He
    isplitl [Hs]; · iexact Hs
    isplitl [Hd]; · iexact Hd
    isplitl [HO]; · iexact HO
    isplitl [Hta]; · iexact Hta
    isplitl [Hra]; · iexact Hra
    isplitl [Htb]; · iexact Htb
    iexact Hrb
  iintro ⟨Hc, HO⟩
  iapply Hk
  isplitl [Hc]; · rw [hab]; iexact Hc
  iexists _; iexact HO

/-- Read a rectangle of a buffer held on `S`. -/
theorem wp_ld {cs : CoreSpace} {s : Shape} {e : EltTy} (m : Memref sig .tc cs s e) (S : Finset m.view.ty.shape.Idx) (q : PosShare TreeShare)
    (f : m.view.ty.Contents (Elt F)) {r : Rect s} {hl : m.view.LoadsAt r} {kk : (r.shape.Idx → Elt F e) → Prog (TpuEff nD τ sig (Elt F) Λ₀ .tc) α}
    {Q : α → sProp 𝕄} (hS : (m.access r).set ⊆ S) :
    (m.view.loc (c : Thread nD τ) ↦[S]{q} f : sProp 𝕄)
      ⊢ iprop(((m.view.loc (c : Thread nD τ) ↦[S]{q} f) -∗ wp frame (wpE (defs₀ (F := F)) 𝒱₀ c none) Set.univ (kk ((m.access r).read (Elt F) f)) Q)
        -∗ wp frame (wpE (defs₀ (F := F)) 𝒱₀ c none) Set.univ (.op (.load m r hl) kk) Q) :=
  wp_load_rect 𝒱₀ (c : Thread nD τ) none Set.univ (m := m) (r := r) (hl := hl) (k := kk) (S := S) (q := q) (f := f) hS

/-- The same of a buffer held whole. -/
theorem wp_ldw {cs : CoreSpace} {s : Shape} {e : EltTy} (m : Memref sig .tc cs s e) (q : PosShare TreeShare)
    (f : m.view.ty.Contents (Elt F)) {r : Rect s} {hl : m.view.LoadsAt r} {kk : (r.shape.Idx → Elt F e) → Prog (TpuEff nD τ sig (Elt F) Λ₀ .tc) α}
    {Q : α → sProp 𝕄} :
    (m.view.loc (c : Thread nD τ) ↦{q} f : sProp 𝕄)
      ⊢ iprop(((m.view.loc (c : Thread nD τ) ↦{q} f) -∗ wp frame (wpE (defs₀ (F := F)) 𝒱₀ c none) Set.univ (kk ((m.access r).read (Elt F) f)) Q)
        -∗ wp frame (wpE (defs₀ (F := F)) 𝒱₀ c none) Set.univ (.op (.load m r hl) kk) Q) :=
  wp_load_rect 𝒱₀ (c : Thread nD τ) none Set.univ (m := m) (r := r) (hl := hl) (k := kk) (q := q) (f := f) (Finset.subset_univ _)

/-- Write a rectangle of a buffer held on `S`. -/
theorem wp_st {cs : CoreSpace} {s : Shape} {e : EltTy} (m : Memref sig .tc cs s e) (S : Finset m.view.ty.shape.Idx)
    (f : m.view.ty.Contents (Elt F)) {r : Rect s} {w : r.shape.Idx → Elt F e} {hx : (m.access r).Stores Finset.univ}
    {hm : Finset.univ = Finset.univ ∨ ∀ a, r.stride a = 1} {kk : PUnit → Prog (TpuEff nD τ sig (Elt F) Λ₀ .tc) α}
    {Q : α → sProp 𝕄} (hS : (m.access r).set ⊆ S) :
    (m.view.loc (c : Thread nD τ) ↦[S]{fullShare} f : sProp 𝕄)
      ⊢ iprop(((m.view.loc (c : Thread nD τ) ↦[S]{fullShare} (m.access r).write (Elt F) f w Finset.univ) -∗ wp frame (wpE (defs₀ (F := F)) 𝒱₀ c none) Set.univ (kk ⟨⟩) Q)
        -∗ wp frame (wpE (defs₀ (F := F)) 𝒱₀ c none) Set.univ (.op (.store m r w Finset.univ hx hm) kk) Q) :=
  wp_store 𝒱₀ (c : Thread nD τ) none Set.univ (m := m) (r := r) (w := w) (Mk := Finset.univ) (hx := hx) (hm := hm) (k := kk) (S := S) (f := f)
    (by rw [View.setOn_univ]; exact hS)

/-- The same of a buffer held whole. -/
theorem wp_stw {cs : CoreSpace} {s : Shape} {e : EltTy} (m : Memref sig .tc cs s e)
    (f : m.view.ty.Contents (Elt F)) {r : Rect s} {w : r.shape.Idx → Elt F e} {hx : (m.access r).Stores Finset.univ}
    {hm : Finset.univ = Finset.univ ∨ ∀ a, r.stride a = 1} {kk : PUnit → Prog (TpuEff nD τ sig (Elt F) Λ₀ .tc) α}
    {Q : α → sProp 𝕄} :
    (m.view.loc (c : Thread nD τ) ↦{fullShare} f : sProp 𝕄)
      ⊢ iprop(((m.view.loc (c : Thread nD τ) ↦{fullShare} (m.access r).write (Elt F) f w Finset.univ) -∗ wp frame (wpE (defs₀ (F := F)) 𝒱₀ c none) Set.univ (kk ⟨⟩) Q)
        -∗ wp frame (wpE (defs₀ (F := F)) 𝒱₀ c none) Set.univ (.op (.store m r w Finset.univ hx hm) kk) Q) :=
  wp_store 𝒱₀ (c : Thread nD τ) none Set.univ (m := m) (r := r) (w := w) (Mk := Finset.univ) (hx := hx) (hm := hm) (k := kk) (f := f) (Finset.subset_univ _)

/-! ## Closing -/

theorem close1 (s : SemLoc sig) (h : tk s = true) (hs : s ≠ .dma 13) :
    iprop(env I κ ∗ atPos ER (cl c s) 1 ∅ 0) ⊢ (|={Set.univ}=> semVal (cl c s) 0 : sProp 𝕄) := by
  iintro ⟨#He, Hat⟩
  iapply (Rounds.cell_close ER (Rd I) (κ := κ (cl c s)) (Set.mem_univ _) id (duties_after I (cl c s) hs))
  isplitr; · iapply (env_inv I κ c s h); iexact He
  iexact Hat
theorem close8 :
    iprop(env I κ ∗ atPos ER (dc c 13) 8 ∅ 0) ⊢ (|={Set.univ}=> semVal (dc c 13) 0 : sProp 𝕄) := by
  iintro ⟨#He, Hat⟩
  iapply (Rounds.cell_close ER (Rd I) (κ := κ (dc c 13)) (Set.mem_univ _) id (duties_after8 I (dc c 13)))
  isplitr; · iapply (env_inv I κ c (.dma 13) rfl); iexact He
  iexact Hat

/-! ## Parts of buffers and what is written there -/

omit [FloatOps F] in
/-- Inside a view, what is written does not depend on what was there. -/
theorem write_indep {cs : Space} {sp : Shape} {e : EltTy} {κ' : Kind} (v : View sig κ' cs sp e) (f g : v.ty.Contents (Elt F)) (w : sp.Idx → Elt F e) :
    ∀ i ∈ v.set, v.write (Elt F) f w Finset.univ i = v.write (Elt F) g w Finset.univ i := by
  intro i hi
  obtain ⟨x, -, rfl⟩ := Finset.mem_map.mp hi
  rw [View.write_emb_of_mem _ _ (Finset.mem_univ _), View.write_emb_of_mem _ _ (Finset.mem_univ _)]
omit [FloatOps F] in
/-- Inside a view, writing what was read from `g` there gives `g`. -/
theorem write_read {cs : Space} {sp : Shape} {e : EltTy} {κ' : Kind} (v : View sig κ' cs sp e) (f g : v.ty.Contents (Elt F)) :
    ∀ i ∈ v.set, v.write (Elt F) f (v.read (Elt F) g) Finset.univ i = g i := by
  intro i hi
  rw [View.write_read_eq_piecewise, View.setOn_univ]
  exact Finset.piecewise_eq_of_mem _ _ _ hi
omit [FloatOps F] in
/-- Outside a view nothing changes. -/
theorem write_out {cs : Space} {sp : Shape} {e : EltTy} {κ' : Kind} (v : View sig κ' cs sp e) (f : v.ty.Contents (Elt F)) (w : sp.Idx → Elt F e) :
    ∀ i, i ∉ v.set → v.write (Elt F) f w Finset.univ i = f i := by
  intro i hi
  exact View.write_of_not_mem _ _ _ (by rwa [View.setOn_univ])

/-- Two disjoint parts of a buffer, apart and together. -/
theorem pts_two {ℓ : Loc nD τ sig} {A B C : Finset (Idx ℓ)} (q : PosShare TreeShare) (f : Buf (Elt F) ℓ) (hC : ∀ i, i ∈ C ↔ (i ∈ A ∨ i ∈ B)) (h : ∀ i ∈ A, i ∉ B) :
    (ℓ ↦[C]{q} f : sProp 𝕄) ⊣⊢ iprop((ℓ ↦[A]{q} f) ∗ ℓ ↦[B]{q} f) := by
  have e : C = A ∪ B := by ext i; rw [hC, Finset.mem_union]
  subst e; exact pointsTo_union (Finset.disjoint_left.mpr h)

/-- Start a copy of the part `S`, whose contents `fs` the two payments name. -/
theorem wp_send {p' : Dev nD} (p : Dev nD) (hp : p' = p) (a b : DmaSem sig) (k : ℕ) {s : Shape} {e : EltTy} {v : Memref sig .tc .vmem s e} {q : PosShare TreeShare}
    {hsc} {h1} {h2} {h3} {S : Finset v.view.ty.shape.Idx} (hS : v.view.set = S) (fs : v.view.ty.Contents (Elt F))
    {kk : PUnit → Prog (TpuEff nD τ sig (Elt F) Λ₀ .tc) α} {Q : α → sProp 𝕄}
    (ha : one a.val = true) (hb : one b.val = true) (hN : v.view.dmaCredit = amt b.val) (hab : amt a.val = amt b.val)
    (hk : dueAt c (16 - k) = (dc p b, amt b.val))
    (hpa : dmaPay I a.val 0 c = (v.view.loc (c : Thread nD τ) ↦[S]{q} fs))
    (hpb : dmaPay I b.val 0 p = (v.view.loc (p : Thread nD τ) ↦[S]{fullShare} fs)) :
    iprop(env I κ ∗ (v.view.loc (c : Thread nD τ) ↦[S]{q} fs) ∗ (∃ fd, v.view.loc (p : Thread nD τ) ↦[S]{fullShare} fd)
        ∗ ow c (k + 1) ∗ dutyTok ER (dc c a) 0 0 ∗ reached ER (dc c a) 0 ∗ dutyTok ER (dc p b) 0 0 ∗ reached ER (dc p b) 0)
      ⊢ iprop(((cred (tallyAt (dc c a) () (amt a.val)) ∗ ow c k) -∗ wp frame (wpE (defs₀ (F := F)) 𝒱₀ c none) Set.univ (kk ⟨⟩) Q)
        -∗ wp frame (wpE (defs₀ (F := F)) 𝒱₀ c none) Set.univ (.op (.enqueueDma v (.remote (p' : Thread nD τ) v (.dma a) hsc) (.dma b) h1 h2 h3) kk) Q) := by
  subst hS hp
  refine wp_put I κ c p' a b k fs ha hb hN hab hk (Entails.of_eq hpa.symm) (fun fd => ?_)
  rw [hpb]
  exact Entails.of_eq (pointsTo_congr (write_read (F := F) v.view fd fs))

end Cert.KernelIdeal.Net
-- ==== Proof.Call0.lean ====
/-
  Call 0 on device `c`: the routes go once around the ring. After it the landing buffer holds all routes on every device.
-/
module

public import proofs.«01_k».proof.Proof.Sched

@[expose] public section

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (κ : GSem nD τ sig → ℕ) (c : Dev nD)

/-! ## The parts of the landing buffer -/

theorem mem_rS (d : Dev nD) (i : S64x128.Idx) : i ∈ rS d ↔ (i 0).val / 16 = d.val := by simp [rS]
theorem lf_val : (lf c).val = (c.val + 3) % 4 := rfl
theorem rt_val : (rt c).val = (c.val + 1) % 4 := rfl
theorem op_val : (op c).val = (c.val + 2) % 4 := rfl

/-- The three parts that the neighbour's copies fill. -/
def rS3 (c : Dev nD) : Finset S64x128.Idx := Finset.univ.filter fun i => (i 0).val / 16 ≠ c.val
def rS2 (c : Dev nD) : Finset S64x128.Idx := Finset.univ.filter fun i => (i 0).val / 16 = (op c).val ∨ (i 0).val / 16 = (rt c).val
theorem mem_rS3 (c : Dev nD) (i : S64x128.Idx) : i ∈ rS3 c ↔ (i 0).val / 16 ≠ c.val := by simp [rS3]
theorem mem_rS2 (c : Dev nD) (i : S64x128.Idx) : i ∈ rS2 c ↔ ((i 0).val / 16 = (op c).val ∨ (i 0).val / 16 = (rt c).val) := by simp [rS2]

theorem rP_two {A B C : Finset S64x128.Idx} (q : PosShare TreeShare) (f : Vec F S64x128 .i32) (hC : ∀ i, i ∈ C ↔ (i ∈ A ∨ i ∈ B)) (h : ∀ i ∈ A, i ∉ B) :
    (rP c C q f : sProp 𝕄) ⊣⊢ iprop(rP c A q f ∗ rP c B q f) := pts_two (ℓ := (c : Thread nD τ).loc cc0_stg1_0) q f hC h

theorem rP_1 (f : Vec F S64x128 .i32) : (rP c Finset.univ fullShare f : sProp 𝕄) ⊣⊢ iprop(rP c (rS c) fullShare f ∗ rP c (rS3 c) fullShare f) := by
  refine rP_two c fullShare f (fun i => ?_) (fun i => ?_) <;> simp only [mem_rS, mem_rS3, Finset.mem_univ, true_iff] <;> omega
theorem rP_2 (f : Vec F S64x128 .i32) : (rP c (rS3 c) fullShare f : sProp 𝕄) ⊣⊢ iprop(rP c (rS (lf c)) fullShare f ∗ rP c (rS2 c) fullShare f) := by
  have : c.val < 4 := c.isLt
  refine rP_two c fullShare f (fun i => ?_) (fun i => ?_) <;> have := bR i <;> simp only [mem_rS, mem_rS2, mem_rS3, lf_val, rt_val, op_val] <;> omega
theorem rP_3 (f : Vec F S64x128 .i32) : (rP c (rS2 c) fullShare f : sProp 𝕄) ⊣⊢ iprop(rP c (rS (op c)) fullShare f ∗ rP c (rS (rt c)) fullShare f) := by
  have : c.val < 4 := c.isLt
  refine rP_two c fullShare f (fun i => ?_) (fun i => ?_) <;> simp only [mem_rS, mem_rS2, lf_val, rt_val, op_val] <;> omega

theorem rP_split (f : Vec F S64x128 .i32) :
    (rP c Finset.univ fullShare f : sProp 𝕄)
      ⊢ iprop(rP c (rS c) fullShare f ∗ rP c (rS (lf c)) fullShare f ∗ rP c (rS (op c)) fullShare f ∗ rP c (rS (rt c)) fullShare f) :=
  (rP_1 c f).1.trans (sep_mono_right ((rP_2 c f).1.trans (sep_mono_right (rP_3 c f).1)))
theorem rP_join (f : Vec F S64x128 .i32) :
    iprop(rP c (rS c) fullShare f ∗ rP c (rS (lf c)) fullShare f ∗ rP c (rS (op c)) fullShare f ∗ rP c (rS (rt c)) fullShare f)
      ⊢ (rP c Finset.univ fullShare f : sProp 𝕄) :=
  (sep_mono_right ((sep_mono_right (rP_3 c f).2).trans (rP_2 c f).2)).trans (rP_1 c f).2

/-- The offsets of a whole access. -/
theorem zero2 : (![0, 0] : Fin 2 → ℕ) = fun _ => 0 := by decide

/-- What the device stores in its own rows is what the contents say. -/
theorem RG_own (f : Vec F S64x128 .i32) : ∀ i ∈ rS c,
    (rM.access (Rect.unit (s := S64x128) (k0_off1 c) S16x128.size (k0_off1_inb c))).write (Elt F) f (k0_pay1 (F := F) (I.ro c)) Finset.univ i = RG I i := by
  intro i hi
  have hd : dR i = c := Fin.ext ((mem_rS c i).mp hi)
  subst hd
  exact write_indep (F := F) (rM.access (Rect.unit (s := S64x128) (k0_off1 (dR i)) S16x128.size (k0_off1_inb (dR i)))) f zR _ i (by rw [rS_of (dR i) _ _ (by generalize dR i = d; revert d; decide)]; exact hi)

/-- The same of what a device holds after its store. -/
theorem RG_ent (f : Vec F S64x128 .i32) :
    (rP c (rS c) fullShare ((rM.access (Rect.unit (s := S64x128) (k0_off1 c) S16x128.size (k0_off1_inb c))).write (Elt F) f
      (k0_pay1 (F := F) (((Memref.whole cc0_stg0_0).access (Rect.unit (s := S16x128) ![0, 0] S16x128.size inb_S16x128_S16x128_0_0)).read (Elt F) (I.ro c))) Finset.univ) : sProp 𝕄)
      ⊢ rP c (rS c) fullShare (RG I) := by
  have h : ((Memref.whole cc0_stg0_0).access (Rect.unit (s := S16x128) ![0, 0] S16x128.size inb_S16x128_S16x128_0_0)).read (Elt F) (I.ro c) = I.ro c :=
    Memref.read_access_unit_zero (Elt F) cc0_stg0_0 zero2 inb_S16x128_S16x128_0_0 (I.ro c)
  rw [h]
  exact Entails.of_eq (pointsTo_congr (RG_own I c f))

/-! ## The run -/

/-- What device `c` brings to call 0. -/
def pre0 : sProp 𝕄 :=
  iprop(ow c 17 ∗ cred (tallyAt (bc c 0) () 2) ∗ cred (tallyAt (dc c 5) () NR) ∗ cred (tallyAt (dc c 6) () NR) ∗ cred (tallyAt (dc c 7) () NR)
    ∗ atPos ER (bc c 0) 0 ∅ 0
    ∗ (atPos ER (dc c 2) 0 ∅ 0 ∗ atPos ER (dc c 3) 0 ∅ 0 ∗ atPos ER (dc c 4) 0 ∅ 0 ∗ atPos ER (dc c 5) 0 ∅ 0 ∗ atPos ER (dc c 6) 0 ∅ 0 ∗ atPos ER (dc c 7) 0 ∅ 0)
    ∗ (reached ER (dc c 2) 0 ∗ reached ER (dc c 3) 0 ∗ reached ER (dc c 4) 0 ∗ reached ER (dc c 5) 0 ∗ reached ER (dc c 6) 0 ∗ reached ER (dc c 7) 0)
    ∗ (dutyTok ER (bc (lf c) 0) 0 0 ∗ dutyTok ER (bc (rt c) 0) 0 1)
    ∗ (dutyTok ER (dc c 2) 0 0 ∗ dutyTok ER (dc c 3) 0 0 ∗ dutyTok ER (dc c 4) 0 0)
    ∗ (dutyTok ER (dc (rt c) 5) 0 0 ∗ dutyTok ER (dc (rt c) 6) 0 0 ∗ dutyTok ER (dc (rt c) 7) 0 0)
    ∗ ((c : Thread nD τ).loc cc0_stg0_0 ↦{fullShare} I.ro c)
    ∗ ∃ f, rP c Finset.univ fullShare f)

/-- What it has after it: all its semaphores of the call back at zero, and all routes. -/
def post0 : sProp 𝕄 :=
  iprop(ow c 12 ∗ semVal (bc c 0) 0
    ∗ (semVal (dc c 2) 0 ∗ semVal (dc c 3) 0 ∗ semVal (dc c 4) 0 ∗ semVal (dc c 5) 0 ∗ semVal (dc c 6) 0 ∗ semVal (dc c 7) 0)
    ∗ ((c : Thread nD τ).loc cc0_stg0_0 ↦{fullShare} I.ro c)
    ∗ rP c Finset.univ fullShare (RG I))

theorem bar0P_of : (bar0P (lf c) : sProp 𝕄)
    = iprop((∃ f, rP c (rS (lf c)) fullShare f) ∗ (∃ f, rP c (rS (op c)) fullShare f) ∗ (∃ f, rP c (rS (rt c)) fullShare f)
    ∗ reached ER (dc c 5) 0 ∗ reached ER (dc c 6) 0 ∗ reached ER (dc c 7) 0) := by
  unfold bar0P; rw [rt_lf, lf_lf, op_lf]

theorem dev0_1 (h) : (⟨k0_dev1 c, h⟩ : Dev nD) = lf c := by revert c; decide
theorem dev0_2 (h) : (⟨k0_dev2 c, h⟩ : Dev nD) = rt c := by revert c; decide
theorem dev0_3 (h) : (⟨k0_dev3 c, h⟩ : Dev nD) = rt c := by revert c; decide
theorem dev0_4 (h) : (⟨k0_dev4 c, h⟩ : Dev nD) = rt c := by revert c; decide
theorem dev0_5 (h) : (⟨k0_dev5 c, h⟩ : Dev nD) = rt c := by revert c; decide

set_option maxHeartbeats 1000000 in
/-- Call 0 at device `c`, from its first signal to its last wait. -/
theorem run0 (Q : PUnit → sProp 𝕄) :
    iprop(env I κ ∗ pre0 I c ∗ (post0 I c -∗ Q ⟨⟩))
      ⊢ wp frame (wpE (defs₀ (F := F)) 𝒱₀ c none) Set.univ
          (cc0_body (F := F) (Memref.whole cc0_stg0_0) (Memref.isWhole_whole _) rM (Memref.isWhole_whole _) cc0_scratch0 cc0_scratch1) Q := by
  simp only [cc0_body_eq_skeleton, cc0_body_skel, k0_part1_eq_skeleton, k0_part1_skel, k0_part2_eq_skeleton, k0_part2_skel,
    k0_part3_eq_skeleton, k0_part3_skel, semSignalWord, semWaitWord, Prog.lift, Prog.bind_op, Prog.bind_ret, Prog.pure_eq_ret, wp_deviceId,
    dev0_1, dev0_2, dev0_3, dev0_4, dev0_5]
  unfold pre0
  iintro ⟨#He, ⟨HO, Hcb, Hc5, Hc6, Hc7, Hab, ⟨Ha2, Ha3, Ha4, Ha5, Ha6, Ha7⟩, ⟨#Hr2, #Hr3, #Hr4, #Hr5, #Hr6, #Hr7⟩, ⟨Htl, Htr⟩, ⟨Ht2, Ht3, Ht4⟩, ⟨Ht5, Ht6, Ht7⟩, Hin, ⟨%f, Hr⟩⟩, Hk⟩
  ihave Hr' := (rP_split c f) $$ Hr
  icases Hr' with ⟨Hro, Hrl, Hrp, Hrr⟩
  -- the two signals and the wait
  iapply (wp_sg I κ c (lf c) 0 0 16 rfl) $$ [HO Htl Hrl Hrp Hrr]
  · isplitr; · iexact He
    isplitl [HO]; · iexact HO
    isplitl [Htl]; · iexact Htl
    iapply (Entails.of_eq (show bar0P (lf c) = barPay 0 0 (lf c) from rfl))
    rw [bar0P_of]
    isplitl [Hrl]; · iexists _; iexact Hrl
    isplitl [Hrp]; · iexists _; iexact Hrp
    isplitl [Hrr]; · iexists _; iexact Hrr
    isplitr; · iexact Hr5
    isplitr; · iexact Hr6
    iexact Hr7
  iintro HO
  iapply (wp_sg I κ c (rt c) 0 1 15 rfl) $$ [HO Htr]
  · isplitr; · iexact He
    isplitl [HO]; · iexact HO
    isplitl [Htr]; · iexact Htr
    iapply (Entails.of_eq (show iprop(emp) = barPay 0 1 (rt c) from rfl))
    iempintro
  iintro HO
  iapply (wp_bw I κ c 0 15 (by decide)) $$ [Hcb HO Hab]
  · isplitr; · iexact He
    isplitl [Hcb]; · iexact Hcb
    isplitl [HO]; · iexact HO
    iexact Hab
  iintro ⟨Hp, -, HO, Hab⟩
  ihave Hp' := (Entails.of_eq (show barPay (0 : Sem sig).val 0 c = bar0P c from rfl)) $$ Hp
  unfold bar0P
  icases Hp' with ⟨Hd0, Hd1, Hd2, #Hq5, #Hq6, #Hq7⟩
  -- the own routes go to their place
  iapply (wp_ldw c (Memref.whole cc0_stg0_0) fullShare (I.ro c)) $$ Hin
  iintro Hin
  iapply (wp_ld c rM (rS c) fullShare f (r := Rect.unit (s := S64x128) (k0_off1 c) S16x128.size (k0_off1_inb c)) (Finset.subset_of_eq (rS_of c _ _ (by revert c; decide)))) $$ Hro
  iintro Hro
  iapply (wp_st c rM (rS c) f (r := Rect.unit (s := S64x128) (k0_off1 c) S16x128.size (k0_off1_inb c)) (Finset.subset_of_eq (rS_of c _ _ (by revert c; decide)))) $$ Hro
  iintro Hro
  ihave Hro := (RG_ent I c f) $$ Hro
  iapply (wp_send I κ c (rt c) (dev0_3 c (k0_dev3_lt c)) 2 5 14 (set_vR0 c) (RG I) rfl rfl rfl rfl rfl rfl
    (by show rP (rt c) (rS (lf (rt c))) fullShare (RG I) = _; rw [lf_rt])) $$ [Hro Hd0 HO Ht2 Ht5]
  · isplitr; · iexact He
    isplitl [Hro]; · iexact Hro
    isplitl [Hd0]; · iexact Hd0
    isplitl [HO]; · iexact HO
    isplitl [Ht2]; · iexact Ht2
    isplitr; · iexact Hr2
    isplitl [Ht5]; · iexact Ht5
    iexact Hq5
  iintro ⟨Hc2, HO⟩
  iapply (wp_wt I κ c 2 14 (rP c (rS c) fullShare (RG I)) (dst := vR0 c) rfl rfl (by decide) rfl) $$ [Hc2 HO Ha2]
  · isplitr; · iexact He
    isplitl [Hc2]; · iexact Hc2
    isplitl [HO]; · iexact HO
    iexact Ha2
  iintro ⟨Hro, HO, Ha2⟩
  iapply (wp_wt I κ c 5 14 (rP c (rS (lf c)) fullShare (RG I)) (dst := vR0 c) rfl rfl (by decide) rfl) $$ [Hc5 HO Ha5]
  · isplitr; · iexact He
    isplitl [Hc5]; · iexact Hc5
    isplitl [HO]; · iexact HO
    iexact Ha5
  iintro ⟨Hrl, HO, Ha5⟩
  -- second hop
  iapply (wp_send I κ c (rt c) (dev0_4 c (k0_dev4_lt c)) 3 6 13 (set_vR1 c) (RG I) rfl rfl rfl rfl rfl rfl
    (by show rP (rt c) (rS (op (rt c))) fullShare (RG I) = _; rw [op_rt])) $$ [Hrl Hd1 HO Ht3 Ht6]
  · isplitr; · iexact He
    isplitl [Hrl]; · iexact Hrl
    isplitl [Hd1]; · iexact Hd1
    isplitl [HO]; · iexact HO
    isplitl [Ht3]; · iexact Ht3
    isplitr; · iexact Hr3
    isplitl [Ht6]; · iexact Ht6
    iexact Hq6
  iintro ⟨Hc3, HO⟩
  iapply (wp_wt I κ c 3 13 (rP c (rS (lf c)) fullShare (RG I)) (dst := vR1 c) rfl rfl (by decide) rfl) $$ [Hc3 HO Ha3]
  · isplitr; · iexact He
    isplitl [Hc3]; · iexact Hc3
    isplitl [HO]; · iexact HO
    iexact Ha3
  iintro ⟨Hrl, HO, Ha3⟩
  iapply (wp_wt I κ c 6 13 (rP c (rS (op c)) fullShare (RG I)) (dst := vR1 c) rfl rfl (by decide) rfl) $$ [Hc6 HO Ha6]
  · isplitr; · iexact He
    isplitl [Hc6]; · iexact Hc6
    isplitl [HO]; · iexact HO
    iexact Ha6
  iintro ⟨Hrp, HO, Ha6⟩
  -- third hop
  iapply (wp_send I κ c (rt c) (dev0_5 c (k0_dev5_lt c)) 4 7 12 (set_vR2 c) (RG I) rfl rfl rfl rfl rfl rfl
    (by show rP (rt c) (rS (rt (rt c))) fullShare (RG I) = _; rw [rt_rt])) $$ [Hrp Hd2 HO Ht4 Ht7]
  · isplitr; · iexact He
    isplitl [Hrp]; · iexact Hrp
    isplitl [Hd2]; · iexact Hd2
    isplitl [HO]; · iexact HO
    isplitl [Ht4]; · iexact Ht4
    isplitr; · iexact Hr4
    isplitl [Ht7]; · iexact Ht7
    iexact Hq7
  iintro ⟨Hc4, HO⟩
  iapply (wp_wt I κ c 4 12 (rP c (rS (op c)) fullShare (RG I)) (dst := vR2 c) rfl rfl (by decide) rfl) $$ [Hc4 HO Ha4]
  · isplitr; · iexact He
    isplitl [Hc4]; · iexact Hc4
    isplitl [HO]; · iexact HO
    iexact Ha4
  iintro ⟨Hrp, HO, Ha4⟩
  iapply (wp_wt I κ c 7 12 (rP c (rS (rt c)) fullShare (RG I)) (dst := vR2 c) rfl rfl (by decide) rfl) $$ [Hc7 HO Ha7]
  · isplitr; · iexact He
    isplitl [Hc7]; · iexact Hc7
    isplitl [HO]; · iexact HO
    iexact Ha7
  iintro ⟨Hrr, HO, Ha7⟩
  -- the semaphores close
  rw [wp_ret]
  imod (close1 I κ c (.reg 0) rfl (by decide)) $$ [Hab] with Hab
  · isplitr; · iexact He
    iexact Hab
  imod (close1 I κ c (.dma 2) rfl (by decide)) $$ [Ha2] with Ha2
  · isplitr; · iexact He
    iexact Ha2
  imod (close1 I κ c (.dma 3) rfl (by decide)) $$ [Ha3] with Ha3
  · isplitr; · iexact He
    iexact Ha3
  imod (close1 I κ c (.dma 4) rfl (by decide)) $$ [Ha4] with Ha4
  · isplitr; · iexact He
    iexact Ha4
  imod (close1 I κ c (.dma 5) rfl (by decide)) $$ [Ha5] with Ha5
  · isplitr; · iexact He
    iexact Ha5
  imod (close1 I κ c (.dma 6) rfl (by decide)) $$ [Ha6] with Ha6
  · isplitr; · iexact He
    iexact Ha6
  imod (close1 I κ c (.dma 7) rfl (by decide)) $$ [Ha7] with Ha7
  · isplitr; · iexact He
    iexact Ha7
  imodintro
  iapply Hk
  unfold post0
  isplitl [HO]; · iexact HO
  isplitl [Hab]; · iexact Hab
  isplitl [Ha2 Ha3 Ha4 Ha5 Ha6 Ha7]
  · isplitl [Ha2]; · iexact Ha2
    isplitl [Ha3]; · iexact Ha3
    isplitl [Ha4]; · iexact Ha4
    isplitl [Ha5]; · iexact Ha5
    isplitl [Ha6]; · iexact Ha6
    iexact Ha7
  isplitl [Hin]; · iexact Hin
  iapply (rP_join c (RG I))
  isplitl [Hro]; · iexact Hro
  isplitl [Hrl]; · iexact Hrl
  isplitl [Hrp]; · iexact Hrp
  iexact Hrr

end Cert.KernelIdeal.Net
-- ==== Proof.Parts.lean ====
/-
  Call 1's buffers in parts, and the copies of the weights.
  How the gathered activations and the expert results fall into rows of devices, halves and shares; what the stores leave
  in them; and one copy of an expert's weights with its wait.
-/
module

public import proofs.«01_k».proof.Proof.Call0

@[expose] public section

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (κ : GSem nD τ sig → ℕ) (c : Dev nD)

/-! ## Rows of devices in `cc1_scratch0` -/

theorem mem_xS (d : Dev nD) (i : S8192x1024.Idx) : i ∈ xS d ↔ (i 0).val / 2048 = d.val := by simp [xS]
theorem mem_xSl (d : Dev nD) (i : S8192x1024.Idx) : i ∈ xSl d ↔ ((i 0).val / 2048 = d.val ∧ (i 1).val / 512 = 0) := by simp [xSl]
theorem mem_xSr (d : Dev nD) (i : S8192x1024.Idx) : i ∈ xSr d ↔ ((i 0).val / 2048 = d.val ∧ (i 1).val / 512 = 1) := by simp [xSr]
/-- All rows but device `c`'s; of these all but the left neighbour's. -/
def xS3 (c : Dev nD) : Finset S8192x1024.Idx := Finset.univ.filter fun i => (i 0).val / 2048 ≠ c.val
def xS2 (c : Dev nD) : Finset S8192x1024.Idx := Finset.univ.filter fun i => (i 0).val / 2048 = (rt c).val ∨ (i 0).val / 2048 = (op c).val
theorem mem_xS3 (c : Dev nD) (i : S8192x1024.Idx) : i ∈ xS3 c ↔ (i 0).val / 2048 ≠ c.val := by simp [xS3]
theorem mem_xS2 (c : Dev nD) (i : S8192x1024.Idx) : i ∈ xS2 c ↔ ((i 0).val / 2048 = (rt c).val ∨ (i 0).val / 2048 = (op c).val) := by simp [xS2]

theorem xP_two {A B C : Finset S8192x1024.Idx} (q : PosShare TreeShare) (f : Vec F S8192x1024 .bf16) (hC : ∀ i, i ∈ C ↔ (i ∈ A ∨ i ∈ B)) (h : ∀ i ∈ A, i ∉ B) :
    (xP c C q f : sProp 𝕄) ⊣⊢ iprop(xP c A q f ∗ xP c B q f) := pts_two (ℓ := (c : Thread nD τ).loc cc1_scratch0) q f hC h
theorem xP_1 (f : Vec F S8192x1024 .bf16) : (xP c Finset.univ fullShare f : sProp 𝕄) ⊣⊢ iprop(xP c (xS c) fullShare f ∗ xP c (xS3 c) fullShare f) := by
  refine xP_two c fullShare f (fun i => ?_) (fun i => ?_) <;> simp only [mem_xS, mem_xS3, Finset.mem_univ, true_iff] <;> omega
theorem xP_2 (f : Vec F S8192x1024 .bf16) : (xP c (xS3 c) fullShare f : sProp 𝕄) ⊣⊢ iprop(xP c (xS (lf c)) fullShare f ∗ xP c (xS2 c) fullShare f) := by
  have : c.val < 4 := c.isLt
  refine xP_two c fullShare f (fun i => ?_) (fun i => ?_) <;> have := bX i <;> simp only [mem_xS, mem_xS2, mem_xS3, lf_val, rt_val, op_val] <;> omega
theorem xP_3 (f : Vec F S8192x1024 .bf16) : (xP c (xS2 c) fullShare f : sProp 𝕄) ⊣⊢ iprop(xP c (xS (rt c)) fullShare f ∗ xP c (xS (op c)) fullShare f) := by
  have : c.val < 4 := c.isLt
  refine xP_two c fullShare f (fun i => ?_) (fun i => ?_) <;> simp only [mem_xS, mem_xS2, lf_val, rt_val, op_val] <;> omega
/-- The whole buffer is the rows of the four devices. -/
theorem xP_split (f : Vec F S8192x1024 .bf16) :
    (xP c Finset.univ fullShare f : sProp 𝕄)
      ⊢ iprop(xP c (xS c) fullShare f ∗ xP c (xS (lf c)) fullShare f ∗ xP c (xS (rt c)) fullShare f ∗ xP c (xS (op c)) fullShare f) :=
  (xP_1 c f).1.trans (sep_mono_right ((xP_2 c f).1.trans (sep_mono_right (xP_3 c f).1)))
theorem xP_join (f : Vec F S8192x1024 .bf16) :
    iprop(xP c (xS c) fullShare f ∗ xP c (xS (lf c)) fullShare f ∗ xP c (xS (rt c)) fullShare f ∗ xP c (xS (op c)) fullShare f)
      ⊢ (xP c Finset.univ fullShare f : sProp 𝕄) :=
  (sep_mono_right ((sep_mono_right (xP_3 c f).2).trans (xP_2 c f).2)).trans (xP_1 c f).2
/-- The rows of device `d` are their two halves. -/
theorem xP_lr (d : Dev nD) (q : PosShare TreeShare) (f : Vec F S8192x1024 .bf16) :
    (xP c (xS d) q f : sProp 𝕄) ⊣⊢ iprop(xP c (xSl d) q f ∗ xP c (xSr d) q f) := by
  refine xP_two c q f (fun i => ?_) (fun i => ?_) <;> have := bX i <;> simp only [mem_xS, mem_xSl, mem_xSr] <;> omega
/-- A part held whole is two shares of it; the second share is two again. -/
theorem xP_q (S : Finset S8192x1024.Idx) (f : Vec F S8192x1024 .bf16) : (xP c S fullShare f : sProp 𝕄) ⊣⊢ iprop(xP c S qL f ∗ xP c S qR f) :=
  pointsTo_share (ℓ := (c : Thread nD τ).loc cc1_scratch0) (PosShare.mem_left_op_right fullShare)
theorem xP_qq (S : Finset S8192x1024.Idx) (f : Vec F S8192x1024 .bf16) : (xP c S qR f : sProp 𝕄) ⊣⊢ iprop(xP c S qRL f ∗ xP c S qRR f) :=
  pointsTo_share (ℓ := (c : Thread nD τ).loc cc1_scratch0) (PosShare.mem_left_op_right fullShare.right)

/-! ## Rows of devices in `cc1_scratch1` -/

theorem mem_yS (d : Dev nD) (i : S6656x1024.Idx) : i ∈ yS d ↔ (i 0).val / 1664 = d.val := by simp [yS]
theorem mem_ySl (d : Dev nD) (i : S6656x1024.Idx) : i ∈ ySl d ↔ ((i 0).val / 1664 = d.val ∧ (i 1).val / 512 = 0) := by simp [ySl]
theorem mem_ySr (d : Dev nD) (i : S6656x1024.Idx) : i ∈ ySr d ↔ ((i 0).val / 1664 = d.val ∧ (i 1).val / 512 = 1) := by simp [ySr]
theorem mem_ySu (d : Dev nD) (i : S6656x1024.Idx) : i ∈ ySu d ↔ ((i 0).val / 1664 = d.val ∧ (i 0).val % 1664 / 832 = 0) := by simp [ySu]
theorem mem_ySv (d : Dev nD) (i : S6656x1024.Idx) : i ∈ ySv d ↔ ((i 0).val / 1664 = d.val ∧ (i 0).val % 1664 / 832 = 1) := by simp [ySv]
/-- All rows but device `c`'s; of these all but the left neighbour's. -/
def yS3 (c : Dev nD) : Finset S6656x1024.Idx := Finset.univ.filter fun i => (i 0).val / 1664 ≠ c.val
def yS2 (c : Dev nD) : Finset S6656x1024.Idx := Finset.univ.filter fun i => (i 0).val / 1664 = (rt c).val ∨ (i 0).val / 1664 = (op c).val
theorem mem_yS3 (c : Dev nD) (i : S6656x1024.Idx) : i ∈ yS3 c ↔ (i 0).val / 1664 ≠ c.val := by simp [yS3]
theorem mem_yS2 (c : Dev nD) (i : S6656x1024.Idx) : i ∈ yS2 c ↔ ((i 0).val / 1664 = (rt c).val ∨ (i 0).val / 1664 = (op c).val) := by simp [yS2]

theorem yP_two {A B C : Finset S6656x1024.Idx} (q : PosShare TreeShare) (f : Vec F S6656x1024 .bf16) (hC : ∀ i, i ∈ C ↔ (i ∈ A ∨ i ∈ B)) (h : ∀ i ∈ A, i ∉ B) :
    (yP c C q f : sProp 𝕄) ⊣⊢ iprop(yP c A q f ∗ yP c B q f) := pts_two (ℓ := (c : Thread nD τ).loc cc1_scratch1) q f hC h
theorem yP_1 (f : Vec F S6656x1024 .bf16) : (yP c Finset.univ fullShare f : sProp 𝕄) ⊣⊢ iprop(yP c (yS c) fullShare f ∗ yP c (yS3 c) fullShare f) := by
  refine yP_two c fullShare f (fun i => ?_) (fun i => ?_) <;> simp only [mem_yS, mem_yS3, Finset.mem_univ, true_iff] <;> omega
theorem yP_2 (f : Vec F S6656x1024 .bf16) : (yP c (yS3 c) fullShare f : sProp 𝕄) ⊣⊢ iprop(yP c (yS (lf c)) fullShare f ∗ yP c (yS2 c) fullShare f) := by
  have : c.val < 4 := c.isLt
  refine yP_two c fullShare f (fun i => ?_) (fun i => ?_) <;> have := bY i <;> simp only [mem_yS, mem_yS2, mem_yS3, lf_val, rt_val, op_val] <;> omega
theorem yP_3 (f : Vec F S6656x1024 .bf16) : (yP c (yS2 c) fullShare f : sProp 𝕄) ⊣⊢ iprop(yP c (yS (rt c)) fullShare f ∗ yP c (yS (op c)) fullShare f) := by
  have : c.val < 4 := c.isLt
  refine yP_two c fullShare f (fun i => ?_) (fun i => ?_) <;> simp only [mem_yS, mem_yS2, lf_val, rt_val, op_val] <;> omega
/-- The whole buffer is the rows of the four devices. -/
theorem yP_split (f : Vec F S6656x1024 .bf16) :
    (yP c Finset.univ fullShare f : sProp 𝕄)
      ⊢ iprop(yP c (yS c) fullShare f ∗ yP c (yS (lf c)) fullShare f ∗ yP c (yS (rt c)) fullShare f ∗ yP c (yS (op c)) fullShare f) :=
  (yP_1 c f).1.trans (sep_mono_right ((yP_2 c f).1.trans (sep_mono_right (yP_3 c f).1)))
theorem yP_join (f : Vec F S6656x1024 .bf16) :
    iprop(yP c (yS c) fullShare f ∗ yP c (yS (lf c)) fullShare f ∗ yP c (yS (rt c)) fullShare f ∗ yP c (yS (op c)) fullShare f)
      ⊢ (yP c Finset.univ fullShare f : sProp 𝕄) :=
  (sep_mono_right ((sep_mono_right (yP_3 c f).2).trans (yP_2 c f).2)).trans (yP_1 c f).2
/-- The rows of device `d` are their two halves. -/
theorem yP_lr (d : Dev nD) (q : PosShare TreeShare) (f : Vec F S6656x1024 .bf16) :
    (yP c (yS d) q f : sProp 𝕄) ⊣⊢ iprop(yP c (ySl d) q f ∗ yP c (ySr d) q f) := by
  refine yP_two c q f (fun i => ?_) (fun i => ?_) <;> have := bY i <;> simp only [mem_yS, mem_ySl, mem_ySr] <;> omega
/-- The rows of device `d` are their two halves. -/
theorem yP_uv (d : Dev nD) (q : PosShare TreeShare) (f : Vec F S6656x1024 .bf16) :
    (yP c (yS d) q f : sProp 𝕄) ⊣⊢ iprop(yP c (ySu d) q f ∗ yP c (ySv d) q f) := by
  refine yP_two c q f (fun i => ?_) (fun i => ?_) <;> have := bY i <;> simp only [mem_yS, mem_ySu, mem_ySv] <;> omega
/-- A part held whole is two shares of it; the second share is two again. -/
theorem yP_q (S : Finset S6656x1024.Idx) (f : Vec F S6656x1024 .bf16) : (yP c S fullShare f : sProp 𝕄) ⊣⊢ iprop(yP c S qL f ∗ yP c S qR f) :=
  pointsTo_share (ℓ := (c : Thread nD τ).loc cc1_scratch1) (PosShare.mem_left_op_right fullShare)
theorem yP_qq (S : Finset S6656x1024.Idx) (f : Vec F S6656x1024 .bf16) : (yP c S qR f : sProp 𝕄) ⊣⊢ iprop(yP c S qRL f ∗ yP c S qRR f) :=
  pointsTo_share (ℓ := (c : Thread nD τ).loc cc1_scratch1) (PosShare.mem_left_op_right fullShare.right)

/-! ## What the stores leave -/

/-- The own activations, as stored, are the gathered ones in the own rows. -/
theorem XG_own (f : Vec F S8192x1024 .bf16) : ∀ i ∈ xS c,
    (xM.access (Rect.unit (s := S8192x1024) (k1_off1 c) S2048x1024.size (k1_off1_inb c))).write (Elt F) f (k1_pay2 (F := F) (I.xx c)) Finset.univ i = XG I i := by
  intro i hi
  have hd : dX i = c := Fin.ext ((mem_xS c i).mp hi)
  subst hd
  exact write_indep (F := F) (xM.access (Rect.unit (s := S8192x1024) (k1_off1 (dX i)) S2048x1024.size (k1_off1_inb (dX i)))) f zX _ i (by rw [xS_of (dX i) _ _ (by generalize dX i = d; revert d; decide)]; exact hi)
theorem XG_ent (f : Vec F S8192x1024 .bf16) :
    (xP c (xS c) fullShare ((xM.access (Rect.unit (s := S8192x1024) (k1_off1 c) S2048x1024.size (k1_off1_inb c))).write (Elt F) f
      (k1_pay2 (F := F) (((Memref.whole cc1_stg0_0).access (Rect.unit (s := S2048x1024) ![0, 0] S2048x1024.size inb_S2048x1024_S2048x1024_0_0)).read (Elt F) (I.xx c))) Finset.univ) : sProp 𝕄)
      ⊢ xP c (xS c) fullShare (XG I) := by
  have h : ((Memref.whole cc1_stg0_0).access (Rect.unit (s := S2048x1024) ![0, 0] S2048x1024.size inb_S2048x1024_S2048x1024_0_0)).read (Elt F) (I.xx c) = I.xx c :=
    Memref.read_access_unit_zero (Elt F) cc1_stg0_0 zero2 inb_S2048x1024_S2048x1024_0_0 (I.xx c)
  rw [h]
  exact Entails.of_eq (pointsTo_congr (XG_own I c f))
/-- The own rows of the results, cleared. -/
theorem Y0_ent (f : Vec F S6656x1024 .bf16) :
    (yP c (yS c) fullShare ((yM.access (Rect.unit (s := S6656x1024) (k1_off3 c) S1664x1024.size (k1_off3_inb c))).write (Elt F) f (k1_pay3 (F := F)) Finset.univ) : sProp 𝕄)
      ⊢ yP c (yS c) fullShare (Y0 c) := by
  refine Entails.of_eq (pointsTo_congr fun i hi => ?_)
  exact write_indep (F := F) (yM.access (Rect.unit (s := S6656x1024) (k1_off3 c) S1664x1024.size (k1_off3_inb c))) f zY _ i (by rw [yS_of c _ _ (k1_off3_eq c)]; exact hi)
/-- The upper half after the first products, the lower half after the last. -/
theorem YG_u (q : PosShare TreeShare) : (yP c (ySu c) q (Y5 I c) : sProp 𝕄) ⊢ yP c (ySu c) q (YG I) := by
  refine Entails.of_eq (pointsTo_congr fun i hi => ?_)
  obtain ⟨h1, h2⟩ := (mem_ySu c i).mp hi
  have hd : dY i = c := Fin.ext h1
  unfold YG; rw [if_pos h2, hd]
theorem YG_v (q : PosShare TreeShare) : (yP c (ySv c) q (Y6 I c) : sProp 𝕄) ⊢ yP c (ySv c) q (YG I) := by
  refine Entails.of_eq (pointsTo_congr fun i hi => ?_)
  obtain ⟨h1, h2⟩ := (mem_ySv c i).mp hi
  have hd : dY i = c := Fin.ext h1
  unfold YG; rw [if_neg (by omega), hd]

/-! ## What the copies raise their semaphores by -/

/-- It depends on the buffer and the shape alone. -/
theorem credit_slice {sp : Space} {s : Shape} {e : EltTy} (m : Memref sig .tc sp s e) (off size : Fin s.rank → ℕ) (inb) (h) :
    (m.slice (Rect.unit (s := s) off size inb) h).view.dmaCredit = sig.dmaCredit .tc (Kind.table .tc sp) m.view.buf ⟨s.rank, size⟩ e := rfl
theorem crX : (vX c).view.dmaCredit = NX :=
  (credit_slice xM (k1_off2 c) S2048x1024.size (k1_off2_inb c) (fun _ => rfl)).trans (credit_slice xM (k1_off2 0) S2048x1024.size (k1_off2_inb 0) (fun _ => rfl)).symm
theorem crXl : (vXl c).view.dmaCredit = NXh :=
  (credit_slice xM (k1_off7 c) S2048x512.size (k1_off7_inb c) (fun _ => rfl)).trans (credit_slice xM (k1_off7 0) S2048x512.size (k1_off7_inb 0) (fun _ => rfl)).symm
theorem crXr : (vXr c).view.dmaCredit = NXh :=
  (credit_slice xM (k1_off8 c) S2048x512.size (k1_off8_inb c) (fun _ => rfl)).trans (credit_slice xM (k1_off7 0) S2048x512.size (k1_off7_inb 0) (fun _ => rfl)).symm
theorem crYu : (vYu c).view.dmaCredit = NYh :=
  (credit_slice yM (k1_off19 c) S832x1024.size (k1_off19_inb c) (fun _ => rfl)).trans (credit_slice yM (k1_off19 0) S832x1024.size (k1_off19_inb 0) (fun _ => rfl)).symm
theorem crYv : (vYv c).view.dmaCredit = NYh :=
  (credit_slice yM (k1_off22 c) S832x1024.size (k1_off22_inb c) (fun _ => rfl)).trans (credit_slice yM (k1_off19 0) S832x1024.size (k1_off19_inb 0) (fun _ => rfl)).symm
theorem crYl : (vYl c).view.dmaCredit = NYc :=
  (credit_slice yM (k1_off23 c) S1664x512.size (k1_off23_inb c) (fun _ => rfl)).trans (credit_slice yM (k1_off23 0) S1664x512.size (k1_off23_inb 0) (fun _ => rfl)).symm
theorem crYr : (vYr c).view.dmaCredit = NYc :=
  (credit_slice yM (k1_off24 c) S1664x512.size (k1_off24_inb c) (fun _ => rfl)).trans (credit_slice yM (k1_off23 0) S1664x512.size (k1_off23_inb 0) (fun _ => rfl)).symm

/-! ## The neighbours as the program names them -/

theorem dev1_1 (h) : (⟨k1_dev1 c, h⟩ : Dev nD) = lf c := by revert c; decide
theorem dev1_2 (h) : (⟨k1_dev2 c, h⟩ : Dev nD) = rt c := by revert c; decide
theorem dev1_3 (h) : (⟨k1_dev3 c, h⟩ : Dev nD) = rt c := by revert c; decide
theorem dev1_4 (h) : (⟨k1_dev4 c, h⟩ : Dev nD) = lf c := by revert c; decide
theorem dev1_5 (h) : (⟨k1_dev5 c, h⟩ : Dev nD) = rt c := by revert c; decide
theorem dev1_6 (h) : (⟨k1_dev6 c, h⟩ : Dev nD) = lf c := by revert c; decide
theorem dev1_7 (h) : (⟨k1_dev7 c, h⟩ : Dev nD) = rt c := by revert c; decide
theorem dev1_8 (h) : (⟨k1_dev8 c, h⟩ : Dev nD) = lf c := by revert c; decide
theorem dev1_9 (h) : (⟨k1_dev9 c, h⟩ : Dev nD) = rt c := by revert c; decide
theorem dev1_10 (h) : (⟨k1_dev10 c, h⟩ : Dev nD) = lf c := by revert c; decide
theorem dev1_11 (h) : (⟨k1_dev11 c, h⟩ : Dev nD) = rt c := by revert c; decide
theorem dev1_12 (h) : (⟨k1_dev12 c, h⟩ : Dev nD) = lf c := by revert c; decide

/-! ## One copy of an expert's weights -/

theorem wC_lo (k : Fin 4) : wC I c k.val = (vE k).view.read (Elt F) (I.ew c) := by
  unfold wC; rw [dif_pos k.isLt]
theorem eS_lo (k : Fin 4) : eS k.val = (vE k).view.set := by
  unfold eS; rw [dif_pos k.isLt]
theorem wC_hi (k : Fin 4) : wC I c (4 + k.val) = (vE' k).view.read (Elt F) (I.ew c) := by
  have h : 4 + k.val - 4 = k.val := by omega
  unfold wC; rw [dif_neg (by omega), dif_pos (by omega)]
  exact (by rintro _ _ rfl; rfl : ∀ (j : ℕ) (p : j < 4), j = k.val → (vE' ⟨j, p⟩).view.read (Elt F) (I.ew c) = (vE' k).view.read (Elt F) (I.ew c)) _ _ h
theorem eS_hi (k : Fin 4) : eS (4 + k.val) = (vE' k).view.set := by
  have h : 4 + k.val - 4 = k.val := by omega
  unfold eS; rw [dif_neg (by omega), dif_pos (by omega)]
  exact (by rintro _ _ rfl; rfl : ∀ (j : ℕ) (p : j < 4), j = k.val → (vE' ⟨j, p⟩).view.set = (vE' k).view.set) _ _ h

/-- The tokens of the `n` copies from round `r` on. -/
def ltk (c : Dev nD) : ℕ → ℕ → sProp 𝕄
  | _, 0 => iprop(emp)
  | r, n + 1 => iprop(dutyTok ER (dc c 13) r 0 ∗ ltk c (r + 1) n)
/-- Where the copies of the weights stand before round `r`. -/
def lres (c : Dev nD) (r : ℕ) : sProp 𝕄 := iprop(atPos ER (dc c 13) r ∅ 0 ∗ reached ER (dc c 13) r ∗ ltk c r (8 - r))

variable {α : Type}

/-- A copy of weights and its wait, in round `r`. -/
theorem wp_cw (r n : ℕ) (hr : r < 8) (hl : ∀ j < n, lvS (.dma 13) < dl (16 - j)) {src : Memref sig .tc .hbm S1024x1024 .f32} (fs : Buf (Elt F) (src.view.loc (c : Thread nD τ))) (R E : sProp 𝕄)
    (hE : E ⊣⊢ iprop((src.view.loc (c : Thread nD τ) ↦[src.view.set]{fullShare} fs) ∗ R))
    (hP : dmaPay I 13 r c = iprop(wP c (src.view.read (Elt F) fs) ∗ (src.view.loc (c : Thread nD τ) ↦[src.view.set]{fullShare} fs)))
    {h1} {h2} {h3} {h4} {h5} {kk : PUnit → Prog (TpuEff nD τ sig (Elt F) Λ₀ .tc) α} {Q : α → sProp 𝕄} :
    iprop(env I κ ∗ (∃ f, wP c f) ∗ E ∗ ow c n ∗ lres c r)
      ⊢ iprop(((wP c (src.view.read (Elt F) fs) ∗ E ∗ ow c n ∗ lres c (r + 1)) -∗ wp frame (wpE (defs₀ (F := F)) 𝒱₀ c none) Set.univ (kk ⟨⟩) Q)
        -∗ wp frame (wpE (defs₀ (F := F)) 𝒱₀ c none) Set.univ
          (.op (.enqueueDma src (.here wM) (.dma 13) h1 h2 h3) fun _ => .op (.waitDma2 (13 : DmaSem sig) src wM h4 h5) kk) Q) := by
  have hset : ∀ f : Vec F S1024x1024 .f32, (wP c f : sProp 𝕄) = (wM.view.loc (c : Thread nD τ) ↦[wM.view.set]{fullShare} f) :=
    fun f => congrArg (fun S => ((c : Thread nD τ).loc cc1_scratch2 ↦[S]{fullShare} f : sProp 𝕄)) (View.set_whole cc1_scratch2).symm
  have ht : (ltk c r (8 - r) : sProp 𝕄) = iprop(dutyTok ER (dc c 13) r 0 ∗ ltk c (r + 1) (8 - (r + 1))) := by
    rw [show 8 - r = (8 - (r + 1)) + 1 by omega]; rfl
  unfold ow lres
  rw [ht]
  iintro ⟨#He, ⟨%f, Hw⟩, HE, ⟨%W, HO⟩, Hat, #Hr, Ht, Htk⟩ Hk
  ihave HE' := hE.1 $$ HE
  icases HE' with ⟨Hs, HR⟩
  ihave Hw' := (Entails.of_eq (hset f)) $$ Hw
  iapply (Rounds.wp_copy_pointsTo 𝒱₀ ER (Rd I) (c : Thread nD τ) none (src := src) (dst := wM) (sem := .dma 13) (q := fullShare) (fs := fs) (fd := f) (r := r) (d := 0)
      (κ := κ (dc c 13)) (by rw [duties_loc I c r hr]; exact Finset.mem_singleton_self _) () NW rfl rfl
      (by
        show _ ⊢ dmaPay I 13 r c
        rw [hP, hset, View.write_whole_univ])) $$ [Hs Hw' Ht]
  · isplitr; · iapply (env_inv I κ c (.dma 13) rfl); iexact He
    isplitl [Hs]; · iexact Hs
    isplitl [Hw']; · iexact Hw'
    isplitl [Ht]; · iexact Ht
    iexact Hr
  iintro Hc
  iapply (Rounds.wp_wait_rest_token 𝒱₀ ER (Rd I) (c : Thread nD τ) none (κ := κ (dc c 13))
      (wpE_waitDma2_eq (src := src) (dst := wM) 𝒱₀ (c : Thread nD τ) none Set.univ) (Set.mem_univ _) () (O := rem c n) (W := W) (R := r) (m := 0) (T := ∅)
      (by rw [Nat.zero_add, expect_loc I c r hr]; rfl)) $$ [Hc HO Hat]
  · isplitr; · iapply (env_inv I κ c (.dma 13) rfl); iexact He
    isplitl [Hc]; · iexact Hc
    isplitl [HO]; · iexact HO
    isplitr; · iapply (env_wait I κ c (.dma 13) n hl); iexact He
    iexact Hat
  iintro ⟨HO, Hat, #Hr', Hpay⟩
  ihave Hp := (Entails.of_eq ((rest_loc I c r hr).trans hP)) $$ Hpay
  icases Hp with ⟨Hw, Hs⟩
  iapply Hk
  isplitl [Hw]; · iexact Hw
  isplitl [Hs HR]
  · iapply hE.2
    isplitl [Hs]; · iexact Hs
    iexact HR
  isplitl [HO]; · iexists _; iexact HO
  isplitl [Hat]; · iexact Hat
  isplitr; · iexact Hr'
  iexact Htk

/-- The copies of the first four experts' weights and of the last four's. -/
theorem wp_cw1 (k : Fin 4) {h1} {h2} {h3} {h4} {h5} {kk : PUnit → Prog (TpuEff nD τ sig (Elt F) Λ₀ .tc) α} {Q : α → sProp 𝕄} :
    iprop(env I κ ∗ (∃ f, wP c f) ∗ eP c Finset.univ (I.ew c) ∗ ow c 6 ∗ lres c k.val)
      ⊢ iprop(((wP c ((vE k).view.read (Elt F) (I.ew c)) ∗ eP c Finset.univ (I.ew c) ∗ ow c 6 ∗ lres c (k.val + 1)) -∗ wp frame (wpE (defs₀ (F := F)) 𝒱₀ c none) Set.univ (kk ⟨⟩) Q)
        -∗ wp frame (wpE (defs₀ (F := F)) 𝒱₀ c none) Set.univ
          (.op (.enqueueDma (vE k) (.here wM) (.dma 13) h1 h2 h3) fun _ => .op (.waitDma2 (13 : DmaSem sig) (vE k) wM h4 h5) kk) Q) :=
  wp_cw I κ c k.val 6 (by omega) (by decide) (src := vE k) (I.ew c) (eP c (Finset.univ \ (vE k).view.set) (I.ew c)) (eP c Finset.univ (I.ew c))
    (pointsTo_split_subset (Finset.subset_univ _)) (by rw [← wC_lo, ← eS_lo]; rfl)
theorem wp_cw2 (k : Fin 4) {h1} {h2} {h3} {h4} {h5} {kk : PUnit → Prog (TpuEff nD τ sig (Elt F) Λ₀ .tc) α} {Q : α → sProp 𝕄} :
    iprop(env I κ ∗ (∃ f, wP c f) ∗ eP c Finset.univ (I.ew c) ∗ ow c 4 ∗ lres c (4 + k.val))
      ⊢ iprop(((wP c ((vE' k).view.read (Elt F) (I.ew c)) ∗ eP c Finset.univ (I.ew c) ∗ ow c 4 ∗ lres c (4 + k.val + 1)) -∗ wp frame (wpE (defs₀ (F := F)) 𝒱₀ c none) Set.univ (kk ⟨⟩) Q)
        -∗ wp frame (wpE (defs₀ (F := F)) 𝒱₀ c none) Set.univ
          (.op (.enqueueDma (vE' k) (.here wM) (.dma 13) h1 h2 h3) fun _ => .op (.waitDma2 (13 : DmaSem sig) (vE' k) wM h4 h5) kk) Q) :=
  wp_cw I κ c (4 + k.val) 4 (by omega) (by decide) (src := vE' k) (I.ew c) (eP c (Finset.univ \ (vE' k).view.set) (I.ew c)) (eP c Finset.univ (I.ew c))
    (pointsTo_split_subset (Finset.subset_univ _)) (by rw [← wC_hi, ← eS_hi]; rfl)

end Cert.KernelIdeal.Net
-- ==== Proof.Trips.lean ====
/-
  Call 1's six counted loops: each trip reads its tile (and the tokens' rows, or an expert's weights) and replaces the tile.
-/
module

public import proofs.«01_k».proof.Proof.Parts

@[expose] public section

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (κ : GSem nD τ sig → ℕ) (c : Dev nD)

/-- A tile inside the rows of device `d`, and inside their lower half. -/
theorem tile_sub (d : Dev nD) (n : ℕ) (off) (inb) (h : off = ![1664 * d.val + n, 0]) (hn : n + 208 ≤ 1664) :
    (yM.access (Rect.unit (s := S6656x1024) off S208x1024.size inb)).set ⊆ yS d := by
  subst h
  intro i; have := bY i
  rw [mem_rY, mem_yS]
  simp only [Matrix.cons_val_zero, Matrix.cons_val_one]
  rintro ⟨⟨h1, h2⟩, -⟩
  have h3 : S208x1024.size 0 = 208 := rfl
  omega
theorem tile_subv (d : Dev nD) (n : ℕ) (off) (inb) (h : off = ![1664 * d.val + n + 832, 0]) (hn : n + 208 ≤ 832) :
    (yM.access (Rect.unit (s := S6656x1024) off S208x1024.size inb)).set ⊆ ySv d := by
  subst h
  intro i; have := bY i
  rw [mem_rY, mem_ySv]
  simp only [Matrix.cons_val_zero, Matrix.cons_val_one]
  rintro ⟨⟨h1, h2⟩, -⟩
  have h3 : S208x1024.size 0 = 208 := rfl
  omega

variable {α : Type}

/-- A counted loop whose trips step some contents: what holds before the first trip, of the contents at first, holds
    after the last of the contents stepped so often. -/
theorem for_steps {w : ℕ} {β : Type} (lb ub s : BitVec w) (hok : Scf.OK lb ub s) (N : ℕ) (hN : Scf.trips lb ub s = N)
    (body : Fin (Scf.trips lb ub s) → Unit → Prog (TpuEff nD τ sig (Elt F) Λ₀ .tc) Unit) (stp : Fin (Scf.trips lb ub s) → β → β) (y : β) (J : ℕ → β → sProp 𝕄)
    (hbody : ∀ k f (Q : Unit → sProp 𝕄), iprop(J k.val f ∗ (J (k.val + 1) (stp k f) -∗ Q ⟨⟩)) ⊢ wp frame (wpE (defs₀ (F := F)) 𝒱₀ c none) Set.univ (body k ⟨⟩) Q)
    {kk : Unit → Prog (TpuEff nD τ sig (Elt F) Λ₀ .tc) α} {Q : α → sProp 𝕄} :
    J 0 y ⊢ iprop((J N (steps stp y N) -∗ wp frame (wpE (defs₀ (F := F)) 𝒱₀ c none) Set.univ (kk ⟨⟩) Q)
        -∗ wp frame (wpE (defs₀ (F := F)) 𝒱₀ c none) Set.univ (Scf.for lb ub s hok ⟨⟩ body >>= kk) Q) := by
  subst hN
  have h := Scf.wp_for_bind frame (wpE (defs₀ (F := F)) 𝒱₀ c none) Set.univ lb ub s hok ⟨⟩ body (fun k _ => J k (steps stp y k))
    (fun k acc => by
      iintro H
      iapply (hbody k (steps stp y k.val) (fun _ => J (k.val + 1) (steps stp y (k.val + 1))))
      isplitl [H]; · iexact H
      rw [steps_succ]
      iintro H; iexact H) (kk := kk) (Q := Q)
  refine (Entails.of_eq (show J 0 y = J 0 (steps stp y 0) from rfl)).trans ?_
  iintro H Hk
  iapply h $$ H
  iintro %acc
  iexact Hk

theorem trip1 (k : Fin k1_t1_loop.trips) (q : PosShare TreeShare) (f : Vec F S6656x1024 .bf16) (v5 : BitVec 32) (Q : Unit → sProp 𝕄) :
    iprop((yP c (yS c) fullShare f ∗ xP c (xS (c)) q (XG I)) ∗ ((yP c (yS c) fullShare (st1 I c k f) ∗ xP c (xS (c)) q (XG I)) -∗ Q ⟨⟩))
      ⊢ wp frame (wpE (defs₀ (F := F)) 𝒱₀ c none) Set.univ (k1_t1_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 ((rrM.access (Rect.unit (s := S1x8192) (k1_off4 c) S1x2048.size (k1_off4_inb c))).read (Elt F) (I.rr c)) ((rkM.access (Rect.unit (s := S1x8192) (k1_off4 c) S1x2048.size (k1_off4_inb c))).read (Elt F) (I.rk c)) k ⟨⟩) Q := by
  simp only [k1_t1_body, Prog.lift, Prog.bind_op, Prog.bind_ret, Prog.pure_eq_ret]
  iintro ⟨⟨Hy, Hx⟩, Hk⟩
  iapply (wp_ld c yM (yS c) fullShare f (r := Rect.unit (s := S6656x1024) (k1_off5 c k) S208x1024.size (k1_off5_inb c k)) (tile_sub c (208 * k.val) _ _ (k1_off5_eq c k) (by have : k.val < 8 := k.isLt; omega))) $$ Hy
  iintro Hy
  iapply (wp_ld c xM (xS (c)) q (XG I) (r := Rect.unit (s := S8192x1024) (k1_off6 c) S2048x1024.size (k1_off6_inb c)) (Finset.subset_of_eq (xS_of (c) _ _ (k1_off6_eq c)))) $$ Hx
  iintro Hx
  iapply (wp_ld c yM (yS c) fullShare f (r := Rect.unit (s := S6656x1024) (k1_off5 c k) S208x1024.size (k1_off5_inb c k)) (tile_sub c (208 * k.val) _ _ (k1_off5_eq c k) (by have : k.val < 8 := k.isLt; omega))) $$ Hy
  iintro Hy
  iapply (wp_st c yM (yS c) f (r := Rect.unit (s := S6656x1024) (k1_off5 c k) S208x1024.size (k1_off5_inb c k)) (tile_sub c (208 * k.val) _ _ (k1_off5_eq c k) (by have : k.val < 8 := k.isLt; omega))) $$ Hy
  iintro Hy
  rw [wp_ret]
  imodintro
  iapply Hk
  isplitl [Hy]; · iexact Hy
  iexact Hx
/-- The loop over the tiles with the tokens of device `c`. -/
theorem loop1 (q : PosShare TreeShare) (v5 : BitVec 32) {kk : Unit → Prog (TpuEff nD τ sig (Elt F) Λ₀ .tc) α} {Q : α → sProp 𝕄} :
    iprop(yP c (yS c) fullShare (Y0 c) ∗ xP c (xS (c)) q (XG I))
      ⊢ iprop(((yP c (yS c) fullShare (Y1 I c) ∗ xP c (xS (c)) q (XG I)) -∗ wp frame (wpE (defs₀ (F := F)) 𝒱₀ c none) Set.univ (kk ⟨⟩) Q)
        -∗ wp frame (wpE (defs₀ (F := F)) 𝒱₀ c none) Set.univ (Scf.Loop.for k1_t1_loop k1_t1_ok ⟨⟩ (k1_t1_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 ((rrM.access (Rect.unit (s := S1x8192) (k1_off4 c) S1x2048.size (k1_off4_inb c))).read (Elt F) (I.rr c)) ((rkM.access (Rect.unit (s := S1x8192) (k1_off4 c) S1x2048.size (k1_off4_inb c))).read (Elt F) (I.rk c))) >>= kk) Q) :=
  for_steps c k1_t1_loop.lb k1_t1_loop.ub k1_t1_loop.st k1_t1_ok 8 (by decide) (k1_t1_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 ((rrM.access (Rect.unit (s := S1x8192) (k1_off4 c) S1x2048.size (k1_off4_inb c))).read (Elt F) (I.rr c)) ((rkM.access (Rect.unit (s := S1x8192) (k1_off4 c) S1x2048.size (k1_off4_inb c))).read (Elt F) (I.rk c))) (st1 I c) (Y0 c)
    (fun _ f => iprop(yP c (yS c) fullShare f ∗ xP c (xS (c)) q (XG I))) (fun k f Q => trip1 I c k q f v5 Q)
theorem trip2 (k : Fin k1_t2_loop.trips) (q : PosShare TreeShare) (f : Vec F S6656x1024 .bf16) (v5 v7 c1_i32_67 : BitVec 32) (Q : Unit → sProp 𝕄) :
    iprop((yP c (yS c) fullShare f ∗ xP c (xS (lf c)) q (XG I)) ∗ ((yP c (yS c) fullShare (st2 I c k f) ∗ xP c (xS (lf c)) q (XG I)) -∗ Q ⟨⟩))
      ⊢ wp frame (wpE (defs₀ (F := F)) 𝒱₀ c none) Set.univ (k1_t2_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c1_i32_67 ((rrM.access (Rect.unit (s := S1x8192) (k1_off9 c) S1x2048.size (k1_off9_inb c))).read (Elt F) (I.rr c)) ((rkM.access (Rect.unit (s := S1x8192) (k1_off9 c) S1x2048.size (k1_off9_inb c))).read (Elt F) (I.rk c)) k ⟨⟩) Q := by
  simp only [k1_t2_body, Prog.lift, Prog.bind_op, Prog.bind_ret, Prog.pure_eq_ret]
  iintro ⟨⟨Hy, Hx⟩, Hk⟩
  iapply (wp_ld c yM (yS c) fullShare f (r := Rect.unit (s := S6656x1024) (k1_off10 c k) S208x1024.size (k1_off10_inb c k)) (tile_sub c (208 * k.val) _ _ (k1_off10_eq c k) (by have : k.val < 8 := k.isLt; omega))) $$ Hy
  iintro Hy
  iapply (wp_ld c xM (xS (lf c)) q (XG I) (r := Rect.unit (s := S8192x1024) (k1_off11 c) S2048x1024.size (k1_off11_inb c)) (Finset.subset_of_eq (xS_of (lf c) _ _ (k1_off11_eq c)))) $$ Hx
  iintro Hx
  iapply (wp_ld c yM (yS c) fullShare f (r := Rect.unit (s := S6656x1024) (k1_off10 c k) S208x1024.size (k1_off10_inb c k)) (tile_sub c (208 * k.val) _ _ (k1_off10_eq c k) (by have : k.val < 8 := k.isLt; omega))) $$ Hy
  iintro Hy
  iapply (wp_st c yM (yS c) f (r := Rect.unit (s := S6656x1024) (k1_off10 c k) S208x1024.size (k1_off10_inb c k)) (tile_sub c (208 * k.val) _ _ (k1_off10_eq c k) (by have : k.val < 8 := k.isLt; omega))) $$ Hy
  iintro Hy
  rw [wp_ret]
  imodintro
  iapply Hk
  isplitl [Hy]; · iexact Hy
  iexact Hx
/-- The loop over the tiles with the tokens of device `lf c`. -/
theorem loop2 (q : PosShare TreeShare) (v5 v7 c1_i32_67 : BitVec 32) {kk : Unit → Prog (TpuEff nD τ sig (Elt F) Λ₀ .tc) α} {Q : α → sProp 𝕄} :
    iprop(yP c (yS c) fullShare (Y1 I c) ∗ xP c (xS (lf c)) q (XG I))
      ⊢ iprop(((yP c (yS c) fullShare (Y2 I c) ∗ xP c (xS (lf c)) q (XG I)) -∗ wp frame (wpE (defs₀ (F := F)) 𝒱₀ c none) Set.univ (kk ⟨⟩) Q)
        -∗ wp frame (wpE (defs₀ (F := F)) 𝒱₀ c none) Set.univ (Scf.Loop.for k1_t2_loop k1_t2_ok ⟨⟩ (k1_t2_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c1_i32_67 ((rrM.access (Rect.unit (s := S1x8192) (k1_off9 c) S1x2048.size (k1_off9_inb c))).read (Elt F) (I.rr c)) ((rkM.access (Rect.unit (s := S1x8192) (k1_off9 c) S1x2048.size (k1_off9_inb c))).read (Elt F) (I.rk c))) >>= kk) Q) :=
  for_steps c k1_t2_loop.lb k1_t2_loop.ub k1_t2_loop.st k1_t2_ok 8 (by decide) (k1_t2_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c1_i32_67 ((rrM.access (Rect.unit (s := S1x8192) (k1_off9 c) S1x2048.size (k1_off9_inb c))).read (Elt F) (I.rr c)) ((rkM.access (Rect.unit (s := S1x8192) (k1_off9 c) S1x2048.size (k1_off9_inb c))).read (Elt F) (I.rk c))) (st2 I c) (Y1 I c)
    (fun _ f => iprop(yP c (yS c) fullShare f ∗ xP c (xS (lf c)) q (XG I))) (fun k f Q => trip2 I c k q f v5 v7 c1_i32_67 Q)
theorem trip3 (k : Fin k1_t3_loop.trips) (q : PosShare TreeShare) (f : Vec F S6656x1024 .bf16) (v5 v7 c1_i32_67 : BitVec 32) (Q : Unit → sProp 𝕄) :
    iprop((yP c (yS c) fullShare f ∗ xP c (xS (rt c)) q (XG I)) ∗ ((yP c (yS c) fullShare (st3 I c k f) ∗ xP c (xS (rt c)) q (XG I)) -∗ Q ⟨⟩))
      ⊢ wp frame (wpE (defs₀ (F := F)) 𝒱₀ c none) Set.univ (k1_t3_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c1_i32_67 ((rrM.access (Rect.unit (s := S1x8192) (k1_off12 c 1#32) S1x2048.size (k1_off12_inb c 0))).read (Elt F) (I.rr c)) ((rkM.access (Rect.unit (s := S1x8192) (k1_off12 c 1#32) S1x2048.size (k1_off12_inb c 0))).read (Elt F) (I.rk c)) k ⟨⟩) Q := by
  simp only [k1_t3_body, Prog.lift, Prog.bind_op, Prog.bind_ret, Prog.pure_eq_ret]
  iintro ⟨⟨Hy, Hx⟩, Hk⟩
  iapply (wp_ld c yM (yS c) fullShare f (r := Rect.unit (s := S6656x1024) (k1_off13 c k) S208x1024.size (k1_off13_inb c k)) (tile_sub c (208 * k.val) _ _ (k1_off13_eq c k) (by have : k.val < 8 := k.isLt; omega))) $$ Hy
  iintro Hy
  iapply (wp_ld c xM (xS (rt c)) q (XG I) (r := Rect.unit (s := S8192x1024) (k1_off14 c) S2048x1024.size (k1_off14_inb c)) (Finset.subset_of_eq (xS_of (rt c) _ _ (k1_off14_eq c)))) $$ Hx
  iintro Hx
  iapply (wp_ld c yM (yS c) fullShare f (r := Rect.unit (s := S6656x1024) (k1_off13 c k) S208x1024.size (k1_off13_inb c k)) (tile_sub c (208 * k.val) _ _ (k1_off13_eq c k) (by have : k.val < 8 := k.isLt; omega))) $$ Hy
  iintro Hy
  iapply (wp_st c yM (yS c) f (r := Rect.unit (s := S6656x1024) (k1_off13 c k) S208x1024.size (k1_off13_inb c k)) (tile_sub c (208 * k.val) _ _ (k1_off13_eq c k) (by have : k.val < 8 := k.isLt; omega))) $$ Hy
  iintro Hy
  rw [wp_ret]
  imodintro
  iapply Hk
  isplitl [Hy]; · iexact Hy
  iexact Hx
/-- The loop over the tiles with the tokens of device `rt c`. -/
theorem loop3 (q : PosShare TreeShare) (v5 v7 c1_i32_67 : BitVec 32) {kk : Unit → Prog (TpuEff nD τ sig (Elt F) Λ₀ .tc) α} {Q : α → sProp 𝕄} :
    iprop(yP c (yS c) fullShare (Y2 I c) ∗ xP c (xS (rt c)) q (XG I))
      ⊢ iprop(((yP c (yS c) fullShare (Y3 I c) ∗ xP c (xS (rt c)) q (XG I)) -∗ wp frame (wpE (defs₀ (F := F)) 𝒱₀ c none) Set.univ (kk ⟨⟩) Q)
        -∗ wp frame (wpE (defs₀ (F := F)) 𝒱₀ c none) Set.univ (Scf.Loop.for k1_t3_loop k1_t3_ok ⟨⟩ (k1_t3_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c1_i32_67 ((rrM.access (Rect.unit (s := S1x8192) (k1_off12 c 1#32) S1x2048.size (k1_off12_inb c 0))).read (Elt F) (I.rr c)) ((rkM.access (Rect.unit (s := S1x8192) (k1_off12 c 1#32) S1x2048.size (k1_off12_inb c 0))).read (Elt F) (I.rk c))) >>= kk) Q) :=
  for_steps c k1_t3_loop.lb k1_t3_loop.ub k1_t3_loop.st k1_t3_ok 8 (by decide) (k1_t3_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c1_i32_67 ((rrM.access (Rect.unit (s := S1x8192) (k1_off12 c 1#32) S1x2048.size (k1_off12_inb c 0))).read (Elt F) (I.rr c)) ((rkM.access (Rect.unit (s := S1x8192) (k1_off12 c 1#32) S1x2048.size (k1_off12_inb c 0))).read (Elt F) (I.rk c))) (st3 I c) (Y2 I c)
    (fun _ f => iprop(yP c (yS c) fullShare f ∗ xP c (xS (rt c)) q (XG I))) (fun k f Q => trip3 I c k q f v5 v7 c1_i32_67 Q)
theorem trip4 (k : Fin k1_t4_loop.trips) (q : PosShare TreeShare) (f : Vec F S6656x1024 .bf16) (v5 v7 v9 : BitVec 32) (Q : Unit → sProp 𝕄) :
    iprop((yP c (yS c) fullShare f ∗ xP c (xS (op c)) q (XG I)) ∗ ((yP c (yS c) fullShare (st4 I c k f) ∗ xP c (xS (op c)) q (XG I)) -∗ Q ⟨⟩))
      ⊢ wp frame (wpE (defs₀ (F := F)) 𝒱₀ c none) Set.univ (k1_t4_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 v9 ((rrM.access (Rect.unit (s := S1x8192) (k1_off12 c 2#32) S1x2048.size (k1_off12_inb c 1))).read (Elt F) (I.rr c)) ((rkM.access (Rect.unit (s := S1x8192) (k1_off12 c 2#32) S1x2048.size (k1_off12_inb c 1))).read (Elt F) (I.rk c)) k ⟨⟩) Q := by
  simp only [k1_t4_body, Prog.lift, Prog.bind_op, Prog.bind_ret, Prog.pure_eq_ret]
  iintro ⟨⟨Hy, Hx⟩, Hk⟩
  iapply (wp_ld c yM (yS c) fullShare f (r := Rect.unit (s := S6656x1024) (k1_off15 c k) S208x1024.size (k1_off15_inb c k)) (tile_sub c (208 * k.val) _ _ (k1_off15_eq c k) (by have : k.val < 8 := k.isLt; omega))) $$ Hy
  iintro Hy
  iapply (wp_ld c xM (xS (op c)) q (XG I) (r := Rect.unit (s := S8192x1024) (k1_off16 c) S2048x1024.size (k1_off16_inb c)) (Finset.subset_of_eq (xS_of (op c) _ _ (k1_off16_eq c)))) $$ Hx
  iintro Hx
  iapply (wp_ld c yM (yS c) fullShare f (r := Rect.unit (s := S6656x1024) (k1_off15 c k) S208x1024.size (k1_off15_inb c k)) (tile_sub c (208 * k.val) _ _ (k1_off15_eq c k) (by have : k.val < 8 := k.isLt; omega))) $$ Hy
  iintro Hy
  iapply (wp_st c yM (yS c) f (r := Rect.unit (s := S6656x1024) (k1_off15 c k) S208x1024.size (k1_off15_inb c k)) (tile_sub c (208 * k.val) _ _ (k1_off15_eq c k) (by have : k.val < 8 := k.isLt; omega))) $$ Hy
  iintro Hy
  rw [wp_ret]
  imodintro
  iapply Hk
  isplitl [Hy]; · iexact Hy
  iexact Hx
/-- The loop over the tiles with the tokens of device `op c`. -/
theorem loop4 (q : PosShare TreeShare) (v5 v7 v9 : BitVec 32) {kk : Unit → Prog (TpuEff nD τ sig (Elt F) Λ₀ .tc) α} {Q : α → sProp 𝕄} :
    iprop(yP c (yS c) fullShare (Y3 I c) ∗ xP c (xS (op c)) q (XG I))
      ⊢ iprop(((yP c (yS c) fullShare (Y4 I c) ∗ xP c (xS (op c)) q (XG I)) -∗ wp frame (wpE (defs₀ (F := F)) 𝒱₀ c none) Set.univ (kk ⟨⟩) Q)
        -∗ wp frame (wpE (defs₀ (F := F)) 𝒱₀ c none) Set.univ (Scf.Loop.for k1_t4_loop k1_t4_ok ⟨⟩ (k1_t4_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 v9 ((rrM.access (Rect.unit (s := S1x8192) (k1_off12 c 2#32) S1x2048.size (k1_off12_inb c 1))).read (Elt F) (I.rr c)) ((rkM.access (Rect.unit (s := S1x8192) (k1_off12 c 2#32) S1x2048.size (k1_off12_inb c 1))).read (Elt F) (I.rk c))) >>= kk) Q) :=
  for_steps c k1_t4_loop.lb k1_t4_loop.ub k1_t4_loop.st k1_t4_ok 8 (by decide) (k1_t4_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 v9 ((rrM.access (Rect.unit (s := S1x8192) (k1_off12 c 2#32) S1x2048.size (k1_off12_inb c 1))).read (Elt F) (I.rr c)) ((rkM.access (Rect.unit (s := S1x8192) (k1_off12 c 2#32) S1x2048.size (k1_off12_inb c 1))).read (Elt F) (I.rk c))) (st4 I c) (Y3 I c)
    (fun _ f => iprop(yP c (yS c) fullShare f ∗ xP c (xS (op c)) q (XG I))) (fun k f Q => trip4 I c k q f v5 v7 v9 Q)
theorem trip5 (k : Fin k1_t5_loop.trips) (f : Vec F S6656x1024 .bf16) (v5 v7 c0 c4 : BitVec 32) (Q : Unit → sProp 𝕄) :
    iprop(iprop(env I κ ∗ yP c (yS c) fullShare f ∗ (∃ f, wP c f) ∗ eP c Finset.univ (I.ew c) ∗ ow c 6 ∗ lres c (k.val)) ∗ (iprop(env I κ ∗ yP c (yS c) fullShare (st5 I c k f) ∗ (∃ f, wP c f) ∗ eP c Finset.univ (I.ew c) ∗ ow c 6 ∗ lres c (k.val + 1)) -∗ Q ⟨⟩))
      ⊢ wp frame (wpE (defs₀ (F := F)) 𝒱₀ c none) Set.univ (k1_t5_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c0 c4 k ⟨⟩) Q := by
  simp only [k1_t5_body, Prog.lift, Prog.bind_op, Prog.bind_ret, Prog.pure_eq_ret]
  iintro ⟨⟨#He, Hy, Hw, HE, HO, Hl⟩, Hk⟩
  iapply (wp_cw1 I κ c k) $$ [Hw HE HO Hl]
  · isplitr; · iexact He
    isplitl [Hw]; · iexact Hw
    isplitl [HE]; · iexact HE
    isplitl [HO]; · iexact HO
    iexact Hl
  iintro ⟨Hw, HE, HO, Hl⟩
  iapply (wp_ldw c wM fullShare ((vE k).view.read (Elt F) (I.ew c)) (r := Rect.unit (s := S1024x1024) ![0, 0] S1024x1024.size inb_S1024x1024_S1024x1024_0_0)) $$ Hw
  iintro Hw
  have hw : (wM.access (Rect.unit (s := S1024x1024) ![0, 0] S1024x1024.size inb_S1024x1024_S1024x1024_0_0)).read (Elt F) ((vE k).view.read (Elt F) (I.ew c)) = ((vE k).view.read (Elt F) (I.ew c)) :=
    Memref.read_access_unit_zero (Elt F) cc1_scratch2 zero2 inb_S1024x1024_S1024x1024_0_0 ((vE k).view.read (Elt F) (I.ew c))
  rw [hw]
  iapply (wp_ld c yM (yS c) fullShare f (r := Rect.unit (s := S6656x1024) (k1_off18 c k) S208x1024.size (k1_off18_inb c k)) (tile_sub c (208 * k.val) _ _ (k1_off18_eq c k) (by have : k.val < 4 := k.isLt; omega))) $$ Hy
  iintro Hy
  iapply (wp_ld c yM (yS c) fullShare f (r := Rect.unit (s := S6656x1024) (k1_off18 c k) S208x1024.size (k1_off18_inb c k)) (tile_sub c (208 * k.val) _ _ (k1_off18_eq c k) (by have : k.val < 4 := k.isLt; omega))) $$ Hy
  iintro Hy
  iapply (wp_st c yM (yS c) f (r := Rect.unit (s := S6656x1024) (k1_off18 c k) S208x1024.size (k1_off18_inb c k)) (tile_sub c (208 * k.val) _ _ (k1_off18_eq c k) (by have : k.val < 4 := k.isLt; omega))) $$ Hy
  iintro Hy
  rw [wp_ret]
  imodintro
  iapply Hk
  isplitr; · iexact He
  isplitl [Hy]; · iexact Hy
  isplitl [Hw]; · iexists _; iexact Hw
  isplitl [HE]; · iexact HE
  isplitl [HO]; · iexact HO
  iexact Hl
/-- The loop over four tiles with the experts' weights. -/
theorem loop5 (v5 v7 c0 c4 : BitVec 32) {kk : Unit → Prog (TpuEff nD τ sig (Elt F) Λ₀ .tc) α} {Q : α → sProp 𝕄} :
    iprop(env I κ ∗ yP c (yS c) fullShare (Y4 I c) ∗ (∃ f, wP c f) ∗ eP c Finset.univ (I.ew c) ∗ ow c 6 ∗ lres c (0))
      ⊢ iprop((iprop(env I κ ∗ yP c (yS c) fullShare (Y5 I c) ∗ (∃ f, wP c f) ∗ eP c Finset.univ (I.ew c) ∗ ow c 6 ∗ lres c (4)) -∗ wp frame (wpE (defs₀ (F := F)) 𝒱₀ c none) Set.univ (kk ⟨⟩) Q)
        -∗ wp frame (wpE (defs₀ (F := F)) 𝒱₀ c none) Set.univ (Scf.Loop.for k1_t5_loop k1_t5_ok ⟨⟩ (k1_t5_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c0 c4) >>= kk) Q) :=
  for_steps c k1_t5_loop.lb k1_t5_loop.ub k1_t5_loop.st k1_t5_ok 4 (by decide) (k1_t5_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c0 c4) (st5 I c) (Y4 I c)
    (fun k f => iprop(env I κ ∗ yP c (yS c) fullShare f ∗ (∃ f, wP c f) ∗ eP c Finset.univ (I.ew c) ∗ ow c 6 ∗ lres c (k))) (fun k f Q => trip5 I κ c k f v5 v7 c0 c4 Q)
theorem trip6 (k : Fin k1_t6_loop.trips) (f : Vec F S6656x1024 .bf16) (v5 v7 c0 c4 : BitVec 32) (Q : Unit → sProp 𝕄) :
    iprop(iprop(env I κ ∗ yP c (ySv c) fullShare f ∗ (∃ f, wP c f) ∗ eP c Finset.univ (I.ew c) ∗ ow c 4 ∗ lres c (4 + k.val)) ∗ (iprop(env I κ ∗ yP c (ySv c) fullShare (st6 I c k f) ∗ (∃ f, wP c f) ∗ eP c Finset.univ (I.ew c) ∗ ow c 4 ∗ lres c (4 + k.val + 1)) -∗ Q ⟨⟩))
      ⊢ wp frame (wpE (defs₀ (F := F)) 𝒱₀ c none) Set.univ (k1_t6_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c0 c4 k ⟨⟩) Q := by
  simp only [k1_t6_body, Prog.lift, Prog.bind_op, Prog.bind_ret, Prog.pure_eq_ret]
  iintro ⟨⟨#He, Hy, Hw, HE, HO, Hl⟩, Hk⟩
  iapply (wp_cw2 I κ c k) $$ [Hw HE HO Hl]
  · isplitr; · iexact He
    isplitl [Hw]; · iexact Hw
    isplitl [HE]; · iexact HE
    isplitl [HO]; · iexact HO
    iexact Hl
  iintro ⟨Hw, HE, HO, Hl⟩
  iapply (wp_ldw c wM fullShare ((vE' k).view.read (Elt F) (I.ew c)) (r := Rect.unit (s := S1024x1024) ![0, 0] S1024x1024.size inb_S1024x1024_S1024x1024_0_0)) $$ Hw
  iintro Hw
  have hw : (wM.access (Rect.unit (s := S1024x1024) ![0, 0] S1024x1024.size inb_S1024x1024_S1024x1024_0_0)).read (Elt F) ((vE' k).view.read (Elt F) (I.ew c)) = ((vE' k).view.read (Elt F) (I.ew c)) :=
    Memref.read_access_unit_zero (Elt F) cc1_scratch2 zero2 inb_S1024x1024_S1024x1024_0_0 ((vE' k).view.read (Elt F) (I.ew c))
  rw [hw]
  iapply (wp_ld c yM (ySv c) fullShare f (r := Rect.unit (s := S6656x1024) (k1_off21 c k) S208x1024.size (k1_off21_inb c k)) (tile_subv c (208 * k.val) _ _ (k1_off21_eq c k) (by have : k.val < 4 := k.isLt; omega))) $$ Hy
  iintro Hy
  iapply (wp_ld c yM (ySv c) fullShare f (r := Rect.unit (s := S6656x1024) (k1_off21 c k) S208x1024.size (k1_off21_inb c k)) (tile_subv c (208 * k.val) _ _ (k1_off21_eq c k) (by have : k.val < 4 := k.isLt; omega))) $$ Hy
  iintro Hy
  iapply (wp_st c yM (ySv c) f (r := Rect.unit (s := S6656x1024) (k1_off21 c k) S208x1024.size (k1_off21_inb c k)) (tile_subv c (208 * k.val) _ _ (k1_off21_eq c k) (by have : k.val < 4 := k.isLt; omega))) $$ Hy
  iintro Hy
  rw [wp_ret]
  imodintro
  iapply Hk
  isplitr; · iexact He
  isplitl [Hy]; · iexact Hy
  isplitl [Hw]; · iexists _; iexact Hw
  isplitl [HE]; · iexact HE
  isplitl [HO]; · iexact HO
  iexact Hl
/-- The loop over four tiles with the experts' weights. -/
theorem loop6 (v5 v7 c0 c4 : BitVec 32) {kk : Unit → Prog (TpuEff nD τ sig (Elt F) Λ₀ .tc) α} {Q : α → sProp 𝕄} :
    iprop(env I κ ∗ yP c (ySv c) fullShare (Y5 I c) ∗ (∃ f, wP c f) ∗ eP c Finset.univ (I.ew c) ∗ ow c 4 ∗ lres c (4))
      ⊢ iprop((iprop(env I κ ∗ yP c (ySv c) fullShare (Y6 I c) ∗ (∃ f, wP c f) ∗ eP c Finset.univ (I.ew c) ∗ ow c 4 ∗ lres c (8)) -∗ wp frame (wpE (defs₀ (F := F)) 𝒱₀ c none) Set.univ (kk ⟨⟩) Q)
        -∗ wp frame (wpE (defs₀ (F := F)) 𝒱₀ c none) Set.univ (Scf.Loop.for k1_t6_loop k1_t6_ok ⟨⟩ (k1_t6_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c0 c4) >>= kk) Q) :=
  for_steps c k1_t6_loop.lb k1_t6_loop.ub k1_t6_loop.st k1_t6_ok 4 (by decide) (k1_t6_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c0 c4) (st6 I c) (Y5 I c)
    (fun k f => iprop(env I κ ∗ yP c (ySv c) fullShare f ∗ (∃ f, wP c f) ∗ eP c Finset.univ (I.ew c) ∗ ow c 4 ∗ lres c (4 + k))) (fun k f Q => trip6 I κ c k f v5 v7 c0 c4 Q)

end Cert.KernelIdeal.Net
-- ==== Proof.RunX.lean ====
/-
  Call 1 on device `c`, its first part: the activations go around the ring while the device gathers its experts' tokens.
-/
module

public import proofs.«01_k».proof.Proof.Trips

@[expose] public section

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (κ : GSem nD τ sig → ℕ) (c : Dev nD)

/-- The neighbours meet; the device stores its own activations. -/
theorem run_p1  (Q : _ → sProp 𝕄) :
    iprop(env I κ ∗ (ow c 12 ∗ cred (tallyAt (bc c 1) () 2) ∗ atPos ER (bc c 1) 0 ∅ 0 ∗ dutyTok ER (bc (lf c) 1) 0 0 ∗ dutyTok ER (bc (rt c) 1) 0 1 ∗ barPay 1 0 (lf c) ∗ barPay 1 1 (rt c) ∗ ((c : Thread nD τ).loc cc1_stg0_0 ↦{fullShare} I.xx c) ∗ (∃ f, xP c (xS c) fullShare f)) ∗ ((ow c 10 ∗ atPos ER (bc c 1) 1 ∅ 0 ∗ barPay 1 0 c ∗ barPay 1 1 c ∗ ((c : Thread nD τ).loc cc1_stg0_0 ↦{fullShare} I.xx c) ∗ xP c (xS c) fullShare (XG I)) -∗ Q ⟨c, w0 c, w1 c, w2 c, w3 c⟩))
      ⊢ wp frame (wpE (defs₀ (F := F)) 𝒱₀ c none) Set.univ (k1_part1 (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 ) Q := by
  simp only [k1_part1_eq_skeleton, k1_part1_skel, semSignalWord, semWaitWord, Prog.lift, Prog.bind_op, Prog.bind_ret, Prog.pure_eq_ret, wp_deviceId, dev1_1, dev1_2]
  iintro ⟨#He, ⟨HO, Hcb, Hab, Htl, Htr, Hpl, Hpr, Hin, Hx⟩, Hk⟩
  iapply (wp_sg I κ c (lf c) 1 0 11 rfl) $$ [HO Htl Hpl]
  · isplitr; · iexact He
    isplitl [HO]; · iexact HO
    isplitl [Htl]; · iexact Htl
    iexact Hpl
  iintro HO
  iapply (wp_sg I κ c (rt c) 1 1 10 rfl) $$ [HO Htr Hpr]
  · isplitr; · iexact He
    isplitl [HO]; · iexact HO
    isplitl [Htr]; · iexact Htr
    iexact Hpr
  iintro HO
  iapply (wp_bw I κ c 1 10 (by decide)) $$ [Hcb HO Hab]
  · isplitr; · iexact He
    isplitl [Hcb]; · iexact Hcb
    isplitl [HO]; · iexact HO
    iexact Hab
  iintro ⟨HR, HL, HO, Hab⟩
  iapply (wp_ldw c (Memref.whole cc1_stg0_0) fullShare (I.xx c)) $$ Hin
  iintro Hin
  icases Hx with ⟨%f, Hx⟩
  iapply (wp_ld c xM (xS c) fullShare (f) (r := Rect.unit (s := S8192x1024) (k1_off1 c) S2048x1024.size (k1_off1_inb c)) (Finset.subset_of_eq (xS_of c _ _ (k1_off1_eq c)))) $$ Hx
  iintro Hx
  iapply (wp_st c xM (xS c) f (r := Rect.unit (s := S8192x1024) (k1_off1 c) S2048x1024.size (k1_off1_inb c)) (Finset.subset_of_eq (xS_of c _ _ (k1_off1_eq c)))) $$ Hx
  iintro Hx
  ihave Hx := (XG_ent I c f) $$ Hx
  rw [wp_ret]
  imodintro
  simp only [w0, w1, w2, w3]
  iapply Hk
  isplitl [HO]; · iexact HO
  isplitl [Hab]; · iexact Hab
  isplitl [HR]; · iexact HR
  isplitl [HL]; · iexact HL
  isplitl [Hin]; · iexact Hin
  iexact Hx

/-- The own activations go to both neighbours; the own tokens are gathered. -/
theorem run_p2 (v5 : BitVec 32) (Q : _ → sProp 𝕄) :
    iprop(env I κ ∗ (ow c 10 ∗ xP c (xS c) fullShare (XG I) ∗ (∃ f, xP (rt c) (xS c) fullShare f) ∗ (∃ f, xP (lf c) (xS c) fullShare f) ∗ dutyTok ER (dc c 14) 0 0 ∗ dutyTok ER (dc c 15) 0 0 ∗ dutyTok ER (dc (rt c) 18) 0 0 ∗ dutyTok ER (dc (lf c) 19) 0 0 ∗ reached ER (dc c 14) 0 ∗ reached ER (dc c 15) 0 ∗ reached ER (dc (rt c) 18) 0 ∗ reached ER (dc (lf c) 19) 0 ∗ (∃ f, yP c (yS c) fullShare f) ∗ ((c : Thread nD τ).loc cc1_stg1_0 ↦{fullShare} I.rr c) ∗ ((c : Thread nD τ).loc cc1_stg2_0 ↦{fullShare} I.rk c)) ∗ ((ow c 8 ∗ cred (tallyAt (dc c 14) () (amt 14)) ∗ cred (tallyAt (dc c 15) () (amt 15)) ∗ xP c (xS c) qRR (XG I) ∗ yP c (yS c) fullShare (Y1 I c) ∗ ((c : Thread nD τ).loc cc1_stg1_0 ↦{fullShare} I.rr c) ∗ ((c : Thread nD τ).loc cc1_stg2_0 ↦{fullShare} I.rk c)) -∗ Q ⟨⟩))
      ⊢ wp frame (wpE (defs₀ (F := F)) 𝒱₀ c none) Set.univ (k1_part2 (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5) Q := by
  simp only [k1_part2_eq_skeleton, k1_part2_skel, semSignalWord, semWaitWord, Prog.lift, Prog.bind_op, Prog.bind_ret, Prog.pure_eq_ret]
  iintro ⟨#He, ⟨HO, Hx, Hd18, Hd19, Ht14, Ht15, Ht18, Ht19, #Hr14, #Hr15, #Hr18, #Hr19, Hy, Hrr, Hrk⟩, Hk⟩
  ihave H := ((xP_q c (xS c) (XG I)).1) $$ Hx
  icases H with ⟨HxL, HxR⟩
  ihave H := ((xP_qq c (xS c) (XG I)).1) $$ HxR
  icases H with ⟨HxM, HxR⟩
  iapply (wp_send I κ c (rt c) (dev1_3 c (k1_dev3_lt c)) 14 18 9 (set_vX c) (XG I) rfl rfl (crX c) rfl rfl rfl
    (by show xP (rt c) (xS (lf (rt c))) fullShare (XG I) = _; rw [lf_rt])) $$ [HxL Hd18 HO Ht14 Ht18]
  · isplitr; · iexact He
    isplitl [HxL]; · iexact HxL
    isplitl [Hd18]; · iexact Hd18
    isplitl [HO]; · iexact HO
    isplitl [Ht14]; · iexact Ht14
    isplitr; · iexact Hr14
    isplitl [Ht18]; · iexact Ht18
    iexact Hr18
  iintro ⟨Hc14, HO⟩
  iapply (wp_send I κ c (lf c) (dev1_4 c (k1_dev4_lt c)) 15 19 8 (set_vX c) (XG I) rfl rfl (crX c) rfl rfl rfl
    (by show xP (lf c) (xS (rt (lf c))) fullShare (XG I) = _; rw [rt_lf])) $$ [HxM Hd19 HO Ht15 Ht19]
  · isplitr; · iexact He
    isplitl [HxM]; · iexact HxM
    isplitl [Hd19]; · iexact Hd19
    isplitl [HO]; · iexact HO
    isplitl [Ht15]; · iexact Ht15
    isplitr; · iexact Hr15
    isplitl [Ht19]; · iexact Ht19
    iexact Hr19
  iintro ⟨Hc15, HO⟩
  icases Hy with ⟨%f, Hy⟩
  iapply (wp_ld c yM (yS c) fullShare (f) (r := Rect.unit (s := S6656x1024) (k1_off3 c) S1664x1024.size (k1_off3_inb c)) (Finset.subset_of_eq (yS_of c _ _ (k1_off3_eq c)))) $$ Hy
  iintro Hy
  iapply (wp_st c yM (yS c) f (r := Rect.unit (s := S6656x1024) (k1_off3 c) S1664x1024.size (k1_off3_inb c)) (Finset.subset_of_eq (yS_of c _ _ (k1_off3_eq c)))) $$ Hy
  iintro Hy
  ihave Hy := (Y0_ent c f) $$ Hy
  iapply (wp_ldw c rrM fullShare (I.rr c) (r := Rect.unit (s := S1x8192) (k1_off4 c) S1x2048.size (k1_off4_inb c))) $$ Hrr
  iintro Hrr
  iapply (wp_ldw c rkM fullShare (I.rk c) (r := Rect.unit (s := S1x8192) (k1_off4 c) S1x2048.size (k1_off4_inb c))) $$ Hrk
  iintro Hrk
  iapply (loop1 I c qRR v5) $$ [Hy HxR]
  · isplitl [Hy]; · iexact Hy
    iexact HxR
  iintro ⟨Hy, HxR⟩
  rw [wp_ret]
  imodintro
  iapply Hk
  isplitl [HO]; · iexact HO
  isplitl [Hc14]; · iexact Hc14
  isplitl [Hc15]; · iexact Hc15
  isplitl [HxR]; · iexact HxR
  isplitl [Hy]; · iexact Hy
  isplitl [Hrr]; · iexact Hrr
  iexact Hrk

/-- The neighbours' activations have arrived; half of the left one's goes on to the right. -/
theorem run_p3 (v5 v7 : BitVec 32) (Q : _ → sProp 𝕄) :
    iprop(env I κ ∗ (ow c 8 ∗ cred (tallyAt (dc c 14) () (amt 14)) ∗ cred (tallyAt (dc c 18) () (amt 18)) ∗ cred (tallyAt (dc c 15) () (amt 15)) ∗ cred (tallyAt (dc c 19) () (amt 19)) ∗ atPos ER (dc c 14) 0 ∅ 0 ∗ atPos ER (dc c 18) 0 ∅ 0 ∗ atPos ER (dc c 15) 0 ∅ 0 ∗ atPos ER (dc c 19) 0 ∅ 0 ∗ (∃ f, xP (rt c) (xSl (lf c)) fullShare f) ∗ dutyTok ER (dc c 16) 0 0 ∗ dutyTok ER (dc (rt c) 20) 0 0 ∗ reached ER (dc c 16) 0 ∗ reached ER (dc (rt c) 20) 0) ∗ ((ow c 7 ∗ atPos ER (dc c 14) 1 ∅ 0 ∗ atPos ER (dc c 18) 1 ∅ 0 ∗ atPos ER (dc c 15) 1 ∅ 0 ∗ atPos ER (dc c 19) 1 ∅ 0 ∗ xP c (xS c) qL (XG I) ∗ xP c (xS c) qRL (XG I) ∗ xP c (xSr (lf c)) qL (XG I) ∗ xP c (xS (lf c)) qR (XG I) ∗ xP c (xS (rt c)) fullShare (XG I) ∗ cred (tallyAt (dc c 16) () (amt 16))) -∗ Q 1#32))
      ⊢ wp frame (wpE (defs₀ (F := F)) 𝒱₀ c none) Set.univ (k1_part3 (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c v5 v7) Q := by
  simp only [k1_part3_eq_skeleton, k1_part3_skel, semSignalWord, semWaitWord, Prog.lift, Prog.bind_op, Prog.bind_ret, Prog.pure_eq_ret]
  iintro ⟨#He, ⟨HO, Hc14, Hc18, Hc15, Hc19, Ha14, Ha18, Ha15, Ha19, Hd20, Ht16, Ht20, #Hr16, #Hr20⟩, Hk⟩
  iapply (wp_wt I κ c 14 8 (xP c (xS c) qL (XG I)) (dst := vX c) rfl (crX c) (by decide) rfl) $$ [Hc14 HO Ha14]
  · isplitr; · iexact He
    isplitl [Hc14]; · iexact Hc14
    isplitl [HO]; · iexact HO
    iexact Ha14
  iintro ⟨Hx1, HO, Ha14⟩
  iapply (wp_wt I κ c 18 8 (xP c (xS (lf c)) fullShare (XG I)) (dst := vX c) rfl (crX c) (by decide) rfl) $$ [Hc18 HO Ha18]
  · isplitr; · iexact He
    isplitl [Hc18]; · iexact Hc18
    isplitl [HO]; · iexact HO
    iexact Ha18
  iintro ⟨Hxl, HO, Ha18⟩
  iapply (wp_wt I κ c 15 8 (xP c (xS c) qRL (XG I)) (dst := vX c) rfl (crX c) (by decide) rfl) $$ [Hc15 HO Ha15]
  · isplitr; · iexact He
    isplitl [Hc15]; · iexact Hc15
    isplitl [HO]; · iexact HO
    iexact Ha15
  iintro ⟨Hx2, HO, Ha15⟩
  iapply (wp_wt I κ c 19 8 (xP c (xS (rt c)) fullShare (XG I)) (dst := vX c) rfl (crX c) (by decide) rfl) $$ [Hc19 HO Ha19]
  · isplitr; · iexact He
    isplitl [Hc19]; · iexact Hc19
    isplitl [HO]; · iexact HO
    iexact Ha19
  iintro ⟨Hxr, HO, Ha19⟩
  ihave H := ((xP_q c (xS (lf c)) (XG I)).1) $$ Hxl
  icases H with ⟨HxL, HxlR⟩
  ihave H := ((xP_lr c (lf c) qL (XG I)).1) $$ HxL
  icases H with ⟨HxLl, HxLr⟩
  iapply (wp_send I κ c (rt c) (dev1_5 c (k1_dev5_lt c)) 16 20 7 (set_vXl c) (XG I) rfl rfl (crXl c) rfl rfl rfl
    (by show xP (rt c) (xSl (op (rt c))) fullShare (XG I) = _; rw [op_rt])) $$ [HxLl Hd20 HO Ht16 Ht20]
  · isplitr; · iexact He
    isplitl [HxLl]; · iexact HxLl
    isplitl [Hd20]; · iexact Hd20
    isplitl [HO]; · iexact HO
    isplitl [Ht16]; · iexact Ht16
    isplitr; · iexact Hr16
    isplitl [Ht20]; · iexact Ht20
    iexact Hr20
  iintro ⟨Hc16, HO⟩
  rw [wp_ret]
  imodintro
  iapply Hk
  isplitl [HO]; · iexact HO
  isplitl [Ha14]; · iexact Ha14
  isplitl [Ha18]; · iexact Ha18
  isplitl [Ha15]; · iexact Ha15
  isplitl [Ha19]; · iexact Ha19
  isplitl [Hx1]; · iexact Hx1
  isplitl [Hx2]; · iexact Hx2
  isplitl [HxLr]; · iexact HxLr
  isplitl [HxlR]; · iexact HxlR
  isplitl [Hxr]; · iexact Hxr
  iexact Hc16

/-- Half of the right neighbour's activations goes on to the left; both neighbours' tokens are gathered. -/
theorem run_p4 (v5 v7 c1 : BitVec 32) (Q : _ → sProp 𝕄) :
    iprop(env I κ ∗ (ow c 7 ∗ xP c (xS (rt c)) fullShare (XG I) ∗ (∃ f, xP (lf c) (xSr (rt c)) fullShare f) ∗ dutyTok ER (dc c 17) 0 0 ∗ dutyTok ER (dc (lf c) 21) 0 0 ∗ reached ER (dc c 17) 0 ∗ reached ER (dc (lf c) 21) 0 ∗ xP c (xS (lf c)) qR (XG I) ∗ ((c : Thread nD τ).loc cc1_stg1_0 ↦{fullShare} I.rr c) ∗ ((c : Thread nD τ).loc cc1_stg2_0 ↦{fullShare} I.rk c) ∗ yP c (yS c) fullShare (Y1 I c)) ∗ ((ow c 6 ∗ cred (tallyAt (dc c 17) () (amt 17)) ∗ xP c (xSl (rt c)) qL (XG I) ∗ xP c (xS (rt c)) qR (XG I) ∗ xP c (xS (lf c)) qR (XG I) ∗ ((c : Thread nD τ).loc cc1_stg1_0 ↦{fullShare} I.rr c) ∗ ((c : Thread nD τ).loc cc1_stg2_0 ↦{fullShare} I.rk c) ∗ yP c (yS c) fullShare (Y3 I c)) -∗ Q ⟨⟩))
      ⊢ wp frame (wpE (defs₀ (F := F)) 𝒱₀ c none) Set.univ (k1_part4 (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c1) Q := by
  simp only [k1_part4_eq_skeleton, k1_part4_skel, semSignalWord, semWaitWord, Prog.lift, Prog.bind_op, Prog.bind_ret, Prog.pure_eq_ret]
  iintro ⟨#He, ⟨HO, Hxr, Hd21, Ht17, Ht21, #Hr17, #Hr21, HxlR, Hrr, Hrk, Hy⟩, Hk⟩
  ihave H := ((xP_q c (xS (rt c)) (XG I)).1) $$ Hxr
  icases H with ⟨HxL, HxrR⟩
  ihave H := ((xP_lr c (rt c) qL (XG I)).1) $$ HxL
  icases H with ⟨HxRl, HxRr⟩
  iapply (wp_send I κ c (lf c) (dev1_6 c (k1_dev6_lt c)) 17 21 6 (set_vXr c) (XG I) rfl rfl (crXr c) rfl rfl rfl
    (by show xP (lf c) (xSr (op (lf c))) fullShare (XG I) = _; rw [op_lf])) $$ [HxRr Hd21 HO Ht17 Ht21]
  · isplitr; · iexact He
    isplitl [HxRr]; · iexact HxRr
    isplitl [Hd21]; · iexact Hd21
    isplitl [HO]; · iexact HO
    isplitl [Ht17]; · iexact Ht17
    isplitr; · iexact Hr17
    isplitl [Ht21]; · iexact Ht21
    iexact Hr21
  iintro ⟨Hc17, HO⟩
  iapply (wp_ldw c rrM fullShare (I.rr c) (r := Rect.unit (s := S1x8192) (k1_off9 c) S1x2048.size (k1_off9_inb c))) $$ Hrr
  iintro Hrr
  iapply (wp_ldw c rkM fullShare (I.rk c) (r := Rect.unit (s := S1x8192) (k1_off9 c) S1x2048.size (k1_off9_inb c))) $$ Hrk
  iintro Hrk
  iapply (loop2 I c qR v5 v7 c1) $$ [Hy HxlR]
  · isplitl [Hy]; · iexact Hy
    iexact HxlR
  iintro ⟨Hy, HxlR⟩
  iapply (wp_ldw c rrM fullShare (I.rr c) (r := Rect.unit (s := S1x8192) (k1_off12 c 1#32) S1x2048.size (k1_off12_inb c 0))) $$ Hrr
  iintro Hrr
  iapply (wp_ldw c rkM fullShare (I.rk c) (r := Rect.unit (s := S1x8192) (k1_off12 c 1#32) S1x2048.size (k1_off12_inb c 0))) $$ Hrk
  iintro Hrk
  iapply (loop3 I c qR v5 v7 c1) $$ [Hy HxrR]
  · isplitl [Hy]; · iexact Hy
    iexact HxrR
  iintro ⟨Hy, HxrR⟩
  rw [wp_ret]
  imodintro
  iapply Hk
  isplitl [HO]; · iexact HO
  isplitl [Hc17]; · iexact Hc17
  isplitl [HxRl]; · iexact HxRl
  isplitl [HxrR]; · iexact HxrR
  isplitl [HxlR]; · iexact HxlR
  isplitl [Hrr]; · iexact Hrr
  isplitl [Hrk]; · iexact Hrk
  iexact Hy

/-- The opposite device's activations have arrived in two halves; its tokens are gathered. -/
theorem run_p5 (v5 v7 v9 : BitVec 32) (Q : _ → sProp 𝕄) :
    iprop(env I κ ∗ (ow c 6 ∗ cred (tallyAt (dc c 16) () (amt 16)) ∗ cred (tallyAt (dc c 20) () (amt 20)) ∗ cred (tallyAt (dc c 17) () (amt 17)) ∗ cred (tallyAt (dc c 21) () (amt 21)) ∗ atPos ER (dc c 16) 0 ∅ 0 ∗ atPos ER (dc c 20) 0 ∅ 0 ∗ atPos ER (dc c 17) 0 ∅ 0 ∗ atPos ER (dc c 21) 0 ∅ 0 ∗ ((c : Thread nD τ).loc cc1_stg1_0 ↦{fullShare} I.rr c) ∗ ((c : Thread nD τ).loc cc1_stg2_0 ↦{fullShare} I.rk c) ∗ yP c (yS c) fullShare (Y3 I c)) ∗ ((ow c 6 ∗ atPos ER (dc c 16) 1 ∅ 0 ∗ atPos ER (dc c 20) 1 ∅ 0 ∗ atPos ER (dc c 17) 1 ∅ 0 ∗ atPos ER (dc c 21) 1 ∅ 0 ∗ xP c (xSl (lf c)) qL (XG I) ∗ xP c (xSr (rt c)) qL (XG I) ∗ xP c (xS (op c)) fullShare (XG I) ∗ ((c : Thread nD τ).loc cc1_stg1_0 ↦{fullShare} I.rr c) ∗ ((c : Thread nD τ).loc cc1_stg2_0 ↦{fullShare} I.rk c) ∗ yP c (yS c) fullShare (Y4 I c)) -∗ Q ⟨0#32, 4#32⟩))
      ⊢ wp frame (wpE (defs₀ (F := F)) 𝒱₀ c none) Set.univ (k1_part5 (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 v9) Q := by
  simp only [k1_part5_eq_skeleton, k1_part5_skel, semSignalWord, semWaitWord, Prog.lift, Prog.bind_op, Prog.bind_ret, Prog.pure_eq_ret]
  iintro ⟨#He, ⟨HO, Hc16, Hc20, Hc17, Hc21, Ha16, Ha20, Ha17, Ha21, Hrr, Hrk, Hy⟩, Hk⟩
  iapply (wp_wt I κ c 16 6 (xP c (xSl (lf c)) qL (XG I)) (dst := vXl c) rfl (crXl c) (by decide) rfl) $$ [Hc16 HO Ha16]
  · isplitr; · iexact He
    isplitl [Hc16]; · iexact Hc16
    isplitl [HO]; · iexact HO
    iexact Ha16
  iintro ⟨HxLl, HO, Ha16⟩
  iapply (wp_wt I κ c 20 6 (xP c (xSl (op c)) fullShare (XG I)) (dst := vXl c) rfl (crXl c) (by decide) rfl) $$ [Hc20 HO Ha20]
  · isplitr; · iexact He
    isplitl [Hc20]; · iexact Hc20
    isplitl [HO]; · iexact HO
    iexact Ha20
  iintro ⟨Hxa, HO, Ha20⟩
  iapply (wp_wt I κ c 17 6 (xP c (xSr (rt c)) qL (XG I)) (dst := vXr c) rfl (crXr c) (by decide) rfl) $$ [Hc17 HO Ha17]
  · isplitr; · iexact He
    isplitl [Hc17]; · iexact Hc17
    isplitl [HO]; · iexact HO
    iexact Ha17
  iintro ⟨HxRr, HO, Ha17⟩
  iapply (wp_wt I κ c 21 6 (xP c (xSr (op c)) fullShare (XG I)) (dst := vXr c) rfl (crXr c) (by decide) rfl) $$ [Hc21 HO Ha21]
  · isplitr; · iexact He
    isplitl [Hc21]; · iexact Hc21
    isplitl [HO]; · iexact HO
    iexact Ha21
  iintro ⟨Hxb, HO, Ha21⟩
  ihave Hxo := ((xP_lr c (op c) fullShare (XG I)).2) $$ [Hxa Hxb]
  · isplitl [Hxa]; · iexact Hxa
    iexact Hxb
  iapply (wp_ldw c rrM fullShare (I.rr c) (r := Rect.unit (s := S1x8192) (k1_off12 c 2#32) S1x2048.size (k1_off12_inb c 1))) $$ Hrr
  iintro Hrr
  iapply (wp_ldw c rkM fullShare (I.rk c) (r := Rect.unit (s := S1x8192) (k1_off12 c 2#32) S1x2048.size (k1_off12_inb c 1))) $$ Hrk
  iintro Hrk
  iapply (loop4 I c fullShare v5 v7 v9) $$ [Hy Hxo]
  · isplitl [Hy]; · iexact Hy
    iexact Hxo
  iintro ⟨Hy, Hxo⟩
  rw [wp_ret]
  imodintro
  iapply Hk
  isplitl [HO]; · iexact HO
  isplitl [Ha16]; · iexact Ha16
  isplitl [Ha20]; · iexact Ha20
  isplitl [Ha17]; · iexact Ha17
  isplitl [Ha21]; · iexact Ha21
  isplitl [HxLl]; · iexact HxLl
  isplitl [HxRr]; · iexact HxRr
  isplitl [Hxo]; · iexact Hxo
  isplitl [Hrr]; · iexact Hrr
  isplitl [Hrk]; · iexact Hrk
  iexact Hy

end Cert.KernelIdeal.Net
-- ==== Proof.RunY.lean ====
/-
  Call 1 on device `c`, its second part: the products with the weights go around the ring and are combined to the output.
-/
module

public import proofs.«01_k».proof.Proof.Trips

@[expose] public section

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (κ : GSem nD τ sig → ℕ) (c : Dev nD)

/-- A store to the whole output leaves what was stored. -/
theorem out_ent (f w : Vec F S2048x1024 .bf16) :
    ((c : Thread nD τ).loc cc1_stg4_0 ↦{fullShare} ((Memref.whole cc1_stg4_0).access (Rect.unit (s := S2048x1024) ![0, 0] S2048x1024.size inb_S2048x1024_S2048x1024_0_0)).write (Elt F) f w Finset.univ : sProp 𝕄)
      ⊢ ((c : Thread nD τ).loc cc1_stg4_0 ↦{fullShare} w) :=
  Entails.of_eq (congrArg (fun g : Vec F S2048x1024 .bf16 => (((c : Thread nD τ).loc cc1_stg4_0 ↦{fullShare} g) : sProp 𝕄))
    (Memref.write_access_unit_zero_univ (Elt F) cc1_stg4_0 zero2 inb_S2048x1024_S2048x1024_0_0 f w))

theorem o2_eq : o2 I c = k1_pay13 (w1 c) (slots16 I c) iota16 (o1 I c) ((yM.access (Rect.unit (s := S6656x1024) (k1_off25 c) S1664x1024.size (k1_off25_inb c))).read (Elt F) (YG I)) := rfl
theorem OUT_eq : OUT I c = k1_pay1 (k1_pay15 (F := F) (w3 c) (slots16 I c) iota16) (o3 I c) ((yM.access (Rect.unit (s := S6656x1024) (k1_off26 c 2#32) S1664x1024.size (k1_off26_inb c 1))).read (Elt F) (YG I)) := rfl

/-- The products of the first four experts, which go to both neighbours, and of the last four. -/
theorem run_p6 (v5 v7 c0 c4 : BitVec 32) (Q : _ → sProp 𝕄) :
    iprop(env I κ ∗ (ow c 6 ∗ yP c (yS c) fullShare (Y4 I c) ∗ (∃ f, wP c f) ∗ eP c Finset.univ (I.ew c) ∗ lres c 0 ∗ (∃ f, yP (rt c) (ySu c) fullShare f) ∗ (∃ f, yP (lf c) (ySu c) fullShare f) ∗ dutyTok ER (dc c 22) 0 0 ∗ dutyTok ER (dc c 23) 0 0 ∗ dutyTok ER (dc (rt c) 28) 0 0 ∗ dutyTok ER (dc (lf c) 29) 0 0 ∗ reached ER (dc c 22) 0 ∗ reached ER (dc c 23) 0 ∗ reached ER (dc (rt c) 28) 0 ∗ reached ER (dc (lf c) 29) 0) ∗ ((ow c 4 ∗ cred (tallyAt (dc c 22) () (amt 22)) ∗ cred (tallyAt (dc c 23) () (amt 23)) ∗ yP c (ySu c) qRR (YG I) ∗ yP c (ySv c) fullShare (YG I) ∗ (∃ f, wP c f) ∗ eP c Finset.univ (I.ew c) ∗ lres c 8) -∗ Q ⟨⟩))
      ⊢ wp frame (wpE (defs₀ (F := F)) 𝒱₀ c none) Set.univ (k1_part6 (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5 v7 c0 c4) Q := by
  simp only [k1_part6_eq_skeleton, k1_part6_skel, semSignalWord, semWaitWord, Prog.lift, Prog.bind_op, Prog.bind_ret, Prog.pure_eq_ret]
  iintro ⟨#He, ⟨HO, Hy, Hw, HE, Hl, Hd28, Hd29, Ht22, Ht23, Ht28, Ht29, #Hr22, #Hr23, #Hr28, #Hr29⟩, Hk⟩
  iapply (loop5 I κ c v5 v7 c0 c4) $$ [Hy Hw HE HO Hl]
  · isplitr; · iexact He
    isplitl [Hy]; · iexact Hy
    isplitl [Hw]; · iexact Hw
    isplitl [HE]; · iexact HE
    isplitl [HO]; · iexact HO
    iexact Hl
  iintro ⟨-, Hy, Hw, HE, HO, Hl⟩
  ihave H := ((yP_uv c c fullShare (Y5 I c)).1) $$ Hy
  icases H with ⟨Hyu, Hyv⟩
  ihave Hyu := (YG_u I c fullShare) $$ Hyu
  ihave H := ((yP_q c (ySu c) (YG I)).1) $$ Hyu
  icases H with ⟨HyL, HyR⟩
  ihave H := ((yP_qq c (ySu c) (YG I)).1) $$ HyR
  icases H with ⟨HyM, HyR⟩
  iapply (wp_send I κ c (rt c) (dev1_7 c (k1_dev7_lt c)) 22 28 5 (set_vYu c) (YG I) rfl rfl (crYu c) rfl rfl rfl
    (by show yP (rt c) (ySu (lf (rt c))) fullShare (YG I) = _; rw [lf_rt])) $$ [HyL Hd28 HO Ht22 Ht28]
  · isplitr; · iexact He
    isplitl [HyL]; · iexact HyL
    isplitl [Hd28]; · iexact Hd28
    isplitl [HO]; · iexact HO
    isplitl [Ht22]; · iexact Ht22
    isplitr; · iexact Hr22
    isplitl [Ht28]; · iexact Ht28
    iexact Hr28
  iintro ⟨Hc22, HO⟩
  iapply (wp_send I κ c (lf c) (dev1_8 c (k1_dev8_lt c)) 23 29 4 (set_vYu c) (YG I) rfl rfl (crYu c) rfl rfl rfl
    (by show yP (lf c) (ySu (rt (lf c))) fullShare (YG I) = _; rw [rt_lf])) $$ [HyM Hd29 HO Ht23 Ht29]
  · isplitr; · iexact He
    isplitl [HyM]; · iexact HyM
    isplitl [Hd29]; · iexact Hd29
    isplitl [HO]; · iexact HO
    isplitl [Ht23]; · iexact Ht23
    isplitr; · iexact Hr23
    isplitl [Ht29]; · iexact Ht29
    iexact Hr29
  iintro ⟨Hc23, HO⟩
  iapply (loop6 I κ c v5 v7 c0 c4) $$ [Hyv Hw HE HO Hl]
  · isplitr; · iexact He
    isplitl [Hyv]; · iexact Hyv
    isplitl [Hw]; · iexact Hw
    isplitl [HE]; · iexact HE
    isplitl [HO]; · iexact HO
    iexact Hl
  iintro ⟨-, Hyv, Hw, HE, HO, Hl⟩
  ihave Hyv := (YG_v I c fullShare) $$ Hyv
  rw [wp_ret]
  imodintro
  iapply Hk
  isplitl [HO]; · iexact HO
  isplitl [Hc22]; · iexact Hc22
  isplitl [Hc23]; · iexact Hc23
  isplitl [HyR]; · iexact HyR
  isplitl [Hyv]; · iexact Hyv
  isplitl [Hw]; · iexact Hw
  isplitl [HE]; · iexact HE
  iexact Hl

/-- The lower half of the results follows; the device's own results are combined. -/
theorem run_p7 (v5 : BitVec 32) (Q : _ → sProp 𝕄) :
    iprop(env I κ ∗ (ow c 4 ∗ yP c (ySu c) qRR (YG I) ∗ yP c (ySv c) fullShare (YG I) ∗ (∃ f, yP (rt c) (ySv c) fullShare f) ∗ (∃ f, yP (lf c) (ySv c) fullShare f) ∗ dutyTok ER (dc c 24) 0 0 ∗ dutyTok ER (dc c 25) 0 0 ∗ dutyTok ER (dc (rt c) 30) 0 0 ∗ dutyTok ER (dc (lf c) 31) 0 0 ∗ reached ER (dc c 24) 0 ∗ reached ER (dc c 25) 0 ∗ reached ER (dc (rt c) 30) 0 ∗ reached ER (dc (lf c) 31) 0 ∗ ((c : Thread nD τ).loc cc1_stg3_0 ↦{fullShare} I.gm c) ∗ (∃ f, ((c : Thread nD τ).loc cc1_stg4_0 ↦{fullShare} f))) ∗ ((ow c 2 ∗ cred (tallyAt (dc c 24) () (amt 24)) ∗ cred (tallyAt (dc c 25) () (amt 25)) ∗ yP c (yS c) qRR (YG I) ∗ ((c : Thread nD τ).loc cc1_stg3_0 ↦{fullShare} I.gm c) ∗ ((c : Thread nD τ).loc cc1_stg4_0 ↦{fullShare} (k1_pay11 (F := F)))) -∗ Q ⟨slots16 I c, iota16, o1 I c⟩))
      ⊢ wp frame (wpE (defs₀ (F := F)) 𝒱₀ c none) Set.univ (k1_part7 (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w0 c) v5) Q := by
  simp only [k1_part7_eq_skeleton, k1_part7_skel, semSignalWord, semWaitWord, Prog.lift, Prog.bind_op, Prog.bind_ret, Prog.pure_eq_ret]
  iintro ⟨#He, ⟨HO, HyR, Hyv, Hd30, Hd31, Ht24, Ht25, Ht30, Ht31, #Hr24, #Hr25, #Hr30, #Hr31, Hgm, Hout⟩, Hk⟩
  ihave H := ((yP_q c (ySv c) (YG I)).1) $$ Hyv
  icases H with ⟨HyL, HyS⟩
  ihave H := ((yP_qq c (ySv c) (YG I)).1) $$ HyS
  icases H with ⟨HyM, HyS⟩
  iapply (wp_send I κ c (rt c) (dev1_9 c (k1_dev9_lt c)) 24 30 3 (set_vYv c) (YG I) rfl rfl (crYv c) rfl rfl rfl
    (by show yP (rt c) (ySv (lf (rt c))) fullShare (YG I) = _; rw [lf_rt])) $$ [HyL Hd30 HO Ht24 Ht30]
  · isplitr; · iexact He
    isplitl [HyL]; · iexact HyL
    isplitl [Hd30]; · iexact Hd30
    isplitl [HO]; · iexact HO
    isplitl [Ht24]; · iexact Ht24
    isplitr; · iexact Hr24
    isplitl [Ht30]; · iexact Ht30
    iexact Hr30
  iintro ⟨Hc24, HO⟩
  iapply (wp_send I κ c (lf c) (dev1_10 c (k1_dev10_lt c)) 25 31 2 (set_vYv c) (YG I) rfl rfl (crYv c) rfl rfl rfl
    (by show yP (lf c) (ySv (rt (lf c))) fullShare (YG I) = _; rw [rt_lf])) $$ [HyM Hd31 HO Ht25 Ht31]
  · isplitr; · iexact He
    isplitl [HyM]; · iexact HyM
    isplitl [Hd31]; · iexact Hd31
    isplitl [HO]; · iexact HO
    isplitl [Ht25]; · iexact Ht25
    isplitr; · iexact Hr25
    isplitl [Ht31]; · iexact Ht31
    iexact Hr31
  iintro ⟨Hc25, HO⟩
  ihave Hyo := ((yP_uv c c qRR (YG I)).2) $$ [HyR HyS]
  · isplitl [HyR]; · iexact HyR
    iexact HyS
  iapply (wp_ldw c (Memref.whole cc1_stg3_0) fullShare (I.gm c) (r := Rect.unit (s := S2048x1) ![0, 0] S2048x1.size inb_S2048x1_S2048x1_0_0)) $$ Hgm
  iintro Hgm
  have hg : ((Memref.whole cc1_stg3_0).access (Rect.unit (s := S2048x1) ![0, 0] S2048x1.size inb_S2048x1_S2048x1_0_0)).read (Elt F) (I.gm c) = I.gm c := Memref.read_access_unit_zero (Elt F) cc1_stg3_0 zero2 inb_S2048x1_S2048x1_0_0 _
  rw [hg]
  icases Hout with ⟨%f, Hout⟩
  iapply (wp_ldw c (Memref.whole cc1_stg4_0) fullShare (f) (r := Rect.unit (s := S2048x1024) ![0, 0] S2048x1024.size inb_S2048x1024_S2048x1024_0_0)) $$ Hout
  iintro Hout
  iapply (wp_stw c (Memref.whole cc1_stg4_0) (f) (r := Rect.unit (s := S2048x1024) ![0, 0] S2048x1024.size inb_S2048x1024_S2048x1024_0_0)) $$ Hout
  iintro Hout
  ihave Hout := (out_ent c (f) (k1_pay11 (F := F))) $$ Hout
  iapply (wp_ldw c (Memref.whole cc1_stg4_0) fullShare (k1_pay11 (F := F)) (r := Rect.unit (s := S2048x1024) ![0, 0] S2048x1024.size inb_S2048x1024_S2048x1024_0_0)) $$ Hout
  iintro Hout
  have hO : ((Memref.whole cc1_stg4_0).access (Rect.unit (s := S2048x1024) ![0, 0] S2048x1024.size inb_S2048x1024_S2048x1024_0_0)).read (Elt F) (k1_pay11 (F := F)) = k1_pay11 (F := F) := Memref.read_access_unit_zero (Elt F) cc1_stg4_0 zero2 inb_S2048x1024_S2048x1024_0_0 _
  rw [hO]
  clear hO
  iapply (wp_ld c yM (yS c) qRR (YG I) (r := Rect.unit (s := S6656x1024) (k1_off3 c) S1664x1024.size (k1_off3_inb c)) (Finset.subset_of_eq (yS_of c _ _ (k1_off3_eq c)))) $$ Hyo
  iintro Hyo
  rw [wp_ret]
  imodintro
  simp only [slots16, iota16, o1, ybo]
  iapply Hk
  isplitl [HO]; · iexact HO
  isplitl [Hc24]; · iexact Hc24
  isplitl [Hc25]; · iexact Hc25
  isplitl [Hyo]; · iexact Hyo
  isplitl [Hgm]; · iexact Hgm
  iexact Hout

/-- The upper halves of the neighbours' results have arrived. -/
theorem run_p8 (v5 v7 : BitVec 32) (Q : _ → sProp 𝕄) :
    iprop(env I κ ∗ (ow c 2 ∗ (∃ f, ((c : Thread nD τ).loc cc1_stg4_0 ↦{fullShare} f)) ∗ cred (tallyAt (dc c 22) () (amt 22)) ∗ cred (tallyAt (dc c 28) () (amt 28)) ∗ cred (tallyAt (dc c 23) () (amt 23)) ∗ cred (tallyAt (dc c 29) () (amt 29)) ∗ cred (tallyAt (dc c 24) () (amt 24)) ∗ atPos ER (dc c 22) 0 ∅ 0 ∗ atPos ER (dc c 28) 0 ∅ 0 ∗ atPos ER (dc c 23) 0 ∅ 0 ∗ atPos ER (dc c 29) 0 ∅ 0 ∗ atPos ER (dc c 24) 0 ∅ 0) ∗ ((ow c 2 ∗ ((c : Thread nD τ).loc cc1_stg4_0 ↦{fullShare} (o1 I c)) ∗ atPos ER (dc c 22) 1 ∅ 0 ∗ atPos ER (dc c 28) 1 ∅ 0 ∗ atPos ER (dc c 23) 1 ∅ 0 ∗ atPos ER (dc c 29) 1 ∅ 0 ∗ atPos ER (dc c 24) 1 ∅ 0 ∗ yP c (ySu c) qL (YG I) ∗ yP c (ySu (lf c)) fullShare (YG I) ∗ yP c (ySu c) qRL (YG I) ∗ yP c (ySu (rt c)) fullShare (YG I) ∗ yP c (ySv c) qL (YG I)) -∗ Q ⟨⟩))
      ⊢ wp frame (wpE (defs₀ (F := F)) 𝒱₀ c none) Set.univ (k1_part8 (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c v5 v7 (o1 I c)) Q := by
  simp only [k1_part8_eq_skeleton, k1_part8_skel, semSignalWord, semWaitWord, Prog.lift, Prog.bind_op, Prog.bind_ret, Prog.pure_eq_ret]
  iintro ⟨#He, ⟨HO, Hout, Hc22, Hc28, Hc23, Hc29, Hc24, Ha22, Ha28, Ha23, Ha29, Ha24⟩, Hk⟩
  icases Hout with ⟨%f, Hout⟩
  iapply (wp_ldw c (Memref.whole cc1_stg4_0) fullShare (f) (r := Rect.unit (s := S2048x1024) ![0, 0] S2048x1024.size inb_S2048x1024_S2048x1024_0_0)) $$ Hout
  iintro Hout
  iapply (wp_stw c (Memref.whole cc1_stg4_0) (f) (r := Rect.unit (s := S2048x1024) ![0, 0] S2048x1024.size inb_S2048x1024_S2048x1024_0_0)) $$ Hout
  iintro Hout
  ihave Hout := (out_ent c (f) (o1 I c)) $$ Hout
  iapply (wp_wt I κ c 22 2 (yP c (ySu c) qL (YG I)) (dst := vYu c) rfl (crYu c) (by decide) rfl) $$ [Hc22 HO Ha22]
  · isplitr; · iexact He
    isplitl [Hc22]; · iexact Hc22
    isplitl [HO]; · iexact HO
    iexact Ha22
  iintro ⟨Hy1, HO, Ha22⟩
  iapply (wp_wt I κ c 28 2 (yP c (ySu (lf c)) fullShare (YG I)) (dst := vYu c) rfl (crYu c) (by decide) rfl) $$ [Hc28 HO Ha28]
  · isplitr; · iexact He
    isplitl [Hc28]; · iexact Hc28
    isplitl [HO]; · iexact HO
    iexact Ha28
  iintro ⟨Hylu, HO, Ha28⟩
  iapply (wp_wt I κ c 23 2 (yP c (ySu c) qRL (YG I)) (dst := vYu c) rfl (crYu c) (by decide) rfl) $$ [Hc23 HO Ha23]
  · isplitr; · iexact He
    isplitl [Hc23]; · iexact Hc23
    isplitl [HO]; · iexact HO
    iexact Ha23
  iintro ⟨Hy2, HO, Ha23⟩
  iapply (wp_wt I κ c 29 2 (yP c (ySu (rt c)) fullShare (YG I)) (dst := vYu c) rfl (crYu c) (by decide) rfl) $$ [Hc29 HO Ha29]
  · isplitr; · iexact He
    isplitl [Hc29]; · iexact Hc29
    isplitl [HO]; · iexact HO
    iexact Ha29
  iintro ⟨Hyru, HO, Ha29⟩
  iapply (wp_wt I κ c 24 2 (yP c (ySv c) qL (YG I)) (dst := vYv c) rfl (crYv c) (by decide) rfl) $$ [Hc24 HO Ha24]
  · isplitr; · iexact He
    isplitl [Hc24]; · iexact Hc24
    isplitl [HO]; · iexact HO
    iexact Ha24
  iintro ⟨Hy3, HO, Ha24⟩
  rw [wp_ret]
  imodintro
  iapply Hk
  isplitl [HO]; · iexact HO
  isplitl [Hout]; · iexact Hout
  isplitl [Ha22]; · iexact Ha22
  isplitl [Ha28]; · iexact Ha28
  isplitl [Ha23]; · iexact Ha23
  isplitl [Ha29]; · iexact Ha29
  isplitl [Ha24]; · iexact Ha24
  isplitl [Hy1]; · iexact Hy1
  isplitl [Hylu]; · iexact Hylu
  isplitl [Hy2]; · iexact Hy2
  isplitl [Hyru]; · iexact Hyru
  iexact Hy3

/-- All of the neighbours' results have arrived; half of the left one's go on to the right. -/
theorem run_p9 (v5 v7 : BitVec 32) (Q : _ → sProp 𝕄) :
    iprop(env I κ ∗ (ow c 2 ∗ cred (tallyAt (dc c 30) () (amt 30)) ∗ cred (tallyAt (dc c 25) () (amt 25)) ∗ cred (tallyAt (dc c 31) () (amt 31)) ∗ atPos ER (dc c 30) 0 ∅ 0 ∗ atPos ER (dc c 25) 0 ∅ 0 ∗ atPos ER (dc c 31) 0 ∅ 0 ∗ yP c (ySu (lf c)) fullShare (YG I) ∗ yP c (ySu (rt c)) fullShare (YG I) ∗ (∃ f, yP (rt c) (ySl (lf c)) fullShare f) ∗ dutyTok ER (dc c 26) 0 0 ∗ dutyTok ER (dc (rt c) 32) 0 0 ∗ reached ER (dc c 26) 0 ∗ reached ER (dc (rt c) 32) 0) ∗ ((ow c 1 ∗ atPos ER (dc c 30) 1 ∅ 0 ∗ atPos ER (dc c 25) 1 ∅ 0 ∗ atPos ER (dc c 31) 1 ∅ 0 ∗ yP c (ySv c) qRL (YG I) ∗ yP c (ySr (lf c)) qL (YG I) ∗ yP c (yS (lf c)) qR (YG I) ∗ yP c (yS (rt c)) fullShare (YG I) ∗ cred (tallyAt (dc c 26) () (amt 26))) -∗ Q ⟨⟩))
      ⊢ wp frame (wpE (defs₀ (F := F)) 𝒱₀ c none) Set.univ (k1_part9 (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c v5 v7) Q := by
  simp only [k1_part9_eq_skeleton, k1_part9_skel, semSignalWord, semWaitWord, Prog.lift, Prog.bind_op, Prog.bind_ret, Prog.pure_eq_ret]
  iintro ⟨#He, ⟨HO, Hc30, Hc25, Hc31, Ha30, Ha25, Ha31, Hylu, Hyru, Hd32, Ht26, Ht32, #Hr26, #Hr32⟩, Hk⟩
  iapply (wp_wt I κ c 30 2 (yP c (ySv (lf c)) fullShare (YG I)) (dst := vYv c) rfl (crYv c) (by decide) rfl) $$ [Hc30 HO Ha30]
  · isplitr; · iexact He
    isplitl [Hc30]; · iexact Hc30
    isplitl [HO]; · iexact HO
    iexact Ha30
  iintro ⟨Hylv, HO, Ha30⟩
  iapply (wp_wt I κ c 25 2 (yP c (ySv c) qRL (YG I)) (dst := vYv c) rfl (crYv c) (by decide) rfl) $$ [Hc25 HO Ha25]
  · isplitr; · iexact He
    isplitl [Hc25]; · iexact Hc25
    isplitl [HO]; · iexact HO
    iexact Ha25
  iintro ⟨Hy4, HO, Ha25⟩
  iapply (wp_wt I κ c 31 2 (yP c (ySv (rt c)) fullShare (YG I)) (dst := vYv c) rfl (crYv c) (by decide) rfl) $$ [Hc31 HO Ha31]
  · isplitr; · iexact He
    isplitl [Hc31]; · iexact Hc31
    isplitl [HO]; · iexact HO
    iexact Ha31
  iintro ⟨Hyrv, HO, Ha31⟩
  ihave Hyl := ((yP_uv c (lf c) fullShare (YG I)).2) $$ [Hylu Hylv]
  · isplitl [Hylu]; · iexact Hylu
    iexact Hylv
  ihave Hyr := ((yP_uv c (rt c) fullShare (YG I)).2) $$ [Hyru Hyrv]
  · isplitl [Hyru]; · iexact Hyru
    iexact Hyrv
  ihave H := ((yP_q c (yS (lf c)) (YG I)).1) $$ Hyl
  icases H with ⟨HyL, HylR⟩
  ihave H := ((yP_lr c (lf c) qL (YG I)).1) $$ HyL
  icases H with ⟨HyLl, HyLr⟩
  iapply (wp_send I κ c (rt c) (dev1_11 c (k1_dev11_lt c)) 26 32 1 (set_vYl c) (YG I) rfl rfl (crYl c) rfl rfl rfl
    (by show yP (rt c) (ySl (op (rt c))) fullShare (YG I) = _; rw [op_rt])) $$ [HyLl Hd32 HO Ht26 Ht32]
  · isplitr; · iexact He
    isplitl [HyLl]; · iexact HyLl
    isplitl [Hd32]; · iexact Hd32
    isplitl [HO]; · iexact HO
    isplitl [Ht26]; · iexact Ht26
    isplitr; · iexact Hr26
    isplitl [Ht32]; · iexact Ht32
    iexact Hr32
  iintro ⟨Hc26, HO⟩
  rw [wp_ret]
  imodintro
  iapply Hk
  isplitl [HO]; · iexact HO
  isplitl [Ha30]; · iexact Ha30
  isplitl [Ha25]; · iexact Ha25
  isplitl [Ha31]; · iexact Ha31
  isplitl [Hy4]; · iexact Hy4
  isplitl [HyLr]; · iexact HyLr
  isplitl [HylR]; · iexact HylR
  isplitl [Hyr]; · iexact Hyr
  iexact Hc26

/-- Half of the right neighbour's results go on to the left; both neighbours' results are combined. -/
theorem run_p10  (Q : _ → sProp 𝕄) :
    iprop(env I κ ∗ (ow c 1 ∗ yP c (yS (rt c)) fullShare (YG I) ∗ (∃ f, yP (lf c) (ySr (rt c)) fullShare f) ∗ dutyTok ER (dc c 27) 0 0 ∗ dutyTok ER (dc (lf c) 33) 0 0 ∗ reached ER (dc c 27) 0 ∗ reached ER (dc (lf c) 33) 0 ∗ ((c : Thread nD τ).loc cc1_stg4_0 ↦{fullShare} (o1 I c)) ∗ yP c (yS (lf c)) qR (YG I)) ∗ ((ow c 0 ∗ cred (tallyAt (dc c 27) () (amt 27)) ∗ yP c (ySl (rt c)) qL (YG I) ∗ yP c (yS (rt c)) qR (YG I) ∗ yP c (yS (lf c)) qR (YG I) ∗ ((c : Thread nD τ).loc cc1_stg4_0 ↦{fullShare} (o2 I c))) -∗ Q (o3 I c)))
      ⊢ wp frame (wpE (defs₀ (F := F)) 𝒱₀ c none) Set.univ (k1_part10 (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c (w1 c) (w2 c) (slots16 I c) iota16) Q := by
  simp only [k1_part10_eq_skeleton, k1_part10_skel, semSignalWord, semWaitWord, Prog.lift, Prog.bind_op, Prog.bind_ret, Prog.pure_eq_ret]
  iintro ⟨#He, ⟨HO, Hyr, Hd33, Ht27, Ht33, #Hr27, #Hr33, Hout, HylR⟩, Hk⟩
  ihave H := ((yP_q c (yS (rt c)) (YG I)).1) $$ Hyr
  icases H with ⟨HyL, HyrR⟩
  ihave H := ((yP_lr c (rt c) qL (YG I)).1) $$ HyL
  icases H with ⟨HyRl, HyRr⟩
  iapply (wp_send I κ c (lf c) (dev1_12 c (k1_dev12_lt c)) 27 33 0 (set_vYr c) (YG I) rfl rfl (crYr c) rfl rfl rfl
    (by show yP (lf c) (ySr (op (lf c))) fullShare (YG I) = _; rw [op_lf])) $$ [HyRr Hd33 HO Ht27 Ht33]
  · isplitr; · iexact He
    isplitl [HyRr]; · iexact HyRr
    isplitl [Hd33]; · iexact Hd33
    isplitl [HO]; · iexact HO
    isplitl [Ht27]; · iexact Ht27
    isplitr; · iexact Hr27
    isplitl [Ht33]; · iexact Ht33
    iexact Hr33
  iintro ⟨Hc27, HO⟩
  iapply (wp_ldw c (Memref.whole cc1_stg4_0) fullShare (o1 I c) (r := Rect.unit (s := S2048x1024) ![0, 0] S2048x1024.size inb_S2048x1024_S2048x1024_0_0)) $$ Hout
  iintro Hout
  have hO : ((Memref.whole cc1_stg4_0).access (Rect.unit (s := S2048x1024) ![0, 0] S2048x1024.size inb_S2048x1024_S2048x1024_0_0)).read (Elt F) (o1 I c) = o1 I c := Memref.read_access_unit_zero (Elt F) cc1_stg4_0 zero2 inb_S2048x1024_S2048x1024_0_0 _
  rw [hO]
  clear hO
  iapply (wp_ld c yM (yS (lf c)) qR (YG I) (r := Rect.unit (s := S6656x1024) (k1_off25 c) S1664x1024.size (k1_off25_inb c)) (Finset.subset_of_eq (yS_of (lf c) _ _ (k1_off25_eq c)))) $$ HylR
  iintro HylR
  iapply (wp_ldw c (Memref.whole cc1_stg4_0) fullShare (o1 I c) (r := Rect.unit (s := S2048x1024) ![0, 0] S2048x1024.size inb_S2048x1024_S2048x1024_0_0)) $$ Hout
  iintro Hout
  iapply (wp_stw c (Memref.whole cc1_stg4_0) (o1 I c) (r := Rect.unit (s := S2048x1024) ![0, 0] S2048x1024.size inb_S2048x1024_S2048x1024_0_0)) $$ Hout
  iintro Hout
  ihave Hout := (out_ent c (o1 I c) (k1_pay13 (w1 c) (slots16 I c) iota16 (o1 I c) ((yM.access (Rect.unit (s := S6656x1024) (k1_off25 c) S1664x1024.size (k1_off25_inb c))).read (Elt F) (YG I)))) $$ Hout
  rw [← o2_eq]
  iapply (wp_ldw c (Memref.whole cc1_stg4_0) fullShare (o2 I c) (r := Rect.unit (s := S2048x1024) ![0, 0] S2048x1024.size inb_S2048x1024_S2048x1024_0_0)) $$ Hout
  iintro Hout
  have hO : ((Memref.whole cc1_stg4_0).access (Rect.unit (s := S2048x1024) ![0, 0] S2048x1024.size inb_S2048x1024_S2048x1024_0_0)).read (Elt F) (o2 I c) = o2 I c := Memref.read_access_unit_zero (Elt F) cc1_stg4_0 zero2 inb_S2048x1024_S2048x1024_0_0 _
  rw [hO]
  clear hO
  iapply (wp_ld c yM (yS (rt c)) qR (YG I) (r := Rect.unit (s := S6656x1024) (k1_off26 c 1#32) S1664x1024.size (k1_off26_inb c 0)) (Finset.subset_of_eq (yS_of (rt c) _ _ (k1_off26_eq c 0)))) $$ HyrR
  iintro HyrR
  rw [wp_ret]
  imodintro
  simp only [o3, ybr]
  iapply Hk
  isplitl [HO]; · iexact HO
  isplitl [Hc27]; · iexact Hc27
  isplitl [HyRl]; · iexact HyRl
  isplitl [HyrR]; · iexact HyrR
  isplitl [HylR]; · iexact HylR
  iexact Hout

/-- The opposite device's results have arrived in two halves. -/
theorem run_p11 (v5 v7 : BitVec 32) (Q : _ → sProp 𝕄) :
    iprop(env I κ ∗ (ow c 0 ∗ ((c : Thread nD τ).loc cc1_stg4_0 ↦{fullShare} (o2 I c)) ∗ cred (tallyAt (dc c 26) () (amt 26)) ∗ cred (tallyAt (dc c 32) () (amt 32)) ∗ cred (tallyAt (dc c 27) () (amt 27)) ∗ cred (tallyAt (dc c 33) () (amt 33)) ∗ atPos ER (dc c 26) 0 ∅ 0 ∗ atPos ER (dc c 32) 0 ∅ 0 ∗ atPos ER (dc c 27) 0 ∅ 0 ∗ atPos ER (dc c 33) 0 ∅ 0) ∗ ((ow c 0 ∗ ((c : Thread nD τ).loc cc1_stg4_0 ↦{fullShare} (o3 I c)) ∗ atPos ER (dc c 26) 1 ∅ 0 ∗ atPos ER (dc c 32) 1 ∅ 0 ∗ atPos ER (dc c 27) 1 ∅ 0 ∗ atPos ER (dc c 33) 1 ∅ 0 ∗ yP c (ySl (lf c)) qL (YG I) ∗ yP c (ySr (rt c)) qL (YG I) ∗ yP c (yS (op c)) fullShare (YG I)) -∗ Q (k1_pay15 (F := F) (w3 c) (slots16 I c) iota16)))
      ⊢ wp frame (wpE (defs₀ (F := F)) 𝒱₀ c none) Set.univ (k1_part11 (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7 c v5 v7 (w3 c) (slots16 I c) iota16 (o3 I c)) Q := by
  simp only [k1_part11_eq_skeleton, k1_part11_skel, semSignalWord, semWaitWord, Prog.lift, Prog.bind_op, Prog.bind_ret, Prog.pure_eq_ret]
  iintro ⟨#He, ⟨HO, Hout, Hc26, Hc32, Hc27, Hc33, Ha26, Ha32, Ha27, Ha33⟩, Hk⟩
  iapply (wp_ldw c (Memref.whole cc1_stg4_0) fullShare (o2 I c) (r := Rect.unit (s := S2048x1024) ![0, 0] S2048x1024.size inb_S2048x1024_S2048x1024_0_0)) $$ Hout
  iintro Hout
  iapply (wp_stw c (Memref.whole cc1_stg4_0) (o2 I c) (r := Rect.unit (s := S2048x1024) ![0, 0] S2048x1024.size inb_S2048x1024_S2048x1024_0_0)) $$ Hout
  iintro Hout
  ihave Hout := (out_ent c (o2 I c) (o3 I c)) $$ Hout
  iapply (wp_wt I κ c 26 0 (yP c (ySl (lf c)) qL (YG I)) (dst := vYl c) rfl (crYl c) (by decide) rfl) $$ [Hc26 HO Ha26]
  · isplitr; · iexact He
    isplitl [Hc26]; · iexact Hc26
    isplitl [HO]; · iexact HO
    iexact Ha26
  iintro ⟨HyLl, HO, Ha26⟩
  iapply (wp_wt I κ c 32 0 (yP c (ySl (op c)) fullShare (YG I)) (dst := vYl c) rfl (crYl c) (by decide) rfl) $$ [Hc32 HO Ha32]
  · isplitr; · iexact He
    isplitl [Hc32]; · iexact Hc32
    isplitl [HO]; · iexact HO
    iexact Ha32
  iintro ⟨Hya, HO, Ha32⟩
  iapply (wp_wt I κ c 27 0 (yP c (ySr (rt c)) qL (YG I)) (dst := vYr c) rfl (crYr c) (by decide) rfl) $$ [Hc27 HO Ha27]
  · isplitr; · iexact He
    isplitl [Hc27]; · iexact Hc27
    isplitl [HO]; · iexact HO
    iexact Ha27
  iintro ⟨HyRr, HO, Ha27⟩
  iapply (wp_wt I κ c 33 0 (yP c (ySr (op c)) fullShare (YG I)) (dst := vYr c) rfl (crYr c) (by decide) rfl) $$ [Hc33 HO Ha33]
  · isplitr; · iexact He
    isplitl [Hc33]; · iexact Hc33
    isplitl [HO]; · iexact HO
    iexact Ha33
  iintro ⟨Hyb, HO, Ha33⟩
  ihave Hyp := ((yP_lr c (op c) fullShare (YG I)).2) $$ [Hya Hyb]
  · isplitl [Hya]; · iexact Hya
    iexact Hyb
  rw [wp_ret]
  imodintro
  iapply Hk
  isplitl [HO]; · iexact HO
  isplitl [Hout]; · iexact Hout
  isplitl [Ha26]; · iexact Ha26
  isplitl [Ha32]; · iexact Ha32
  isplitl [Ha27]; · iexact Ha27
  isplitl [Ha33]; · iexact Ha33
  isplitl [HyLl]; · iexact HyLl
  isplitl [HyRr]; · iexact HyRr
  iexact Hyp

end Cert.KernelIdeal.Net
-- ==== Proof.Run1.lean ====
/-
  Call 1 on device `c`, whole: what the device brings, what it has after it, and the run from one to the other.
-/
module

public import proofs.«01_k».proof.Proof.RunX
public import proofs.«01_k».proof.Proof.RunY

@[expose] public section

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (κ : GSem nD τ sig → ℕ) (c : Dev nD)

/-- What device `c` brings to call 1. -/
def pre1 : sProp 𝕄 :=
  iprop(ow c 12 ∗ cred (tallyAt (bc c 1) () 2) ∗ (cred (tallyAt (dc c 18) () (amt 18)) ∗ cred (tallyAt (dc c 19) () (amt 19)) ∗ cred (tallyAt (dc c 20) () (amt 20)) ∗ cred (tallyAt (dc c 21) () (amt 21)) ∗ cred (tallyAt (dc c 28) () (amt 28)) ∗ cred (tallyAt (dc c 29) () (amt 29)) ∗ cred (tallyAt (dc c 30) () (amt 30)) ∗ cred (tallyAt (dc c 31) () (amt 31)) ∗ cred (tallyAt (dc c 32) () (amt 32)) ∗ cred (tallyAt (dc c 33) () (amt 33)))
    ∗ atPos ER (bc c 1) 0 ∅ 0
    ∗ (atPos ER (dc c 13) 0 ∅ 0 ∗ atPos ER (dc c 14) 0 ∅ 0 ∗ atPos ER (dc c 15) 0 ∅ 0 ∗ atPos ER (dc c 16) 0 ∅ 0 ∗ atPos ER (dc c 17) 0 ∅ 0 ∗ atPos ER (dc c 18) 0 ∅ 0 ∗ atPos ER (dc c 19) 0 ∅ 0 ∗ atPos ER (dc c 20) 0 ∅ 0 ∗ atPos ER (dc c 21) 0 ∅ 0 ∗ atPos ER (dc c 22) 0 ∅ 0 ∗ atPos ER (dc c 23) 0 ∅ 0 ∗ atPos ER (dc c 24) 0 ∅ 0 ∗ atPos ER (dc c 25) 0 ∅ 0 ∗ atPos ER (dc c 26) 0 ∅ 0 ∗ atPos ER (dc c 27) 0 ∅ 0 ∗ atPos ER (dc c 28) 0 ∅ 0 ∗ atPos ER (dc c 29) 0 ∅ 0 ∗ atPos ER (dc c 30) 0 ∅ 0 ∗ atPos ER (dc c 31) 0 ∅ 0 ∗ atPos ER (dc c 32) 0 ∅ 0 ∗ atPos ER (dc c 33) 0 ∅ 0)
    ∗ (reached ER (dc c 13) 0 ∗ reached ER (dc c 14) 0 ∗ reached ER (dc c 15) 0 ∗ reached ER (dc c 16) 0 ∗ reached ER (dc c 17) 0 ∗ reached ER (dc c 18) 0 ∗ reached ER (dc c 19) 0 ∗ reached ER (dc c 20) 0 ∗ reached ER (dc c 21) 0 ∗ reached ER (dc c 22) 0 ∗ reached ER (dc c 23) 0 ∗ reached ER (dc c 24) 0 ∗ reached ER (dc c 25) 0 ∗ reached ER (dc c 26) 0 ∗ reached ER (dc c 27) 0 ∗ reached ER (dc c 28) 0 ∗ reached ER (dc c 29) 0 ∗ reached ER (dc c 30) 0 ∗ reached ER (dc c 31) 0 ∗ reached ER (dc c 32) 0 ∗ reached ER (dc c 33) 0)
    ∗ (dutyTok ER (bc (lf c) 1) 0 0 ∗ dutyTok ER (bc (rt c) 1) 0 1)
    ∗ (dutyTok ER (dc c 14) 0 0 ∗ dutyTok ER (dc c 15) 0 0 ∗ dutyTok ER (dc c 16) 0 0 ∗ dutyTok ER (dc c 17) 0 0 ∗ dutyTok ER (dc c 22) 0 0 ∗ dutyTok ER (dc c 23) 0 0 ∗ dutyTok ER (dc c 24) 0 0 ∗ dutyTok ER (dc c 25) 0 0 ∗ dutyTok ER (dc c 26) 0 0 ∗ dutyTok ER (dc c 27) 0 0)
    ∗ (dutyTok ER (dc (rt c) 18) 0 0 ∗ dutyTok ER (dc (rt c) 20) 0 0 ∗ dutyTok ER (dc (rt c) 28) 0 0 ∗ dutyTok ER (dc (rt c) 30) 0 0 ∗ dutyTok ER (dc (rt c) 32) 0 0)
    ∗ (dutyTok ER (dc (lf c) 19) 0 0 ∗ dutyTok ER (dc (lf c) 21) 0 0 ∗ dutyTok ER (dc (lf c) 29) 0 0 ∗ dutyTok ER (dc (lf c) 31) 0 0 ∗ dutyTok ER (dc (lf c) 33) 0 0)
    ∗ ltk c 0 8
    ∗ (((c : Thread nD τ).loc cc1_stg0_0 ↦{fullShare} I.xx c) ∗ ((c : Thread nD τ).loc cc1_stg1_0 ↦{fullShare} I.rr c) ∗ ((c : Thread nD τ).loc cc1_stg2_0 ↦{fullShare} I.rk c) ∗ ((c : Thread nD τ).loc cc1_stg3_0 ↦{fullShare} I.gm c))
    ∗ (∃ f, ((c : Thread nD τ).loc cc1_stg4_0 ↦{fullShare} f))
    ∗ (∃ f, xP c Finset.univ fullShare f) ∗ (∃ f, yP c Finset.univ fullShare f) ∗ (∃ f, wP c f) ∗ eP c Finset.univ (I.ew c))

/-- What it has after it: all its semaphores of the call back at zero, its arguments as they were, and the output. -/
def post1 : sProp 𝕄 :=
  iprop(ow c 0 ∗ semVal (bc c 1) 0
    ∗ (semVal (dc c 13) 0 ∗ semVal (dc c 14) 0 ∗ semVal (dc c 15) 0 ∗ semVal (dc c 16) 0 ∗ semVal (dc c 17) 0 ∗ semVal (dc c 18) 0 ∗ semVal (dc c 19) 0 ∗ semVal (dc c 20) 0 ∗ semVal (dc c 21) 0 ∗ semVal (dc c 22) 0 ∗ semVal (dc c 23) 0 ∗ semVal (dc c 24) 0 ∗ semVal (dc c 25) 0 ∗ semVal (dc c 26) 0 ∗ semVal (dc c 27) 0 ∗ semVal (dc c 28) 0 ∗ semVal (dc c 29) 0 ∗ semVal (dc c 30) 0 ∗ semVal (dc c 31) 0 ∗ semVal (dc c 32) 0 ∗ semVal (dc c 33) 0)
    ∗ (((c : Thread nD τ).loc cc1_stg0_0 ↦{fullShare} I.xx c) ∗ ((c : Thread nD τ).loc cc1_stg1_0 ↦{fullShare} I.rr c) ∗ ((c : Thread nD τ).loc cc1_stg2_0 ↦{fullShare} I.rk c) ∗ ((c : Thread nD τ).loc cc1_stg3_0 ↦{fullShare} I.gm c))
    ∗ ((c : Thread nD τ).loc cc1_stg4_0 ↦{fullShare} OUT I c)
    ∗ (∃ f, xP c Finset.univ fullShare f) ∗ (∃ f, yP c Finset.univ fullShare f) ∗ (∃ f, wP c f) ∗ eP c Finset.univ (I.ew c))

theorem bar1R_of : (bar1R (lf c) : sProp 𝕄)
    = iprop((∃ f, xP c (xS (lf c)) fullShare f) ∗ (∃ f, xP c (xSl (op c)) fullShare f)
    ∗ (∃ f, yP c (ySu (lf c)) fullShare f) ∗ (∃ f, yP c (ySv (lf c)) fullShare f) ∗ (∃ f, yP c (ySl (op c)) fullShare f)
    ∗ reached ER (dc c 18) 0 ∗ reached ER (dc c 20) 0 ∗ reached ER (dc c 28) 0 ∗ reached ER (dc c 30) 0 ∗ reached ER (dc c 32) 0) := by
  unfold bar1R; rw [rt_lf, lf_lf]
theorem bar1L_of : (bar1L (rt c) : sProp 𝕄)
    = iprop((∃ f, xP c (xS (rt c)) fullShare f) ∗ (∃ f, xP c (xSr (op c)) fullShare f)
    ∗ (∃ f, yP c (ySu (rt c)) fullShare f) ∗ (∃ f, yP c (ySv (rt c)) fullShare f) ∗ (∃ f, yP c (ySr (op c)) fullShare f)
    ∗ reached ER (dc c 19) 0 ∗ reached ER (dc c 21) 0 ∗ reached ER (dc c 29) 0 ∗ reached ER (dc c 31) 0 ∗ reached ER (dc c 33) 0) := by
  unfold bar1L; rw [lf_rt, rt_rt]

/-- A part from its three shares, and from its two. -/
theorem xP_j3 (A : Finset _) : iprop(xP c A qL (XG I) ∗ xP c A qRL (XG I) ∗ xP c A qRR (XG I)) ⊢ (xP c A fullShare (XG I) : sProp 𝕄) :=
  (sep_mono_right (xP_qq c A (XG I)).2).trans (xP_q c A (XG I)).2
theorem xP_j2 (d : Dev nD) : iprop(xP c (xSl d) qL (XG I) ∗ xP c (xSr d) qL (XG I) ∗ xP c (xS d) qR (XG I)) ⊢ (xP c (xS d) fullShare (XG I) : sProp 𝕄) := by
  iintro ⟨H1, H2, H3⟩
  iapply (xP_q c (xS d) (XG I)).2
  isplitr [H3]
  · iapply (xP_lr c d qL (XG I)).2
    isplitl [H1]; · iexact H1
    iexact H2
  iexact H3
/-- A part from its three shares, and from its two. -/
theorem yP_j3 (A : Finset _) : iprop(yP c A qL (YG I) ∗ yP c A qRL (YG I) ∗ yP c A qRR (YG I)) ⊢ (yP c A fullShare (YG I) : sProp 𝕄) :=
  (sep_mono_right (yP_qq c A (YG I)).2).trans (yP_q c A (YG I)).2
theorem yP_j2 (d : Dev nD) : iprop(yP c (ySl d) qL (YG I) ∗ yP c (ySr d) qL (YG I) ∗ yP c (yS d) qR (YG I)) ⊢ (yP c (yS d) fullShare (YG I) : sProp 𝕄) := by
  iintro ⟨H1, H2, H3⟩
  iapply (yP_q c (yS d) (YG I)).2
  isplitr [H3]
  · iapply (yP_lr c d qL (YG I)).2
    isplitl [H1]; · iexact H1
    iexact H2
  iexact H3

set_option maxHeartbeats 2000000 in
/-- Call 1 at device `c`, from its first signal to its last wait. -/
theorem run1 (Q : PUnit → sProp 𝕄) :
    iprop(env I κ ∗ pre1 I c ∗ (post1 I c -∗ Q ⟨⟩))
      ⊢ wp frame (wpE (defs₀ (F := F)) 𝒱₀ c none) Set.univ
          (cc1_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7) Q := by
  simp only [cc1_body_eq_skeleton, cc1_body_skel, Prog.lift]
  unfold pre1
  iintro ⟨#He, ⟨HO, Hcb, ⟨Hc18, Hc19, Hc20, Hc21, Hc28, Hc29, Hc30, Hc31, Hc32, Hc33⟩, Hab, ⟨Ha13, Ha14, Ha15, Ha16, Ha17, Ha18, Ha19, Ha20, Ha21, Ha22, Ha23, Ha24, Ha25, Ha26, Ha27, Ha28, Ha29, Ha30, Ha31, Ha32, Ha33⟩, ⟨#Ho13, #Ho14, #Ho15, #Ho16, #Ho17, #Ho18, #Ho19, #Ho20, #Ho21, #Ho22, #Ho23, #Ho24, #Ho25, #Ho26, #Ho27, #Ho28, #Ho29, #Ho30, #Ho31, #Ho32, #Ho33⟩, ⟨Htl, Htr⟩, ⟨Ht14, Ht15, Ht16, Ht17, Ht22, Ht23, Ht24, Ht25, Ht26, Ht27⟩, ⟨Ht18, Ht20, Ht28, Ht30, Ht32⟩, ⟨Ht19, Ht21, Ht29, Ht31, Ht33⟩, Hl, ⟨Hin, Hrr, Hrk, Hgm⟩, Hout, ⟨%fx, Hx⟩, ⟨%fy, Hy⟩, Hw, HE⟩, Hk⟩
  ihave H := (xP_split c fx) $$ Hx
  icases H with ⟨Hx, Hxl, Hxr, Hxo⟩
  ihave H := (yP_split c fy) $$ Hy
  icases H with ⟨Hy, Hyl, Hyr, Hyo⟩
  ihave H := (xP_lr c (op c) fullShare fx).1 $$ Hxo
  icases H with ⟨Hxol, Hxor⟩
  ihave H := (yP_lr c (op c) fullShare fy).1 $$ Hyo
  icases H with ⟨Hyol, Hyor⟩
  ihave H := (yP_uv c (lf c) fullShare fy).1 $$ Hyl
  icases H with ⟨Hylu, Hylv⟩
  ihave H := (yP_uv c (rt c) fullShare fy).1 $$ Hyr
  icases H with ⟨Hyru, Hyrv⟩
  ihave Hpl : barPay 1 0 (lf c) $$ [Hxl Hxol Hylu Hylv Hyol]
  · iapply (Entails.of_eq (show bar1R (lf c) = barPay 1 0 (lf c) from rfl))
    rw [bar1R_of]
    isplitl [Hxl]; · iexists _; iexact Hxl
    isplitl [Hxol]; · iexists _; iexact Hxol
    isplitl [Hylu]; · iexists _; iexact Hylu
    isplitl [Hylv]; · iexists _; iexact Hylv
    isplitl [Hyol]; · iexists _; iexact Hyol
    isplitr; · iexact Ho18
    isplitr; · iexact Ho20
    isplitr; · iexact Ho28
    isplitr; · iexact Ho30
    iexact Ho32
  ihave Hpr : barPay 1 1 (rt c) $$ [Hxr Hxor Hyru Hyrv Hyor]
  · iapply (Entails.of_eq (show bar1L (rt c) = barPay 1 1 (rt c) from rfl))
    rw [bar1L_of]
    isplitl [Hxr]; · iexists _; iexact Hxr
    isplitl [Hxor]; · iexists _; iexact Hxor
    isplitl [Hyru]; · iexists _; iexact Hyru
    isplitl [Hyrv]; · iexists _; iexact Hyrv
    isplitl [Hyor]; · iexists _; iexact Hyor
    isplitr; · iexact Ho19
    isplitr; · iexact Ho21
    isplitr; · iexact Ho29
    isplitr; · iexact Ho31
    iexact Ho33
  ihave Hx : (∃ f, xP c (xS c) fullShare f) $$ [Hx]
  · iexists _; iexact Hx
  ihave Hy : (∃ f, yP c (yS c) fullShare f) $$ [Hy]
  · iexists _; iexact Hy
  rw [wp_bind]
  iapply (run_p1 I κ c _)
  isplitr; · iexact He
  isplitl [HO Hcb Hab Htl Htr Hpl Hpr Hin Hx]
  · isplitl [HO]; · iexact HO
    isplitl [Hcb]; · iexact Hcb
    isplitl [Hab]; · iexact Hab
    isplitl [Htl]; · iexact Htl
    isplitl [Htr]; · iexact Htr
    isplitl [Hpl]; · iexact Hpl
    isplitl [Hpr]; · iexact Hpr
    isplitl [Hin]; · iexact Hin
    iexact Hx
  iintro ⟨HO, Hab, HR, HL, Hin, Hx⟩
  dsimp only
  ihave HR := (Entails.of_eq (show barPay 1 0 c = bar1R c from rfl)) $$ HR
  ihave HL := (Entails.of_eq (show barPay 1 1 c = bar1L c from rfl)) $$ HL
  unfold bar1R bar1L
  icases HR with ⟨Hd18, Hd20, Hd28, Hd30, Hd32, #Hr18, #Hr20, #Hr28, #Hr30, #Hr32⟩
  icases HL with ⟨Hd19, Hd21, Hd29, Hd31, Hd33, #Hr19, #Hr21, #Hr29, #Hr31, #Hr33⟩
  rw [wp_bind]
  iapply (run_p2 I κ c (w1 c) _)
  isplitr; · iexact He
  isplitl [HO Hx Hd18 Hd19 Ht14 Ht15 Ht18 Ht19 Hy Hrr Hrk]
  · isplitl [HO]; · iexact HO
    isplitl [Hx]; · iexact Hx
    isplitl [Hd18]; · iexact Hd18
    isplitl [Hd19]; · iexact Hd19
    isplitl [Ht14]; · iexact Ht14
    isplitl [Ht15]; · iexact Ht15
    isplitl [Ht18]; · iexact Ht18
    isplitl [Ht19]; · iexact Ht19
    isplitr; · iexact Ho14
    isplitr; · iexact Ho15
    isplitr; · iexact Hr18
    isplitr; · iexact Hr19
    isplitl [Hy]; · iexact Hy
    isplitl [Hrr]; · iexact Hrr
    iexact Hrk
  iintro ⟨HO, Hc14, Hc15, HxR, Hy, Hrr, Hrk⟩
  rw [wp_bind]
  iapply (run_p3 I κ c (w1 c) (w2 c) _)
  isplitr; · iexact He
  isplitl [HO Hc14 Hc18 Hc15 Hc19 Ha14 Ha18 Ha15 Ha19 Hd20 Ht16 Ht20]
  · isplitl [HO]; · iexact HO
    isplitl [Hc14]; · iexact Hc14
    isplitl [Hc18]; · iexact Hc18
    isplitl [Hc15]; · iexact Hc15
    isplitl [Hc19]; · iexact Hc19
    isplitl [Ha14]; · iexact Ha14
    isplitl [Ha18]; · iexact Ha18
    isplitl [Ha15]; · iexact Ha15
    isplitl [Ha19]; · iexact Ha19
    isplitl [Hd20]; · iexact Hd20
    isplitl [Ht16]; · iexact Ht16
    isplitl [Ht20]; · iexact Ht20
    isplitr; · iexact Ho16
    iexact Hr20
  iintro ⟨HO, Ha14, Ha18, Ha15, Ha19, Hx1, Hx2, HxLr, HxlR, Hxr, Hc16⟩
  rw [wp_bind]
  iapply (run_p4 I κ c (w1 c) (w2 c) 1#32 _)
  isplitr; · iexact He
  isplitl [HO Hxr Hd21 Ht17 Ht21 HxlR Hrr Hrk Hy]
  · isplitl [HO]; · iexact HO
    isplitl [Hxr]; · iexact Hxr
    isplitl [Hd21]; · iexact Hd21
    isplitl [Ht17]; · iexact Ht17
    isplitl [Ht21]; · iexact Ht21
    isplitr; · iexact Ho17
    isplitr; · iexact Hr21
    isplitl [HxlR]; · iexact HxlR
    isplitl [Hrr]; · iexact Hrr
    isplitl [Hrk]; · iexact Hrk
    iexact Hy
  iintro ⟨HO, Hc17, HxRl, HxrR, HxlR, Hrr, Hrk, Hy⟩
  rw [wp_bind]
  iapply (run_p5 I κ c (w1 c) (w2 c) (w3 c) _)
  isplitr; · iexact He
  isplitl [HO Hc16 Hc20 Hc17 Hc21 Ha16 Ha20 Ha17 Ha21 Hrr Hrk Hy]
  · isplitl [HO]; · iexact HO
    isplitl [Hc16]; · iexact Hc16
    isplitl [Hc20]; · iexact Hc20
    isplitl [Hc17]; · iexact Hc17
    isplitl [Hc21]; · iexact Hc21
    isplitl [Ha16]; · iexact Ha16
    isplitl [Ha20]; · iexact Ha20
    isplitl [Ha17]; · iexact Ha17
    isplitl [Ha21]; · iexact Ha21
    isplitl [Hrr]; · iexact Hrr
    isplitl [Hrk]; · iexact Hrk
    iexact Hy
  iintro ⟨HO, Ha16, Ha20, Ha17, Ha21, HxLl, HxRr, Hxo, Hrr, Hrk, Hy⟩
  dsimp only
  ihave Hl : lres c 0 $$ [Hl Ha13]
  · unfold lres
    isplitl [Ha13]; · iexact Ha13
    isplitr; · iexact Ho13
    iexact Hl
  rw [wp_bind]
  iapply (run_p6 I κ c (w1 c) (w2 c) 0#32 4#32 _)
  isplitr; · iexact He
  isplitl [HO Hy Hw HE Hl Hd28 Hd29 Ht22 Ht23 Ht28 Ht29]
  · isplitl [HO]; · iexact HO
    isplitl [Hy]; · iexact Hy
    isplitl [Hw]; · iexact Hw
    isplitl [HE]; · iexact HE
    isplitl [Hl]; · iexact Hl
    isplitl [Hd28]; · iexact Hd28
    isplitl [Hd29]; · iexact Hd29
    isplitl [Ht22]; · iexact Ht22
    isplitl [Ht23]; · iexact Ht23
    isplitl [Ht28]; · iexact Ht28
    isplitl [Ht29]; · iexact Ht29
    isplitr; · iexact Ho22
    isplitr; · iexact Ho23
    isplitr; · iexact Hr28
    iexact Hr29
  iintro ⟨HO, Hc22, Hc23, HyR, Hyv, Hw, HE, Hl⟩
  rw [wp_bind]
  iapply (run_p7 I κ c (w1 c) _)
  isplitr; · iexact He
  isplitl [HO HyR Hyv Hd30 Hd31 Ht24 Ht25 Ht30 Ht31 Hgm Hout]
  · isplitl [HO]; · iexact HO
    isplitl [HyR]; · iexact HyR
    isplitl [Hyv]; · iexact Hyv
    isplitl [Hd30]; · iexact Hd30
    isplitl [Hd31]; · iexact Hd31
    isplitl [Ht24]; · iexact Ht24
    isplitl [Ht25]; · iexact Ht25
    isplitl [Ht30]; · iexact Ht30
    isplitl [Ht31]; · iexact Ht31
    isplitr; · iexact Ho24
    isplitr; · iexact Ho25
    isplitr; · iexact Hr30
    isplitr; · iexact Hr31
    isplitl [Hgm]; · iexact Hgm
    iexact Hout
  iintro ⟨HO, Hc24, Hc25, Hyo, Hgm, Hout⟩
  dsimp only
  ihave Hout : (∃ f, ((c : Thread nD τ).loc cc1_stg4_0 ↦{fullShare} f)) $$ [Hout]
  · iexists _; iexact Hout
  rw [wp_bind]
  iapply (run_p8 I κ c (w1 c) (w2 c) _)
  isplitr; · iexact He
  isplitl [HO Hout Hc22 Hc28 Hc23 Hc29 Hc24 Ha22 Ha28 Ha23 Ha29 Ha24]
  · isplitl [HO]; · iexact HO
    isplitl [Hout]; · iexact Hout
    isplitl [Hc22]; · iexact Hc22
    isplitl [Hc28]; · iexact Hc28
    isplitl [Hc23]; · iexact Hc23
    isplitl [Hc29]; · iexact Hc29
    isplitl [Hc24]; · iexact Hc24
    isplitl [Ha22]; · iexact Ha22
    isplitl [Ha28]; · iexact Ha28
    isplitl [Ha23]; · iexact Ha23
    isplitl [Ha29]; · iexact Ha29
    iexact Ha24
  iintro ⟨HO, Hout, Ha22, Ha28, Ha23, Ha29, Ha24, Hy1, Hylu, Hy2, Hyru, Hy3⟩
  rw [wp_bind]
  iapply (run_p9 I κ c (w1 c) (w2 c) _)
  isplitr; · iexact He
  isplitl [HO Hc30 Hc25 Hc31 Ha30 Ha25 Ha31 Hylu Hyru Hd32 Ht26 Ht32]
  · isplitl [HO]; · iexact HO
    isplitl [Hc30]; · iexact Hc30
    isplitl [Hc25]; · iexact Hc25
    isplitl [Hc31]; · iexact Hc31
    isplitl [Ha30]; · iexact Ha30
    isplitl [Ha25]; · iexact Ha25
    isplitl [Ha31]; · iexact Ha31
    isplitl [Hylu]; · iexact Hylu
    isplitl [Hyru]; · iexact Hyru
    isplitl [Hd32]; · iexact Hd32
    isplitl [Ht26]; · iexact Ht26
    isplitl [Ht32]; · iexact Ht32
    isplitr; · iexact Ho26
    iexact Hr32
  iintro ⟨HO, Ha30, Ha25, Ha31, Hy4, HyLr, HylR, Hyr, Hc26⟩
  rw [wp_bind]
  iapply (run_p10 I κ c _)
  isplitr; · iexact He
  isplitl [HO Hyr Hd33 Ht27 Ht33 Hout HylR]
  · isplitl [HO]; · iexact HO
    isplitl [Hyr]; · iexact Hyr
    isplitl [Hd33]; · iexact Hd33
    isplitl [Ht27]; · iexact Ht27
    isplitl [Ht33]; · iexact Ht33
    isplitr; · iexact Ho27
    isplitr; · iexact Hr33
    isplitl [Hout]; · iexact Hout
    iexact HylR
  iintro ⟨HO, Hc27, HyRl, HyrR, HylR, Hout⟩
  rw [wp_bind]
  iapply (run_p11 I κ c (w1 c) (w2 c) _)
  isplitr; · iexact He
  isplitl [HO Hout Hc26 Hc32 Hc27 Hc33 Ha26 Ha32 Ha27 Ha33]
  · isplitl [HO]; · iexact HO
    isplitl [Hout]; · iexact Hout
    isplitl [Hc26]; · iexact Hc26
    isplitl [Hc32]; · iexact Hc32
    isplitl [Hc27]; · iexact Hc27
    isplitl [Hc33]; · iexact Hc33
    isplitl [Ha26]; · iexact Ha26
    isplitl [Ha32]; · iexact Ha32
    isplitl [Ha27]; · iexact Ha27
    iexact Ha33
  iintro ⟨HO, Hout, Ha26, Ha32, Ha27, Ha33, HyLl, HyRr, Hyp⟩
  simp only [Prog.bind_op, Prog.bind_ret, Prog.pure_eq_ret]
  iapply (wp_ldw c (Memref.whole cc1_stg4_0) fullShare (o3 I c) (r := Rect.unit (s := S2048x1024) ![0, 0] S2048x1024.size inb_S2048x1024_S2048x1024_0_0)) $$ Hout
  iintro Hout
  have hO : ((Memref.whole cc1_stg4_0).access (Rect.unit (s := S2048x1024) ![0, 0] S2048x1024.size inb_S2048x1024_S2048x1024_0_0)).read (Elt F) (o3 I c) = o3 I c := Memref.read_access_unit_zero (Elt F) cc1_stg4_0 zero2 inb_S2048x1024_S2048x1024_0_0 _
  rw [hO]
  clear hO
  iapply (wp_ld c yM (yS (op c)) fullShare (YG I) (r := Rect.unit (s := S6656x1024) (k1_off26 c 2#32) S1664x1024.size (k1_off26_inb c 1)) (Finset.subset_of_eq (yS_of (op c) _ _ (k1_off26_eq c 1)))) $$ Hyp
  iintro Hyp
  iapply (wp_ldw c (Memref.whole cc1_stg4_0) fullShare (o3 I c) (r := Rect.unit (s := S2048x1024) ![0, 0] S2048x1024.size inb_S2048x1024_S2048x1024_0_0)) $$ Hout
  iintro Hout
  iapply (wp_stw c (Memref.whole cc1_stg4_0) (o3 I c) (r := Rect.unit (s := S2048x1024) ![0, 0] S2048x1024.size inb_S2048x1024_S2048x1024_0_0)) $$ Hout
  iintro Hout
  ihave Hout := (out_ent c (o3 I c) (k1_pay1 (k1_pay15 (F := F) (w3 c) (slots16 I c) iota16) (o3 I c) ((yM.access (Rect.unit (s := S6656x1024) (k1_off26 c 2#32) S1664x1024.size (k1_off26_inb c 1))).read (Elt F) (YG I)))) $$ Hout
  rw [← OUT_eq]
  rw [wp_ret]
  imod (close1 I κ c (.reg 1) rfl (by decide)) $$ [Hab] with Hab
  · isplitr; · iexact He
    iexact Hab
  unfold lres
  icases Hl with ⟨Ha13, -, -⟩
  imod (close8 I κ c) $$ [Ha13] with Ha13
  · isplitr; · iexact He
    iexact Ha13
  imod (close1 I κ c (.dma 14) rfl (by decide)) $$ [Ha14] with Ha14
  · isplitr; · iexact He
    iexact Ha14
  imod (close1 I κ c (.dma 15) rfl (by decide)) $$ [Ha15] with Ha15
  · isplitr; · iexact He
    iexact Ha15
  imod (close1 I κ c (.dma 16) rfl (by decide)) $$ [Ha16] with Ha16
  · isplitr; · iexact He
    iexact Ha16
  imod (close1 I κ c (.dma 17) rfl (by decide)) $$ [Ha17] with Ha17
  · isplitr; · iexact He
    iexact Ha17
  imod (close1 I κ c (.dma 18) rfl (by decide)) $$ [Ha18] with Ha18
  · isplitr; · iexact He
    iexact Ha18
  imod (close1 I κ c (.dma 19) rfl (by decide)) $$ [Ha19] with Ha19
  · isplitr; · iexact He
    iexact Ha19
  imod (close1 I κ c (.dma 20) rfl (by decide)) $$ [Ha20] with Ha20
  · isplitr; · iexact He
    iexact Ha20
  imod (close1 I κ c (.dma 21) rfl (by decide)) $$ [Ha21] with Ha21
  · isplitr; · iexact He
    iexact Ha21
  imod (close1 I κ c (.dma 22) rfl (by decide)) $$ [Ha22] with Ha22
  · isplitr; · iexact He
    iexact Ha22
  imod (close1 I κ c (.dma 23) rfl (by decide)) $$ [Ha23] with Ha23
  · isplitr; · iexact He
    iexact Ha23
  imod (close1 I κ c (.dma 24) rfl (by decide)) $$ [Ha24] with Ha24
  · isplitr; · iexact He
    iexact Ha24
  imod (close1 I κ c (.dma 25) rfl (by decide)) $$ [Ha25] with Ha25
  · isplitr; · iexact He
    iexact Ha25
  imod (close1 I κ c (.dma 26) rfl (by decide)) $$ [Ha26] with Ha26
  · isplitr; · iexact He
    iexact Ha26
  imod (close1 I κ c (.dma 27) rfl (by decide)) $$ [Ha27] with Ha27
  · isplitr; · iexact He
    iexact Ha27
  imod (close1 I κ c (.dma 28) rfl (by decide)) $$ [Ha28] with Ha28
  · isplitr; · iexact He
    iexact Ha28
  imod (close1 I κ c (.dma 29) rfl (by decide)) $$ [Ha29] with Ha29
  · isplitr; · iexact He
    iexact Ha29
  imod (close1 I κ c (.dma 30) rfl (by decide)) $$ [Ha30] with Ha30
  · isplitr; · iexact He
    iexact Ha30
  imod (close1 I κ c (.dma 31) rfl (by decide)) $$ [Ha31] with Ha31
  · isplitr; · iexact He
    iexact Ha31
  imod (close1 I κ c (.dma 32) rfl (by decide)) $$ [Ha32] with Ha32
  · isplitr; · iexact He
    iexact Ha32
  imod (close1 I κ c (.dma 33) rfl (by decide)) $$ [Ha33] with Ha33
  · isplitr; · iexact He
    iexact Ha33
  imodintro
  iapply Hk
  unfold post1
  isplitl [HO]; · iexact HO
  isplitl [Hab]; · iexact Hab
  isplitl [Ha13 Ha14 Ha15 Ha16 Ha17 Ha18 Ha19 Ha20 Ha21 Ha22 Ha23 Ha24 Ha25 Ha26 Ha27 Ha28 Ha29 Ha30 Ha31 Ha32 Ha33]
  · isplitl [Ha13]; · iexact Ha13
    isplitl [Ha14]; · iexact Ha14
    isplitl [Ha15]; · iexact Ha15
    isplitl [Ha16]; · iexact Ha16
    isplitl [Ha17]; · iexact Ha17
    isplitl [Ha18]; · iexact Ha18
    isplitl [Ha19]; · iexact Ha19
    isplitl [Ha20]; · iexact Ha20
    isplitl [Ha21]; · iexact Ha21
    isplitl [Ha22]; · iexact Ha22
    isplitl [Ha23]; · iexact Ha23
    isplitl [Ha24]; · iexact Ha24
    isplitl [Ha25]; · iexact Ha25
    isplitl [Ha26]; · iexact Ha26
    isplitl [Ha27]; · iexact Ha27
    isplitl [Ha28]; · iexact Ha28
    isplitl [Ha29]; · iexact Ha29
    isplitl [Ha30]; · iexact Ha30
    isplitl [Ha31]; · iexact Ha31
    isplitl [Ha32]; · iexact Ha32
    iexact Ha33
  isplitl [Hin Hrr Hrk Hgm]
  · isplitl [Hin]; · iexact Hin
    isplitl [Hrr]; · iexact Hrr
    isplitl [Hrk]; · iexact Hrk
    iexact Hgm
  isplitl [Hout]; · iexact Hout
  isplitl [Hx1 Hx2 HxR HxLl HxLr HxlR HxRl HxRr HxrR Hxo]
  · iexists (XG I)
    iapply (xP_join c (XG I))
    isplitl [Hx1 Hx2 HxR]
    · iapply (xP_j3 I c (xS c))
      isplitl [Hx1]; · iexact Hx1
      isplitl [Hx2]; · iexact Hx2
      iexact HxR
    isplitl [HxLl HxLr HxlR]
    · iapply (xP_j2 I c (lf c))
      isplitl [HxLl]; · iexact HxLl
      isplitl [HxLr]; · iexact HxLr
      iexact HxlR
    isplitl [HxRl HxRr HxrR]
    · iapply (xP_j2 I c (rt c))
      isplitl [HxRl]; · iexact HxRl
      isplitl [HxRr]; · iexact HxRr
      iexact HxrR
    iexact Hxo
  isplitl [Hy1 Hy2 Hy3 Hy4 Hyo HyLl HyLr HylR HyRl HyRr HyrR Hyp]
  · iexists (YG I)
    ihave HyA := (yP_uv c c qL (YG I)).2 $$ [Hy1 Hy3]
    · isplitl [Hy1]; · iexact Hy1
      iexact Hy3
    ihave HyB := (yP_uv c c qRL (YG I)).2 $$ [Hy2 Hy4]
    · isplitl [Hy2]; · iexact Hy2
      iexact Hy4
    iapply (yP_join c (YG I))
    isplitl [HyA HyB Hyo]
    · iapply (yP_j3 I c (yS c))
      isplitl [HyA]; · iexact HyA
      isplitl [HyB]; · iexact HyB
      iexact Hyo
    isplitl [HyLl HyLr HylR]
    · iapply (yP_j2 I c (lf c))
      isplitl [HyLl]; · iexact HyLl
      isplitl [HyLr]; · iexact HyLr
      iexact HylR
    isplitl [HyRl HyRr HyrR]
    · iapply (yP_j2 I c (rt c))
      isplitl [HyRl]; · iexact HyRl
      isplitl [HyRr]; · iexact HyRr
      iexact HyrR
    iexact Hyp
  isplitl [Hw]; · iexact Hw
  iexact HE

end Cert.KernelIdeal.Net
-- ==== Proof.Data.lean ====
/-
  The two calls as the launch sees them: what each leaves in memory, what a device carries into each, and that its dormant
  cells can be opened on entry.
-/
module

public import proofs.«01_k».proof.Proof.Call0
public import proofs.«01_k».proof.Proof.Run1

@[expose] public section

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (I : Inp F) (κ : GSem nD τ sig → ℕ) (c : Dev nD)

/-! ## What the calls leave -/

/-- The inputs of call 0 alone; the others, which it does not read, at zero. -/
def inp0 : Inp F where
  ro c := V1 m c main_v5
  xx _ := fun _ => Scalar.ofBits .bf16 0x0000#16
  rr _ := fun _ => (0#32 : BitVec 32)
  rk _ := fun _ => (0#32 : BitVec 32)
  gm _ := fun _ => (0#32 : BitVec 32)
  ew _ := fun _ => Scalar.ofBits .f32 0x00000000#32
/-- The buffers with call 0's result. -/
def outs0 : Outs (F := F) := fun _ r c =>
  Function.update (β := fun r : Ref sig .tc => Buf (Elt F) ((c : Thread nD τ).loc r)) (fun r => m ((c : Thread nD τ).loc r)) main_v6 (RG (inp0 m)) r
/-- The inputs of both calls. -/
def inp : Inp F where
  ro c := V1 m c main_v5
  xx c := V7 m (outs0 m) c main_v36
  rr c := V7 m (outs0 m) c main_v37
  rk c := V7 m (outs0 m) c main_v38
  gm c := V7 m (outs0 m) c main_v39
  ew c := m ((c : Thread nD τ).loc main_arg2)
/-- The buffers with both calls' results. -/
def outs : Outs (F := F) := fun _ r c =>
  Function.update (β := fun r : Ref sig .tc => Buf (Elt F) ((c : Thread nD τ).loc r)) (fun r => outs0 m 0 r c) main_v40 (OUT (inp m) c) r

theorem outs_v6 (k : ℕ) : outs m k main_v6 c = RG (inp m) := by
  unfold outs outs0
  rw [Function.update_of_ne (by decide), Function.update_self]; rfl
theorem outs0_v6 (k : ℕ) : outs0 m k main_v6 c = RG (inp m) := by
  unfold outs0
  rw [Function.update_self]; rfl
theorem outs_v40 (k : ℕ) : outs m k main_v40 c = OUT (inp m) c := by
  unfold outs; rw [Function.update_self]
theorem V2_outs : V2 m (outs m) c = V2 m (outs0 m) c := by
  unfold V2; rw [outs_v6, outs0_v6]
/-- What call 1 finds does not depend on what it leaves. -/
theorem V7_outs : V7 m (outs m) c = V7 m (outs0 m) c := by
  unfold V7 V6 V5 V4 V3; rw [V2_outs]

theorem inp_xx : (inp m).xx c = V7 m (outs m) c main_v36 := by
  rw [V7_outs]; unfold inp; with_reducible rfl
theorem inp_rr : (inp m).rr c = V7 m (outs m) c main_v37 := by
  rw [V7_outs]; unfold inp; with_reducible rfl
theorem inp_rk : (inp m).rk c = V7 m (outs m) c main_v38 := by
  rw [V7_outs]; unfold inp; with_reducible rfl
theorem inp_gm : (inp m).gm c = V7 m (outs m) c main_v39 := by
  rw [V7_outs]; unfold inp; with_reducible rfl

/-! ## What a device carries into each call -/

/-- For call 0: its credits, its place at its barrier, the right to open its cells, and the tokens of what it pays. -/
def g0 : sProp 𝕄 :=
  iprop(atPos ER (bc c 0) 0 ∅ 0 ∗ (cred (tallyAt (bc c 0) () 2) ∗ cred (tallyAt (dc c 5) () NR) ∗ cred (tallyAt (dc c 6) () NR) ∗ cred (tallyAt (dc c 7) () NR))
    ∗ (openTok ER (dc c 2) ∗ openTok ER (dc c 3) ∗ openTok ER (dc c 4) ∗ openTok ER (dc c 5) ∗ openTok ER (dc c 6) ∗ openTok ER (dc c 7))
    ∗ (dutyTok ER (bc (lf c) 0) 0 0 ∗ dutyTok ER (bc (rt c) 0) 0 1)
    ∗ (dutyTok ER (dc c 2) 0 0 ∗ dutyTok ER (dc c 3) 0 0 ∗ dutyTok ER (dc c 4) 0 0)
    ∗ (dutyTok ER (dc (rt c) 5) 0 0 ∗ dutyTok ER (dc (rt c) 6) 0 0 ∗ dutyTok ER (dc (rt c) 7) 0 0))
/-- And with its cells open. -/
def h0 : sProp 𝕄 :=
  iprop(atPos ER (bc c 0) 0 ∅ 0 ∗ (cred (tallyAt (bc c 0) () 2) ∗ cred (tallyAt (dc c 5) () NR) ∗ cred (tallyAt (dc c 6) () NR) ∗ cred (tallyAt (dc c 7) () NR))
    ∗ (atPos ER (dc c 2) 0 ∅ 0 ∗ atPos ER (dc c 3) 0 ∅ 0 ∗ atPos ER (dc c 4) 0 ∅ 0 ∗ atPos ER (dc c 5) 0 ∅ 0 ∗ atPos ER (dc c 6) 0 ∅ 0 ∗ atPos ER (dc c 7) 0 ∅ 0)
    ∗ (reached ER (dc c 2) 0 ∗ reached ER (dc c 3) 0 ∗ reached ER (dc c 4) 0 ∗ reached ER (dc c 5) 0 ∗ reached ER (dc c 6) 0 ∗ reached ER (dc c 7) 0)
    ∗ (dutyTok ER (bc (lf c) 0) 0 0 ∗ dutyTok ER (bc (rt c) 0) 0 1)
    ∗ (dutyTok ER (dc c 2) 0 0 ∗ dutyTok ER (dc c 3) 0 0 ∗ dutyTok ER (dc c 4) 0 0)
    ∗ (dutyTok ER (dc (rt c) 5) 0 0 ∗ dutyTok ER (dc (rt c) 6) 0 0 ∗ dutyTok ER (dc (rt c) 7) 0 0))

/-- For call 1: its credits, its place at its barrier, the right to open its cells, and the tokens of what it pays. -/
def g1 : sProp 𝕄 :=
  iprop(atPos ER (bc c 1) 0 ∅ 0 ∗ (cred (tallyAt (bc c 1) () 2) ∗ (cred (tallyAt (dc c 18) () (amt 18)) ∗ cred (tallyAt (dc c 19) () (amt 19)) ∗ cred (tallyAt (dc c 20) () (amt 20)) ∗ cred (tallyAt (dc c 21) () (amt 21)) ∗ cred (tallyAt (dc c 28) () (amt 28)) ∗ cred (tallyAt (dc c 29) () (amt 29)) ∗ cred (tallyAt (dc c 30) () (amt 30)) ∗ cred (tallyAt (dc c 31) () (amt 31)) ∗ cred (tallyAt (dc c 32) () (amt 32)) ∗ cred (tallyAt (dc c 33) () (amt 33))))
    ∗ (openTok ER (dc c 13) ∗ openTok ER (dc c 14) ∗ openTok ER (dc c 15) ∗ openTok ER (dc c 16) ∗ openTok ER (dc c 17) ∗ openTok ER (dc c 18) ∗ openTok ER (dc c 19) ∗ openTok ER (dc c 20) ∗ openTok ER (dc c 21) ∗ openTok ER (dc c 22) ∗ openTok ER (dc c 23) ∗ openTok ER (dc c 24) ∗ openTok ER (dc c 25) ∗ openTok ER (dc c 26) ∗ openTok ER (dc c 27) ∗ openTok ER (dc c 28) ∗ openTok ER (dc c 29) ∗ openTok ER (dc c 30) ∗ openTok ER (dc c 31) ∗ openTok ER (dc c 32) ∗ openTok ER (dc c 33))
    ∗ (dutyTok ER (bc (lf c) 1) 0 0 ∗ dutyTok ER (bc (rt c) 1) 0 1)
    ∗ (dutyTok ER (dc c 14) 0 0 ∗ dutyTok ER (dc c 15) 0 0 ∗ dutyTok ER (dc c 16) 0 0 ∗ dutyTok ER (dc c 17) 0 0 ∗ dutyTok ER (dc c 22) 0 0 ∗ dutyTok ER (dc c 23) 0 0 ∗ dutyTok ER (dc c 24) 0 0 ∗ dutyTok ER (dc c 25) 0 0 ∗ dutyTok ER (dc c 26) 0 0 ∗ dutyTok ER (dc c 27) 0 0)
    ∗ (dutyTok ER (dc (rt c) 18) 0 0 ∗ dutyTok ER (dc (rt c) 20) 0 0 ∗ dutyTok ER (dc (rt c) 28) 0 0 ∗ dutyTok ER (dc (rt c) 30) 0 0 ∗ dutyTok ER (dc (rt c) 32) 0 0)
    ∗ (dutyTok ER (dc (lf c) 19) 0 0 ∗ dutyTok ER (dc (lf c) 21) 0 0 ∗ dutyTok ER (dc (lf c) 29) 0 0 ∗ dutyTok ER (dc (lf c) 31) 0 0 ∗ dutyTok ER (dc (lf c) 33) 0 0)
    ∗ ltk c 0 8)
/-- And with its cells open. -/
def h1 : sProp 𝕄 :=
  iprop(atPos ER (bc c 1) 0 ∅ 0 ∗ (cred (tallyAt (bc c 1) () 2) ∗ (cred (tallyAt (dc c 18) () (amt 18)) ∗ cred (tallyAt (dc c 19) () (amt 19)) ∗ cred (tallyAt (dc c 20) () (amt 20)) ∗ cred (tallyAt (dc c 21) () (amt 21)) ∗ cred (tallyAt (dc c 28) () (amt 28)) ∗ cred (tallyAt (dc c 29) () (amt 29)) ∗ cred (tallyAt (dc c 30) () (amt 30)) ∗ cred (tallyAt (dc c 31) () (amt 31)) ∗ cred (tallyAt (dc c 32) () (amt 32)) ∗ cred (tallyAt (dc c 33) () (amt 33))))
    ∗ (atPos ER (dc c 13) 0 ∅ 0 ∗ atPos ER (dc c 14) 0 ∅ 0 ∗ atPos ER (dc c 15) 0 ∅ 0 ∗ atPos ER (dc c 16) 0 ∅ 0 ∗ atPos ER (dc c 17) 0 ∅ 0 ∗ atPos ER (dc c 18) 0 ∅ 0 ∗ atPos ER (dc c 19) 0 ∅ 0 ∗ atPos ER (dc c 20) 0 ∅ 0 ∗ atPos ER (dc c 21) 0 ∅ 0 ∗ atPos ER (dc c 22) 0 ∅ 0 ∗ atPos ER (dc c 23) 0 ∅ 0 ∗ atPos ER (dc c 24) 0 ∅ 0 ∗ atPos ER (dc c 25) 0 ∅ 0 ∗ atPos ER (dc c 26) 0 ∅ 0 ∗ atPos ER (dc c 27) 0 ∅ 0 ∗ atPos ER (dc c 28) 0 ∅ 0 ∗ atPos ER (dc c 29) 0 ∅ 0 ∗ atPos ER (dc c 30) 0 ∅ 0 ∗ atPos ER (dc c 31) 0 ∅ 0 ∗ atPos ER (dc c 32) 0 ∅ 0 ∗ atPos ER (dc c 33) 0 ∅ 0)
    ∗ (reached ER (dc c 13) 0 ∗ reached ER (dc c 14) 0 ∗ reached ER (dc c 15) 0 ∗ reached ER (dc c 16) 0 ∗ reached ER (dc c 17) 0 ∗ reached ER (dc c 18) 0 ∗ reached ER (dc c 19) 0 ∗ reached ER (dc c 20) 0 ∗ reached ER (dc c 21) 0 ∗ reached ER (dc c 22) 0 ∗ reached ER (dc c 23) 0 ∗ reached ER (dc c 24) 0 ∗ reached ER (dc c 25) 0 ∗ reached ER (dc c 26) 0 ∗ reached ER (dc c 27) 0 ∗ reached ER (dc c 28) 0 ∗ reached ER (dc c 29) 0 ∗ reached ER (dc c 30) 0 ∗ reached ER (dc c 31) 0 ∗ reached ER (dc c 32) 0 ∗ reached ER (dc c 33) 0)
    ∗ (dutyTok ER (bc (lf c) 1) 0 0 ∗ dutyTok ER (bc (rt c) 1) 0 1)
    ∗ (dutyTok ER (dc c 14) 0 0 ∗ dutyTok ER (dc c 15) 0 0 ∗ dutyTok ER (dc c 16) 0 0 ∗ dutyTok ER (dc c 17) 0 0 ∗ dutyTok ER (dc c 22) 0 0 ∗ dutyTok ER (dc c 23) 0 0 ∗ dutyTok ER (dc c 24) 0 0 ∗ dutyTok ER (dc c 25) 0 0 ∗ dutyTok ER (dc c 26) 0 0 ∗ dutyTok ER (dc c 27) 0 0)
    ∗ (dutyTok ER (dc (rt c) 18) 0 0 ∗ dutyTok ER (dc (rt c) 20) 0 0 ∗ dutyTok ER (dc (rt c) 28) 0 0 ∗ dutyTok ER (dc (rt c) 30) 0 0 ∗ dutyTok ER (dc (rt c) 32) 0 0)
    ∗ (dutyTok ER (dc (lf c) 19) 0 0 ∗ dutyTok ER (dc (lf c) 21) 0 0 ∗ dutyTok ER (dc (lf c) 29) 0 0 ∗ dutyTok ER (dc (lf c) 31) 0 0 ∗ dutyTok ER (dc (lf c) 33) 0 0)
    ∗ ltk c 0 8)

/-- A dormant cell is opened with its counter at zero. -/
theorem openCell (s : SemLoc sig) (h : tk s = true) : iprop(env I κ ∗ openTok ER (cl c s) ∗ semVal (cl c s) 0)
    ⊢ (|={Set.univ}=> iprop(atPos ER (cl c s) 0 ∅ 0 ∗ reached ER (cl c s) 0) : sProp 𝕄) := by
  iintro ⟨#He, Ho, Hs⟩
  iapply (Rounds.cell_open ER (Rd I) (g := cl c s) (Set.mem_univ (κ (cl c s))))
  isplitr; · iapply (env_inv I κ c s h); iexact He
  isplitl [Ho]; · iexact Ho
  iexact Hs

/-- Entering call 0: its dormant cells are opened. -/
theorem enter0 : iprop((∃ κ, env I κ ∗ g0 c) ∗ (semVal (dc c 2) 0 ∗ semVal (dc c 3) 0 ∗ semVal (dc c 4) 0 ∗ semVal (dc c 5) 0 ∗ semVal (dc c 6) 0 ∗ semVal (dc c 7) 0)) ⊢ (|={Set.univ}=> (∃ κ, env I κ ∗ h0 c) : sProp 𝕄) := by
  unfold g0 h0
  iintro ⟨⟨%κ, #He, Ha, Hc, ⟨Ho2, Ho3, Ho4, Ho5, Ho6, Ho7⟩, Ht⟩, ⟨Hs2, Hs3, Hs4, Hs5, Hs6, Hs7⟩⟩
  imod (openCell I κ c (.dma 2) rfl) $$ [Ho2 Hs2] with ⟨Ho2, #Hr2⟩
  · isplitr; · iexact He
    isplitl [Ho2]; · iexact Ho2
    iexact Hs2
  imod (openCell I κ c (.dma 3) rfl) $$ [Ho3 Hs3] with ⟨Ho3, #Hr3⟩
  · isplitr; · iexact He
    isplitl [Ho3]; · iexact Ho3
    iexact Hs3
  imod (openCell I κ c (.dma 4) rfl) $$ [Ho4 Hs4] with ⟨Ho4, #Hr4⟩
  · isplitr; · iexact He
    isplitl [Ho4]; · iexact Ho4
    iexact Hs4
  imod (openCell I κ c (.dma 5) rfl) $$ [Ho5 Hs5] with ⟨Ho5, #Hr5⟩
  · isplitr; · iexact He
    isplitl [Ho5]; · iexact Ho5
    iexact Hs5
  imod (openCell I κ c (.dma 6) rfl) $$ [Ho6 Hs6] with ⟨Ho6, #Hr6⟩
  · isplitr; · iexact He
    isplitl [Ho6]; · iexact Ho6
    iexact Hs6
  imod (openCell I κ c (.dma 7) rfl) $$ [Ho7 Hs7] with ⟨Ho7, #Hr7⟩
  · isplitr; · iexact He
    isplitl [Ho7]; · iexact Ho7
    iexact Hs7
  imodintro
  iexists κ
  isplitr; · iexact He
  isplitl [Ha]; · iexact Ha
  isplitl [Hc]; · iexact Hc
  isplitl [Ho2 Ho3 Ho4 Ho5 Ho6 Ho7]
  · isplitl [Ho2]; · iexact Ho2
    isplitl [Ho3]; · iexact Ho3
    isplitl [Ho4]; · iexact Ho4
    isplitl [Ho5]; · iexact Ho5
    isplitl [Ho6]; · iexact Ho6
    iexact Ho7
  isplitr
  · isplitr; · iexact Hr2
    isplitr; · iexact Hr3
    isplitr; · iexact Hr4
    isplitr; · iexact Hr5
    isplitr; · iexact Hr6
    iexact Hr7
  iexact Ht

/-- Entering call 1: its dormant cells are opened. -/
theorem enter1 : iprop((∃ κ, env I κ ∗ g1 c) ∗ (semVal (dc c 13) 0 ∗ semVal (dc c 14) 0 ∗ semVal (dc c 15) 0 ∗ semVal (dc c 16) 0 ∗ semVal (dc c 17) 0 ∗ semVal (dc c 18) 0 ∗ semVal (dc c 19) 0 ∗ semVal (dc c 20) 0 ∗ semVal (dc c 21) 0 ∗ semVal (dc c 22) 0 ∗ semVal (dc c 23) 0 ∗ semVal (dc c 24) 0 ∗ semVal (dc c 25) 0 ∗ semVal (dc c 26) 0 ∗ semVal (dc c 27) 0 ∗ semVal (dc c 28) 0 ∗ semVal (dc c 29) 0 ∗ semVal (dc c 30) 0 ∗ semVal (dc c 31) 0 ∗ semVal (dc c 32) 0 ∗ semVal (dc c 33) 0)) ⊢ (|={Set.univ}=> (∃ κ, env I κ ∗ h1 c) : sProp 𝕄) := by
  unfold g1 h1
  iintro ⟨⟨%κ, #He, Ha, Hc, ⟨Ho13, Ho14, Ho15, Ho16, Ho17, Ho18, Ho19, Ho20, Ho21, Ho22, Ho23, Ho24, Ho25, Ho26, Ho27, Ho28, Ho29, Ho30, Ho31, Ho32, Ho33⟩, Ht⟩, ⟨Hs13, Hs14, Hs15, Hs16, Hs17, Hs18, Hs19, Hs20, Hs21, Hs22, Hs23, Hs24, Hs25, Hs26, Hs27, Hs28, Hs29, Hs30, Hs31, Hs32, Hs33⟩⟩
  imod (openCell I κ c (.dma 13) rfl) $$ [Ho13 Hs13] with ⟨Ho13, #Hr13⟩
  · isplitr; · iexact He
    isplitl [Ho13]; · iexact Ho13
    iexact Hs13
  imod (openCell I κ c (.dma 14) rfl) $$ [Ho14 Hs14] with ⟨Ho14, #Hr14⟩
  · isplitr; · iexact He
    isplitl [Ho14]; · iexact Ho14
    iexact Hs14
  imod (openCell I κ c (.dma 15) rfl) $$ [Ho15 Hs15] with ⟨Ho15, #Hr15⟩
  · isplitr; · iexact He
    isplitl [Ho15]; · iexact Ho15
    iexact Hs15
  imod (openCell I κ c (.dma 16) rfl) $$ [Ho16 Hs16] with ⟨Ho16, #Hr16⟩
  · isplitr; · iexact He
    isplitl [Ho16]; · iexact Ho16
    iexact Hs16
  imod (openCell I κ c (.dma 17) rfl) $$ [Ho17 Hs17] with ⟨Ho17, #Hr17⟩
  · isplitr; · iexact He
    isplitl [Ho17]; · iexact Ho17
    iexact Hs17
  imod (openCell I κ c (.dma 18) rfl) $$ [Ho18 Hs18] with ⟨Ho18, #Hr18⟩
  · isplitr; · iexact He
    isplitl [Ho18]; · iexact Ho18
    iexact Hs18
  imod (openCell I κ c (.dma 19) rfl) $$ [Ho19 Hs19] with ⟨Ho19, #Hr19⟩
  · isplitr; · iexact He
    isplitl [Ho19]; · iexact Ho19
    iexact Hs19
  imod (openCell I κ c (.dma 20) rfl) $$ [Ho20 Hs20] with ⟨Ho20, #Hr20⟩
  · isplitr; · iexact He
    isplitl [Ho20]; · iexact Ho20
    iexact Hs20
  imod (openCell I κ c (.dma 21) rfl) $$ [Ho21 Hs21] with ⟨Ho21, #Hr21⟩
  · isplitr; · iexact He
    isplitl [Ho21]; · iexact Ho21
    iexact Hs21
  imod (openCell I κ c (.dma 22) rfl) $$ [Ho22 Hs22] with ⟨Ho22, #Hr22⟩
  · isplitr; · iexact He
    isplitl [Ho22]; · iexact Ho22
    iexact Hs22
  imod (openCell I κ c (.dma 23) rfl) $$ [Ho23 Hs23] with ⟨Ho23, #Hr23⟩
  · isplitr; · iexact He
    isplitl [Ho23]; · iexact Ho23
    iexact Hs23
  imod (openCell I κ c (.dma 24) rfl) $$ [Ho24 Hs24] with ⟨Ho24, #Hr24⟩
  · isplitr; · iexact He
    isplitl [Ho24]; · iexact Ho24
    iexact Hs24
  imod (openCell I κ c (.dma 25) rfl) $$ [Ho25 Hs25] with ⟨Ho25, #Hr25⟩
  · isplitr; · iexact He
    isplitl [Ho25]; · iexact Ho25
    iexact Hs25
  imod (openCell I κ c (.dma 26) rfl) $$ [Ho26 Hs26] with ⟨Ho26, #Hr26⟩
  · isplitr; · iexact He
    isplitl [Ho26]; · iexact Ho26
    iexact Hs26
  imod (openCell I κ c (.dma 27) rfl) $$ [Ho27 Hs27] with ⟨Ho27, #Hr27⟩
  · isplitr; · iexact He
    isplitl [Ho27]; · iexact Ho27
    iexact Hs27
  imod (openCell I κ c (.dma 28) rfl) $$ [Ho28 Hs28] with ⟨Ho28, #Hr28⟩
  · isplitr; · iexact He
    isplitl [Ho28]; · iexact Ho28
    iexact Hs28
  imod (openCell I κ c (.dma 29) rfl) $$ [Ho29 Hs29] with ⟨Ho29, #Hr29⟩
  · isplitr; · iexact He
    isplitl [Ho29]; · iexact Ho29
    iexact Hs29
  imod (openCell I κ c (.dma 30) rfl) $$ [Ho30 Hs30] with ⟨Ho30, #Hr30⟩
  · isplitr; · iexact He
    isplitl [Ho30]; · iexact Ho30
    iexact Hs30
  imod (openCell I κ c (.dma 31) rfl) $$ [Ho31 Hs31] with ⟨Ho31, #Hr31⟩
  · isplitr; · iexact He
    isplitl [Ho31]; · iexact Ho31
    iexact Hs31
  imod (openCell I κ c (.dma 32) rfl) $$ [Ho32 Hs32] with ⟨Ho32, #Hr32⟩
  · isplitr; · iexact He
    isplitl [Ho32]; · iexact Ho32
    iexact Hs32
  imod (openCell I κ c (.dma 33) rfl) $$ [Ho33 Hs33] with ⟨Ho33, #Hr33⟩
  · isplitr; · iexact He
    isplitl [Ho33]; · iexact Ho33
    iexact Hs33
  imodintro
  iexists κ
  isplitr; · iexact He
  isplitl [Ha]; · iexact Ha
  isplitl [Hc]; · iexact Hc
  isplitl [Ho13 Ho14 Ho15 Ho16 Ho17 Ho18 Ho19 Ho20 Ho21 Ho22 Ho23 Ho24 Ho25 Ho26 Ho27 Ho28 Ho29 Ho30 Ho31 Ho32 Ho33]
  · isplitl [Ho13]; · iexact Ho13
    isplitl [Ho14]; · iexact Ho14
    isplitl [Ho15]; · iexact Ho15
    isplitl [Ho16]; · iexact Ho16
    isplitl [Ho17]; · iexact Ho17
    isplitl [Ho18]; · iexact Ho18
    isplitl [Ho19]; · iexact Ho19
    isplitl [Ho20]; · iexact Ho20
    isplitl [Ho21]; · iexact Ho21
    isplitl [Ho22]; · iexact Ho22
    isplitl [Ho23]; · iexact Ho23
    isplitl [Ho24]; · iexact Ho24
    isplitl [Ho25]; · iexact Ho25
    isplitl [Ho26]; · iexact Ho26
    isplitl [Ho27]; · iexact Ho27
    isplitl [Ho28]; · iexact Ho28
    isplitl [Ho29]; · iexact Ho29
    isplitl [Ho30]; · iexact Ho30
    isplitl [Ho31]; · iexact Ho31
    isplitl [Ho32]; · iexact Ho32
    iexact Ho33
  isplitr
  · isplitr; · iexact Hr13
    isplitr; · iexact Hr14
    isplitr; · iexact Hr15
    isplitr; · iexact Hr16
    isplitr; · iexact Hr17
    isplitr; · iexact Hr18
    isplitr; · iexact Hr19
    isplitr; · iexact Hr20
    isplitr; · iexact Hr21
    isplitr; · iexact Hr22
    isplitr; · iexact Hr23
    isplitr; · iexact Hr24
    isplitr; · iexact Hr25
    isplitr; · iexact Hr26
    isplitr; · iexact Hr27
    isplitr; · iexact Hr28
    isplitr; · iexact Hr29
    isplitr; · iexact Hr30
    isplitr; · iexact Hr31
    isplitr; · iexact Hr32
    iexact Hr33
  iexact Ht

/-! ## The calls' proof data -/

/-- Call 0's own semaphores and call 1's. -/
abbrev osem0 : Fin 6 → SemLoc sig := fun k => .dma ⟨2 + k.val, by show 2 + k.val < 34; omega⟩
abbrev osem1 : Fin 21 → SemLoc sig := fun k => .dma ⟨13 + k.val, by show 13 + k.val < 34; omega⟩
theorem own0 : Pipeline.OwnSemFacts spec0 osem0 := by decide
theorem own1 : Pipeline.OwnSemFacts spec1 osem1 := by decide
theorem own0_eq : (Pipeline.ownSems0 osem0 c : sProp 𝕄) = iprop((semVal (dc c 2) 0 ∗ semVal (dc c 3) 0 ∗ semVal (dc c 4) 0 ∗ semVal (dc c 5) 0 ∗ semVal (dc c 6) 0 ∗ semVal (dc c 7) 0)) :=
  Pipeline.ownSems0_eq_of_list c osem0 [0, 1, 2, 3, 4, 5] (by decide) (by decide)
theorem own1_eq : (Pipeline.ownSems0 osem1 c : sProp 𝕄) = iprop((semVal (dc c 13) 0 ∗ semVal (dc c 14) 0 ∗ semVal (dc c 15) 0 ∗ semVal (dc c 16) 0 ∗ semVal (dc c 17) 0 ∗ semVal (dc c 18) 0 ∗ semVal (dc c 19) 0 ∗ semVal (dc c 20) 0 ∗ semVal (dc c 21) 0 ∗ semVal (dc c 22) 0 ∗ semVal (dc c 23) 0 ∗ semVal (dc c 24) 0 ∗ semVal (dc c 25) 0 ∗ semVal (dc c 26) 0 ∗ semVal (dc c 27) 0 ∗ semVal (dc c 28) 0 ∗ semVal (dc c 29) 0 ∗ semVal (dc c 30) 0 ∗ semVal (dc c 31) 0 ∗ semVal (dc c 32) 0 ∗ semVal (dc c 33) 0)) :=
  Pipeline.ownSems0_eq_of_list c osem1 [0, 1, 2, 3, 4, 5, 6, 7, 8, 9, 10, 11, 12, 13, 14, 15, 16, 17, 18, 19, 20] (by decide) (by decide)

/-- Call 0: the routes of the device in, all routes out. -/
def dat0 : Pipeline.Dat τ (Elt F) Unit ℕ UU ℕ cfg0 c where
  A w := match w with
    | ⟨0, _⟩ => (inp m).ro c
    | ⟨1, _⟩ => V1 m c main_v6
  after w _ := match w with
    | ⟨0, _⟩ => (inp m).ro c
    | ⟨1, _⟩ => RG (inp m)
  Φ t := if t.val = 0 then iprop((∃ κ, env (inp m) κ ∗ h0 c) ∗ Pipeline.scopedRest spec0 c ∗ ∃ r, prngReg c r)
    else iprop((semVal (bc c 0) 0 ∗ (semVal (dc c 2) 0 ∗ semVal (dc c 3) 0 ∗ semVal (dc c 4) 0 ∗ semVal (dc c 5) 0 ∗ semVal (dc c 6) 0 ∗ semVal (dc c 7) 0)) ∗ Pipeline.scopedRest spec0 c ∗ ∃ r, prngReg c r)
  q _ := fullShare
  owed t := if t.val = 0 then rem c 17 else rem c 12

/-- What the result's buffer holds before call 1. -/
def old40 : Vec F S2048x1024 .bf16 := V7 m (outs m) c main_v40
theorem old40_eq : old40 m c = V7 m (outs m) c main_v40 := by unfold old40; with_reducible rfl

/-- Call 1: its four windowed inputs and the experts' weights in, the result out. -/
def dat1 : Pipeline.Dat τ (Elt F) Unit ℕ UU ℕ cfg1 c where
  A w := match w with
    | ⟨0, _⟩ => (inp m).xx c
    | ⟨1, _⟩ => (inp m).rr c
    | ⟨2, _⟩ => (inp m).rk c
    | ⟨3, _⟩ => (inp m).gm c
    | ⟨4, _⟩ => old40 m c
  after w _ := match w with
    | ⟨0, _⟩ => (inp m).xx c
    | ⟨1, _⟩ => (inp m).rr c
    | ⟨2, _⟩ => (inp m).rk c
    | ⟨3, _⟩ => (inp m).gm c
    | ⟨4, _⟩ => OUT (inp m) c
  Φ t := if t.val = 0 then iprop((∃ κ, env (inp m) κ ∗ h1 c) ∗ eP c Finset.univ ((inp m).ew c) ∗ Pipeline.scopedRest spec1 c ∗ ∃ r, prngReg c r)
    else iprop((semVal (bc c 1) 0 ∗ (semVal (dc c 13) 0 ∗ semVal (dc c 14) 0 ∗ semVal (dc c 15) 0 ∗ semVal (dc c 16) 0 ∗ semVal (dc c 17) 0 ∗ semVal (dc c 18) 0 ∗ semVal (dc c 19) 0 ∗ semVal (dc c 20) 0 ∗ semVal (dc c 21) 0 ∗ semVal (dc c 22) 0 ∗ semVal (dc c 23) 0 ∗ semVal (dc c 24) 0 ∗ semVal (dc c 25) 0 ∗ semVal (dc c 26) 0 ∗ semVal (dc c 27) 0 ∗ semVal (dc c 28) 0 ∗ semVal (dc c 29) 0 ∗ semVal (dc c 30) 0 ∗ semVal (dc c 31) 0 ∗ semVal (dc c 32) 0 ∗ semVal (dc c 33) 0)) ∗ eP c Finset.univ ((inp m).ew c) ∗ Pipeline.scopedRest spec1 c ∗ ∃ r, prngReg c r)
  q _ := fullShare
  owed t := if t.val = 0 then rem c 12 else rem c 0

/-- The two together. -/
def pdats : (p : Fin 2) → (c : Dev nD) → Pipeline.Dat τ (Elt F) Unit ℕ UU ℕ (cfgs p) c
  | 0 => dat0 m
  | 1 => dat1 m

end Cert.KernelIdeal.Net
-- ==== Proof.Body.lean ====
/-
  The two calls' bodies meet what the pipeline asks of them: `run0` and `run1` between the staging buffers.
-/
module

public import proofs.«01_k».proof.Proof.Data
public import Idealize.ShloMosaic.Lib.Pipeline.ValueKit.Geometry

@[expose] public section

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)
open Idealize.ShloMosaic.Pipeline (Dat BodyObligation)

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owesAt_intro {cfg : Pipeline.Cfg sig Λ₀} {c : Dev nD} (dat : Dat τ (Elt F) Unit ℕ UU ℕ cfg c) (t : Fin (cfg.N + 1)) (k : ℕ)
    (h0 : dat.owed t = rem c k) (hr : dat.recorded t = Set.univ) : (ow c k : sProp 𝕄) ⊢ (dat.owesAt () t : sProp 𝕄) := by
  unfold Dat.owesAt Pipeline.owesWithin Dat.bound ow; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1)) (k : ℕ)
    (h0 : dat.owed t = rem c k) : (dat.owesAt () t : sProp 𝕄) ⊢ ow c k := by
  unfold Dat.owesAt Pipeline.owesWithin ow; rw [h0]
  iintro ⟨%W, -, HO⟩; iexists W; iexact HO

theorem owed0_first : (dat0 m c).owed t0_0.castSucc = rem c 17 := by
  show (if (t0_0.castSucc : Fin (cfg0.N + 1)).val = 0 then rem c 17 else rem c 12) = rem c 17; exact if_pos rfl
theorem owed0_zero : (dat0 m c).owed 0 = rem c 17 := by
  show (if ((0 : Fin (cfg0.N + 1)).val = 0) then rem c 17 else rem c 12) = rem c 17; exact if_pos rfl
theorem owed0_succ : (dat0 m c).owed t0_0.succ = rem c 12 := by
  show (if (t0_0.succ : Fin (cfg0.N + 1)).val = 0 then rem c 17 else rem c 12) = rem c 12; exact if_neg (Nat.succ_ne_zero _)
theorem owed0_last : (dat0 m c).owed (Fin.last _) = rem c 12 := by
  show (if (Fin.last cfg0.N).val = 0 then rem c 17 else rem c 12) = rem c 12
  rw [Fin.val_last, if_neg (by rw [show cfg0.N = 1 from N_0]; decide)]

theorem owed1_first : (dat1 m c).owed t1_0.castSucc = rem c 12 := by
  show (if (t1_0.castSucc : Fin (cfg1.N + 1)).val = 0 then rem c 12 else rem c 0) = rem c 12; exact if_pos rfl
theorem owed1_zero : (dat1 m c).owed 0 = rem c 12 := by
  show (if ((0 : Fin (cfg1.N + 1)).val = 0) then rem c 12 else rem c 0) = rem c 12; exact if_pos rfl
theorem owed1_succ : (dat1 m c).owed t1_0.succ = rem c 0 := by
  show (if (t1_0.succ : Fin (cfg1.N + 1)).val = 0 then rem c 12 else rem c 0) = rem c 0; exact if_neg (Nat.succ_ne_zero _)
theorem owed1_last : (dat1 m c).owed (Fin.last _) = rem c 0 := by
  show (if (Fin.last cfg1.N).val = 0 then rem c 12 else rem c 0) = rem c 0
  rw [Fin.val_last, if_neg (by rw [show cfg1.N = 1 from N_1]; decide)]

theorem fetch0_0 (t : Fin cfg0.N) : (cfg0.win (0 : Fin 2)).fetch t = true := by rw [fin_N0 t]; rfl
theorem emb0_0 (y : (cfg0.win 0).block.Idx) : ((cfg0.win 0).blk t0_0).view.emb y = y := by
  funext a; apply Fin.ext
  show ((((cfg0.win 0).rect t0_0).emb y) a : ℕ) = _
  rw [Pipeline.Window.rect_emb_val_of_index_zero _ _ _ (by revert a; decide)]
theorem rd0_0 (d X : Vec F S16x128 .i32) : (cfg0.win 0).fill (cfg0.grid.coords t0_0) d (((cfg0.win 0).blk t0_0).view.read (Elt F) X) = X :=
  funext fun y => congrArg X (emb0_0 y)
theorem arr0_0 : (dat0 m c).A (0 : Fin 2) = (inp m).ro c := by
  unfold dat0; dsimp only
theorem bef0_0 (d) : (dat0 m c).before (0 : Fin 2) t0_0 d = (inp m).ro c := by
  unfold Dat.before; rw [if_pos (fetch0_0 t0_0)]
  unfold Dat.fetched Dat.blockOf
  rw [arr0_0]
  exact rd0_0 d _

def in0 : sProp 𝕄 := iprop(((∃ κ, env (inp m) κ ∗ h0 c) ∗ Pipeline.scopedRest spec0 c ∗ ∃ r, prngReg c r)
    ∗ (dat0 m c).owesAt () t0_0.castSucc
    ∗ (∃ d, stg c cc0_stg0_0 ((dat0 m c).before (0 : Fin 2) t0_0 d))
    ∗ (∃ d, stg c cc0_stg1_0 ((dat0 m c).before (1 : Fin 2) t0_0 d)))
def fin0 : sProp 𝕄 := iprop(((semVal (bc c 0) 0 ∗ (semVal (dc c 2) 0 ∗ semVal (dc c 3) 0 ∗ semVal (dc c 4) 0 ∗ semVal (dc c 5) 0 ∗ semVal (dc c 6) 0 ∗ semVal (dc c 7) 0)) ∗ Pipeline.scopedRest spec0 c ∗ ∃ r, prngReg c r)
    ∗ (dat0 m c).owesAt () t0_0.succ ∗ stg c cc0_stg0_0 ((inp m).ro c) ∗ stg c cc0_stg1_0 (RG (inp m)))

theorem sound0 : in0 m c ⊢ wp frame (wpE (defs₀ (F := F)) 𝒱₀ c none) Set.univ
      (cc0_body (F := F) (Memref.whole cc0_stg0_0) (Memref.isWhole_whole _) rM (Memref.isWhole_whole _) cc0_scratch0 cc0_scratch1) (fun _ => fin0 m c) := by
  unfold in0 h0
  iintro ⟨⟨⟨%κ, #He, Ha, ⟨Hc, Hc5, Hc6, Hc7⟩, Has, Hrs, Htb, Hto, Htr⟩, Hsc, Hp⟩, HO, ⟨%d0, %f0, %hf0, H0⟩, ⟨%d1, %f1, %hf1, H1⟩⟩
  have hx : f0 = (inp m).ro c := by rw [hf0]; exact bef0_0 m c d0
  subst hx
  ihave HO := (owesAt_elim (dat0 m c) _ 17 (owed0_first m c)) $$ HO
  iapply (run0 (inp m) κ c (fun _ => fin0 m c))
  isplitr; · iexact He
  isplitl [Ha Hc Hc5 Hc6 Hc7 Has Hrs Htb Hto Htr HO H0 H1]
  · unfold pre0
    isplitl [HO]; · iexact HO
    isplitl [Hc]; · iexact Hc
    isplitl [Hc5]; · iexact Hc5
    isplitl [Hc6]; · iexact Hc6
    isplitl [Hc7]; · iexact Hc7
    isplitl [Ha]; · iexact Ha
    isplitl [Has]; · iexact Has
    isplitl [Hrs]; · iexact Hrs
    isplitl [Htb]; · iexact Htb
    isplitl [Hto]; · iexact Hto
    isplitl [Htr]; · iexact Htr
    isplitl [H0]; · iexact H0
    iexists f1; iexact H1
  unfold post0 fin0
  iintro ⟨HO, Hb, Hs, H0, H1⟩
  isplitl [Hb Hs Hsc Hp]
  · isplitl [Hb Hs]
    · isplitl [Hb]; · iexact Hb
      iexact Hs
    isplitl [Hsc]; · iexact Hsc
    iexact Hp
  isplitl [HO]; · iapply (owesAt_intro (dat0 m c) t0_0.succ 12 (owed0_succ m c) rfl); iexact HO
  isplitl [H0]
  · iexists _; isplitr; · (ipureintro; rfl)
    iexact H0
  iexists _; isplitr; · (ipureintro; rfl)
  iexact H1

set_option maxRecDepth 4000 in
/-- Call 0's body between its staging buffers. -/
theorem body0 : BodyObligation (dat0 m c) (defs₀ (F := F)) 𝒱₀ () Set.univ := fun t => by
  rw [fin_N0 t]
  rw [bigSep_W0, bigSep_W0]
  simp only [owns_whole_eq]
  exact sound0 m c

/-! ## Call 1 -/

theorem fetch1_0 (t : Fin cfg1.N) : (cfg1.win (0 : Fin 5)).fetch t = true := by rw [fin_N1 t]; rfl
theorem fetch1_1 (t : Fin cfg1.N) : (cfg1.win (1 : Fin 5)).fetch t = true := by rw [fin_N1 t]; rfl
theorem fetch1_2 (t : Fin cfg1.N) : (cfg1.win (2 : Fin 5)).fetch t = true := by rw [fin_N1 t]; rfl
theorem fetch1_3 (t : Fin cfg1.N) : (cfg1.win (3 : Fin 5)).fetch t = true := by rw [fin_N1 t]; rfl
theorem emb1_0 (y : (cfg1.win 0).block.Idx) : ((cfg1.win 0).blk t1_0).view.emb y = y := by
  funext a; apply Fin.ext
  show ((((cfg1.win 0).rect t1_0).emb y) a : ℕ) = _
  rw [Pipeline.Window.rect_emb_val_of_index_zero _ _ _ (by revert a; decide)]
theorem rd1_0 (d X : Vec F S2048x1024 .bf16) : (cfg1.win 0).fill (cfg1.grid.coords t1_0) d (((cfg1.win 0).blk t1_0).view.read (Elt F) X) = X :=
  funext fun y => congrArg X (emb1_0 y)
theorem arr1_0 : (dat1 m c).A (0 : Fin 5) = (inp m).xx c := by
  unfold dat1; dsimp only
theorem bef1_0 (d) : (dat1 m c).before (0 : Fin 5) t1_0 d = (inp m).xx c := by
  unfold Dat.before; rw [if_pos (fetch1_0 t1_0)]
  unfold Dat.fetched Dat.blockOf
  rw [arr1_0]
  exact rd1_0 d _
theorem emb1_1 (y : (cfg1.win 1).block.Idx) : ((cfg1.win 1).blk t1_0).view.emb y = y := by
  funext a; apply Fin.ext
  show ((((cfg1.win 1).rect t1_0).emb y) a : ℕ) = _
  rw [Pipeline.Window.rect_emb_val_of_index_zero _ _ _ (by revert a; decide)]
theorem rd1_1 (d X : Vec F S1x8192 .i32) : (cfg1.win 1).fill (cfg1.grid.coords t1_0) d (((cfg1.win 1).blk t1_0).view.read (Elt F) X) = X :=
  funext fun y => congrArg X (emb1_1 y)
theorem arr1_1 : (dat1 m c).A (1 : Fin 5) = (inp m).rr c := by
  unfold dat1; dsimp only
theorem bef1_1 (d) : (dat1 m c).before (1 : Fin 5) t1_0 d = (inp m).rr c := by
  unfold Dat.before; rw [if_pos (fetch1_1 t1_0)]
  unfold Dat.fetched Dat.blockOf
  rw [arr1_1]
  exact rd1_1 d _
theorem emb1_2 (y : (cfg1.win 2).block.Idx) : ((cfg1.win 2).blk t1_0).view.emb y = y := by
  funext a; apply Fin.ext
  show ((((cfg1.win 2).rect t1_0).emb y) a : ℕ) = _
  rw [Pipeline.Window.rect_emb_val_of_index_zero _ _ _ (by revert a; decide)]
theorem rd1_2 (d X : Vec F S1x8192 .i32) : (cfg1.win 2).fill (cfg1.grid.coords t1_0) d (((cfg1.win 2).blk t1_0).view.read (Elt F) X) = X :=
  funext fun y => congrArg X (emb1_2 y)
theorem arr1_2 : (dat1 m c).A (2 : Fin 5) = (inp m).rk c := by
  unfold dat1; dsimp only
theorem bef1_2 (d) : (dat1 m c).before (2 : Fin 5) t1_0 d = (inp m).rk c := by
  unfold Dat.before; rw [if_pos (fetch1_2 t1_0)]
  unfold Dat.fetched Dat.blockOf
  rw [arr1_2]
  exact rd1_2 d _
theorem emb1_3 (y : (cfg1.win 3).block.Idx) : ((cfg1.win 3).blk t1_0).view.emb y = y := by
  funext a; apply Fin.ext
  show ((((cfg1.win 3).rect t1_0).emb y) a : ℕ) = _
  rw [Pipeline.Window.rect_emb_val_of_index_zero _ _ _ (by revert a; decide)]
theorem rd1_3 (d X : Vec F S2048x1 .i32) : (cfg1.win 3).fill (cfg1.grid.coords t1_0) d (((cfg1.win 3).blk t1_0).view.read (Elt F) X) = X :=
  funext fun y => congrArg X (emb1_3 y)
theorem arr1_3 : (dat1 m c).A (3 : Fin 5) = (inp m).gm c := by
  unfold dat1; dsimp only
theorem bef1_3 (d) : (dat1 m c).before (3 : Fin 5) t1_0 d = (inp m).gm c := by
  unfold Dat.before; rw [if_pos (fetch1_3 t1_0)]
  unfold Dat.fetched Dat.blockOf
  rw [arr1_3]
  exact rd1_3 d _

def in1 : sProp 𝕄 := iprop(((∃ κ, env (inp m) κ ∗ h1 c) ∗ eP c Finset.univ ((inp m).ew c) ∗ Pipeline.scopedRest spec1 c ∗ ∃ r, prngReg c r)
    ∗ (dat1 m c).owesAt () t1_0.castSucc
    ∗ (∃ d, stg c cc1_stg0_0 ((dat1 m c).before (0 : Fin 5) t1_0 d))
    ∗ (∃ d, stg c cc1_stg1_0 ((dat1 m c).before (1 : Fin 5) t1_0 d))
    ∗ (∃ d, stg c cc1_stg2_0 ((dat1 m c).before (2 : Fin 5) t1_0 d))
    ∗ (∃ d, stg c cc1_stg3_0 ((dat1 m c).before (3 : Fin 5) t1_0 d))
    ∗ (∃ d, stg c cc1_stg4_0 ((dat1 m c).before (4 : Fin 5) t1_0 d)))
def fin1 : sProp 𝕄 := iprop(((semVal (bc c 1) 0 ∗ (semVal (dc c 13) 0 ∗ semVal (dc c 14) 0 ∗ semVal (dc c 15) 0 ∗ semVal (dc c 16) 0 ∗ semVal (dc c 17) 0 ∗ semVal (dc c 18) 0 ∗ semVal (dc c 19) 0 ∗ semVal (dc c 20) 0 ∗ semVal (dc c 21) 0 ∗ semVal (dc c 22) 0 ∗ semVal (dc c 23) 0 ∗ semVal (dc c 24) 0 ∗ semVal (dc c 25) 0 ∗ semVal (dc c 26) 0 ∗ semVal (dc c 27) 0 ∗ semVal (dc c 28) 0 ∗ semVal (dc c 29) 0 ∗ semVal (dc c 30) 0 ∗ semVal (dc c 31) 0 ∗ semVal (dc c 32) 0 ∗ semVal (dc c 33) 0)) ∗ eP c Finset.univ ((inp m).ew c) ∗ Pipeline.scopedRest spec1 c ∗ ∃ r, prngReg c r)
    ∗ (dat1 m c).owesAt () t1_0.succ ∗ stg c cc1_stg0_0 ((inp m).xx c) ∗ stg c cc1_stg1_0 ((inp m).rr c) ∗ stg c cc1_stg2_0 ((inp m).rk c) ∗ stg c cc1_stg3_0 ((inp m).gm c) ∗ stg c cc1_stg4_0 (OUT (inp m) c))

set_option maxHeartbeats 1000000 in
theorem sound1 : in1 m c ⊢ wp frame (wpE (defs₀ (F := F)) 𝒱₀ c none) Set.univ
      (cc1_body (F := F) (Memref.whole cc1_stg0_0) (Memref.isWhole_whole _) rrM (Memref.isWhole_whole _) rkM (Memref.isWhole_whole _) (Memref.whole cc1_stg3_0) (Memref.isWhole_whole _) eM (Memref.isWhole_whole _) (Memref.whole cc1_stg4_0) (Memref.isWhole_whole _) xM (Memref.isWhole_whole _) yM (Memref.isWhole_whole _) wM (Memref.isWhole_whole _) cc1_scratch3 cc1_scratch4 cc1_scratch5 cc1_scratch6 cc1_scratch7) (fun _ => fin1 m c) := by
  unfold in1 h1
  rw [scopedRest1_eq]
  iintro ⟨⟨⟨%κ, #He, Ha, ⟨Hc, Hcs⟩, Has, Hrs, Htb, Hto, Htr, Htl, Hlt⟩, HE, ⟨Hz0, Hz1, Hx, Hy, Hw⟩, Hp⟩, HO, ⟨%d0, %f0, %hf0, H0⟩, ⟨%d1, %f1, %hf1, H1⟩, ⟨%d2, %f2, %hf2, H2⟩, ⟨%d3, %f3, %hf3, H3⟩, ⟨%d4, %f4, %hf4, H4⟩⟩
  have hx0 : f0 = (inp m).xx c := by
    rw [hf0]; exact bef1_0 m c d0
  subst hx0
  have hx1 : f1 = (inp m).rr c := by
    rw [hf1]; exact bef1_1 m c d1
  subst hx1
  have hx2 : f2 = (inp m).rk c := by
    rw [hf2]; exact bef1_2 m c d2
  subst hx2
  have hx3 : f3 = (inp m).gm c := by
    rw [hf3]; exact bef1_3 m c d3
  subst hx3
  ihave HO := (owesAt_elim (dat1 m c) _ 12 (owed1_first m c)) $$ HO
  iapply (run1 (inp m) κ c (fun _ => fin1 m c))
  isplitr; · iexact He
  isplitr [Hz0 Hz1 Hp]
  · unfold pre1
    isplitl [HO]; · iexact HO
    isplitl [Hc]; · iexact Hc
    isplitl [Hcs]; · iexact Hcs
    isplitl [Ha]; · iexact Ha
    isplitl [Has]; · iexact Has
    isplitl [Hrs]; · iexact Hrs
    isplitl [Htb]; · iexact Htb
    isplitl [Hto]; · iexact Hto
    isplitl [Htr]; · iexact Htr
    isplitl [Htl]; · iexact Htl
    isplitl [Hlt]; · iexact Hlt
    isplitl [H0 H1 H2 H3]
    · isplitl [H0]; · iexact H0
      isplitl [H1]; · iexact H1
      isplitl [H2]; · iexact H2
      iexact H3
    isplitl [H4]; · iexists f4; iexact H4
    isplitl [Hx]; · iexact Hx
    isplitl [Hy]; · iexact Hy
    isplitl [Hw]; · iexact Hw
    iexact HE
  unfold post1 fin1
  rw [scopedRest1_eq]
  iintro ⟨HO, Hb, Hs, ⟨H0, H1, H2, H3⟩, H4, Hx, Hy, Hw, HE⟩
  isplitl [Hb Hs HE Hz0 Hz1 Hx Hy Hw Hp]
  · isplitl [Hb Hs]
    · isplitl [Hb]; · iexact Hb
      iexact Hs
    isplitl [HE]; · iexact HE
    isplitr [Hp]
    · isplitl [Hz0]; · iexact Hz0
      isplitl [Hz1]; · iexact Hz1
      isplitl [Hx]; · iexact Hx
      isplitl [Hy]; · iexact Hy
      iexact Hw
    iexact Hp
  isplitl [HO]; · iapply (owesAt_intro (dat1 m c) t1_0.succ 0 (owed1_succ m c) rfl); iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem aft1_0 (t) : (dat1 m c).after (0 : Fin 5) t = (inp m).xx c := by
  unfold dat1; dsimp only
theorem aft1_1 (t) : (dat1 m c).after (1 : Fin 5) t = (inp m).rr c := by
  unfold dat1; dsimp only
theorem aft1_2 (t) : (dat1 m c).after (2 : Fin 5) t = (inp m).rk c := by
  unfold dat1; dsimp only
theorem aft1_3 (t) : (dat1 m c).after (3 : Fin 5) t = (inp m).gm c := by
  unfold dat1; dsimp only
theorem aft1_4 (t) : (dat1 m c).after (4 : Fin 5) t = OUT (inp m) c := by
  unfold dat1; dsimp only
theorem phi1_first : (dat1 m c).Φ t1_0.castSucc = iprop((∃ κ, env (inp m) κ ∗ h1 c) ∗ eP c Finset.univ ((inp m).ew c) ∗ Pipeline.scopedRest spec1 c ∗ ∃ r, prngReg c r) := by
  unfold dat1; dsimp only; exact if_pos rfl
theorem phi1_succ : (dat1 m c).Φ t1_0.succ = iprop((semVal (bc c 1) 0 ∗ (semVal (dc c 13) 0 ∗ semVal (dc c 14) 0 ∗ semVal (dc c 15) 0 ∗ semVal (dc c 16) 0 ∗ semVal (dc c 17) 0 ∗ semVal (dc c 18) 0 ∗ semVal (dc c 19) 0 ∗ semVal (dc c 20) 0 ∗ semVal (dc c 21) 0 ∗ semVal (dc c 22) 0 ∗ semVal (dc c 23) 0 ∗ semVal (dc c 24) 0 ∗ semVal (dc c 25) 0 ∗ semVal (dc c 26) 0 ∗ semVal (dc c 27) 0 ∗ semVal (dc c 28) 0 ∗ semVal (dc c 29) 0 ∗ semVal (dc c 30) 0 ∗ semVal (dc c 31) 0 ∗ semVal (dc c 32) 0 ∗ semVal (dc c 33) 0)) ∗ eP c Finset.univ ((inp m).ew c) ∗ Pipeline.scopedRest spec1 c ∗ ∃ r, prngReg c r) := by
  unfold dat1; dsimp only; exact if_neg (Nat.succ_ne_zero _)

set_option maxRecDepth 4000 in
/-- Call 1's body between its staging buffers. -/
theorem body1 : BodyObligation (dat1 m c) (defs₀ (F := F)) 𝒱₀ () Set.univ := fun t => by
  rw [fin_N1 t]
  rw [bigSep_W1, bigSep_W1, phi1_first, phi1_succ, aft1_0, aft1_1, aft1_2, aft1_3, aft1_4]
  simp only [owns_whole_eq]
  have h := sound1 m c
  unfold in1 fin1 at h
  exact h

end Cert.KernelIdeal.Net
-- ==== Proof.Seg.lean ====
/-
  The two calls as segments of the program: what the launch threads into each and takes out of it.
-/
module

public import proofs.«01_k».proof.Proof.Body
public import Idealize.ShloMosaic.Lib.Pipeline.RegionTalk

@[expose] public section

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)
open Idealize.ShloMosaic.Pipeline (Dat BodyObligation)

/-- What rides along outside the calls: before call 0, between the calls, and at the end. -/
def E : Fin 3 → Dev nD → sProp 𝕄 := fun
  | 0 => fun c => iprop((∃ r, prngReg c r) ∗ ow c 17 ∗ (∃ κ, env (inp m) κ ∗ g0 c) ∗ (∃ κ, env (inp m) κ ∗ g1 c))
  | 1 => fun c => iprop((∃ r, prngReg c r) ∗ ow c 12 ∗ semVal (bc c 0) 0 ∗ (∃ κ, env (inp m) κ ∗ g1 c))
  | 2 => fun c => iprop((∃ r, prngReg c r) ∗ ow c 0 ∗ semVal (bc c 0) 0 ∗ semVal (bc c 1) 0)

theorem share0 (w : Fin 2) : (dat0 m c).share w = fullShare := by unfold Dat.share; split <;> rfl
theorem share1 (w : Fin 5) : (dat1 m c).share w = fullShare := by unfold Dat.share; split <;> rfl

theorem V2_v6 : V2 m (outs m) c main_v6 = RG (inp m) := by
  unfold V2; rw [Function.update_self, outs_v6]
theorem V8_v40 : V8 m (outs m) c main_v40 = OUT (inp m) c := by
  unfold V8; rw [Function.update_self, outs_v40]

/-- A device's payments are at cells above the staging cells. -/
theorem cut (k : ℕ) (g : GSem nD τ sig) (u : Unit) (h : 0 < rem c k g u) : u ∈ L g ∧ (0 : ℕ) < lv g u := by
  obtain ⟨j, -, rfl⟩ := rem_pos c k g u h
  refine ⟨by rw [dueAt_tc]; exact Finset.mem_singleton_self _, ?_⟩
  rw [lv_dueAt]; unfold dl; split <;> decide

/-! ## Call 0 -/

abbrev S0 : Finset (DevRef τ sig) := Pipeline.ucRefs τ sig \ Pipeline.arrRefs spec0
abbrev S1 : Finset (DevRef τ sig) := Pipeline.ucRefs τ sig \ Pipeline.arrRefs spec1
theorem arr0_sub : Pipeline.arrRefs (τ := τ) spec0 ⊆ Pipeline.ucRefs τ sig := Pipeline.arrRefs_sub_ucRefs spec0 (by decide)
theorem arr1_sub : Pipeline.arrRefs (τ := τ) spec1 ⊆ Pipeline.ucRefs τ sig := Pipeline.arrRefs_sub_ucRefs spec1 (by decide)
theorem arg2_mem : ({Proc.devRef .tc main_arg2} : Finset (DevRef τ sig)) ⊆ S1 := by
  intro b hb
  obtain rfl := Finset.mem_singleton.mp hb
  refine Finset.mem_sdiff.mpr ⟨Finset.mem_filter.mpr ⟨StableHlo.devRef_mem_tcRefs main_arg2, by decide⟩, ?_⟩
  decide

theorem held_none (V : Valuation τ sig (Elt F)) : (StableHlo.held (c : Thread nD τ) ∅ V : sProp 𝕄) = BI.emp := by
  unfold StableHlo.held; exact BI.bigSep_empty

theorem v6_mem : (Proc.devRef .tc main_v6 : DevRef τ sig) ∈ Pipeline.arrRefs (τ := τ) spec0 :=
  Finset.mem_map.mpr ⟨main_v6, Finset.mem_image.mpr ⟨1, Finset.mem_univ _, rfl⟩, rfl⟩
theorem v40_mem : (Proc.devRef .tc main_v40 : DevRef τ sig) ∈ Pipeline.arrRefs (τ := τ) spec1 :=
  Finset.mem_map.mpr ⟨main_v40, Finset.mem_image.mpr ⟨4, Finset.mem_univ _, rfl⟩, rfl⟩
theorem rest0 (b : DevRef τ sig) (hb : b ∈ S0) : V2 m (outs m) c b = V1 m c b := by
  unfold V2
  have e : b ≠ Proc.devRef .tc main_v6 := fun e => by subst e; exact (Finset.mem_sdiff.mp hb).2 v6_mem
  exact Function.update_of_ne e _ _
theorem rest1 (b : DevRef τ sig) (hb : b ∈ S1) : V8 m (outs m) c b = V7 m (outs m) c b := by
  unfold V8
  have e : b ≠ Proc.devRef .tc main_v40 := fun e => by subst e; exact (Finset.mem_sdiff.mp hb).2 v40_mem
  exact Function.update_of_ne e _ _

theorem fin_arr0 : (dat0 m c).arrAt (1 : Fin 2) cfg0.N = RG (inp m) := by
  refine Dat.arrAt_eq_of_after_last (dat0 m c) (1 : Fin 2) t0_0 (by decide +kernel) (RG (inp m)) ?_
  intro j
  rfl
theorem fin_arr1 : (dat1 m c).arrAt (4 : Fin 5) cfg1.N = OUT (inp m) c := by
  refine Dat.arrAt_eq_of_after_last (dat1 m c) (4 : Fin 5) t1_0 (by decide +kernel) (OUT (inp m) c) ?_
  intro j
  rw [aft1_4]
  rfl
theorem ent0 (w : Fin 2) : (dat0 m c).arrAt w 0 = V1 m c (Proc.devRef .tc (Pipeline.arrRef spec0 w)) := by
  fin_cases w <;> rfl
theorem ext0 (w : Fin 2) : (dat0 m c).arrAt w cfg0.N = V2 m (outs m) c (Proc.devRef .tc (Pipeline.arrRef spec0 w)) := by
  fin_cases w
  · exact ((dat0 m c).arrAt_in (0 : Fin 2) rfl _).trans (V2_of m (outs m) c main_v5 (by decide)).symm
  · exact (fin_arr0 m c).trans (V2_v6 m c).symm
theorem arr1_4 : (dat1 m c).A (4 : Fin 5) = old40 m c := by
  unfold dat1; dsimp only
theorem at1_4 : (dat1 m c).arrAt (4 : Fin 5) 0 = V7 m (outs m) c (Proc.devRef .tc (Pipeline.arrRef spec1 (4 : Fin 5))) := by
  refine Eq.trans (b := (dat1 m c).A (4 : Fin 5)) ?_ ?_
  · unfold Dat.arrAt; exact rfl
  · rw [arr1_4]; unfold old40; with_reducible rfl
theorem ent1 (w : Fin 5) : (dat1 m c).arrAt w 0 = V7 m (outs m) c (Proc.devRef .tc (Pipeline.arrRef spec1 w)) := by
  by_cases h : w = (4 : Fin 5)
  · subst h; exact at1_4 m c
  fin_cases w
  · exact (arr1_0 m c).trans (inp_xx m c)
  · exact (arr1_1 m c).trans (inp_rr m c)
  · exact (arr1_2 m c).trans (inp_rk m c)
  · exact (arr1_3 m c).trans (inp_gm m c)
  · exact absurd rfl h
theorem ext1 (w : Fin 5) : (dat1 m c).arrAt w cfg1.N = V8 m (outs m) c (Proc.devRef .tc (Pipeline.arrRef spec1 w)) := by
  fin_cases w
  · exact ((dat1 m c).arrAt_in (0 : Fin 5) rfl _).trans (((arr1_0 m c).trans (inp_xx m c)).trans (V8_of m (outs m) c main_v36 (by decide)).symm)
  · exact ((dat1 m c).arrAt_in (1 : Fin 5) rfl _).trans (((arr1_1 m c).trans (inp_rr m c)).trans (V8_of m (outs m) c main_v37 (by decide)).symm)
  · exact ((dat1 m c).arrAt_in (2 : Fin 5) rfl _).trans (((arr1_2 m c).trans (inp_rk m c)).trans (V8_of m (outs m) c main_v38 (by decide)).symm)
  · exact ((dat1 m c).arrAt_in (3 : Fin 5) rfl _).trans (((arr1_3 m c).trans (inp_gm m c)).trans (V8_of m (outs m) c main_v39 (by decide)).symm)
  · exact (fin_arr1 m c).trans (V8_v40 m c).symm

theorem phi0_zero : (dat0 m c).Φ 0 = iprop((∃ κ, env (inp m) κ ∗ h0 c) ∗ Pipeline.scopedRest spec0 c ∗ ∃ r, prngReg c r) := by
  unfold dat0; dsimp only; exact if_pos rfl
theorem phi0_last : (dat0 m c).Φ (Fin.last _) = iprop((semVal (bc c 0) 0 ∗ (semVal (dc c 2) 0 ∗ semVal (dc c 3) 0 ∗ semVal (dc c 4) 0 ∗ semVal (dc c 5) 0 ∗ semVal (dc c 6) 0 ∗ semVal (dc c 7) 0)) ∗ Pipeline.scopedRest spec0 c ∗ ∃ r, prngReg c r) := by
  unfold dat0; dsimp only; exact if_neg (by rw [Fin.val_last, show cfg0.N = 1 from N_0]; decide)
theorem phi1_zero : (dat1 m c).Φ 0 = iprop((∃ κ, env (inp m) κ ∗ h1 c) ∗ eP c Finset.univ ((inp m).ew c) ∗ Pipeline.scopedRest spec1 c ∗ ∃ r, prngReg c r) := by
  unfold dat1; dsimp only; exact if_pos rfl
theorem phi1_last : (dat1 m c).Φ (Fin.last _) = iprop((semVal (bc c 1) 0 ∗ (semVal (dc c 13) 0 ∗ semVal (dc c 14) 0 ∗ semVal (dc c 15) 0 ∗ semVal (dc c 16) 0 ∗ semVal (dc c 17) 0 ∗ semVal (dc c 18) 0 ∗ semVal (dc c 19) 0 ∗ semVal (dc c 20) 0 ∗ semVal (dc c 21) 0 ∗ semVal (dc c 22) 0 ∗ semVal (dc c 23) 0 ∗ semVal (dc c 24) 0 ∗ semVal (dc c 25) 0 ∗ semVal (dc c 26) 0 ∗ semVal (dc c 27) 0 ∗ semVal (dc c 28) 0 ∗ semVal (dc c 29) 0 ∗ semVal (dc c 30) 0 ∗ semVal (dc c 31) 0 ∗ semVal (dc c 32) 0 ∗ semVal (dc c 33) 0)) ∗ eP c Finset.univ ((inp m).ew c) ∗ Pipeline.scopedRest spec1 c ∗ ∃ r, prngReg c r) := by
  unfold dat1; dsimp only; exact if_neg (by rw [Fin.val_last, show cfg1.N = 1 from N_1]; decide)

theorem in0' : iprop(Pipeline.scopedRest spec0 c ∗ (∃ r, prngReg c r) ∗ StableHlo.held (c.tc : Thread nD τ) ∅ (V1 m c) ∗ (∃ κ, env (inp m) κ ∗ h0 c)) ⊢ (dat0 m c).Φ 0 := by
  rw [phi0_zero, held_none]
  iintro ⟨Hs, Hp, -, H⟩
  isplitl [H]; · iexact H
  isplitl [Hs]; · iexact Hs
  iexact Hp
theorem out0' : (dat0 m c).Φ (Fin.last _)
    ⊢ iprop(Pipeline.scopedRest spec0 c ∗ (∃ r, prngReg c r) ∗ StableHlo.held (c.tc : Thread nD τ) ∅ (V2 m (outs m) c) ∗ Pipeline.ownSems0 osem0 c ∗ semVal (bc c 0) 0) := by
  rw [phi0_last, held_none, own0_eq]
  iintro ⟨⟨Hb, Hs⟩, Hr, Hp⟩
  isplitl [Hr]; · iexact Hr
  isplitl [Hp]; · iexact Hp
  isplitr; · iempintro
  isplitl [Hs]; · iexact Hs
  iexact Hb

/-- The weights held are the weights the body addresses. -/
theorem held_arg2 (V : Valuation τ sig (Elt F)) (hV : V main_arg2 = m ((c : Thread nD τ).loc main_arg2)) :
    (StableHlo.held (c.tc : Thread nD τ) {Proc.devRef .tc main_arg2} V : sProp 𝕄) = eP c Finset.univ ((inp m).ew c) := by
  unfold StableHlo.held
  rw [bigSep_singleton, show V (Proc.devRef .tc main_arg2) = m ((c : Thread nD τ).loc main_arg2) from hV]
  rfl
theorem V7_arg2 : V7 m (outs m) c main_arg2 = m ((c : Thread nD τ).loc main_arg2) :=
  (V8_of m (outs m) c main_arg2 (by decide)).symm.trans ((V9_of m (outs m) c main_arg2 (by decide)).symm.trans (V9_main_arg2 m (outs m) c))
theorem V8_arg2 : V8 m (outs m) c main_arg2 = m ((c : Thread nD τ).loc main_arg2) :=
  (V9_of m (outs m) c main_arg2 (by decide)).symm.trans (V9_main_arg2 m (outs m) c)

theorem in1' : iprop(Pipeline.scopedRest spec1 c ∗ (∃ r, prngReg c r) ∗ StableHlo.held (c.tc : Thread nD τ) {Proc.devRef .tc main_arg2} (V7 m (outs m) c)
    ∗ (∃ κ, env (inp m) κ ∗ h1 c)) ⊢ (dat1 m c).Φ 0 := by
  rw [phi1_zero, held_arg2 m c _ (V7_arg2 m c)]
  iintro ⟨Hs, Hp, HE, H⟩
  isplitl [H]; · iexact H
  isplitl [HE]; · iexact HE
  isplitl [Hs]; · iexact Hs
  iexact Hp
theorem out1' : (dat1 m c).Φ (Fin.last _)
    ⊢ iprop(Pipeline.scopedRest spec1 c ∗ (∃ r, prngReg c r) ∗ StableHlo.held (c.tc : Thread nD τ) {Proc.devRef .tc main_arg2} (V8 m (outs m) c)
        ∗ Pipeline.ownSems0 osem1 c ∗ semVal (bc c 1) 0) := by
  rw [phi1_last, held_arg2 m c _ (V8_arg2 m c), own1_eq]
  iintro ⟨⟨Hb, Hs⟩, HE, Hr, Hp⟩
  isplitl [Hr]; · iexact Hr
  isplitl [Hp]; · iexact Hp
  isplitl [HE]; · iexact HE
  isplitl [Hs]; · iexact Hs
  iexact Hb

theorem hopen0 : iprop((∃ κ, env (inp m) κ ∗ g0 c) ∗ Pipeline.ownSems0 osem0 c ∗ levAts L lv) ⊢ (|={Set.univ}=> (∃ κ, env (inp m) κ ∗ h0 c) : sProp 𝕄) := by
  rw [own0_eq]
  iintro ⟨H, Hs, -⟩
  iapply (enter0 (inp m) c)
  isplitl [H]; · iexact H
  iexact Hs
theorem hopen1 : iprop((∃ κ, env (inp m) κ ∗ g1 c) ∗ Pipeline.ownSems0 osem1 c ∗ levAts L lv) ⊢ (|={Set.univ}=> (∃ κ, env (inp m) κ ∗ h1 c) : sProp 𝕄) := by
  rw [own1_eq]
  iintro ⟨H, Hs, -⟩
  iapply (enter1 (inp m) c)
  isplitl [H]; · iexact H
  iexact Hs

/-- The first five payments, those of call 0. -/
def due0 (c : Dev nD) : CellTallies nD τ sig Unit := due c 4 + (due c 3 + (due c 2 + (due c 1 + due c 0)))
theorem rem17 : rem c 17 = rem c 12 + due0 c := by
  show rem c 12 + due c 4 + due c 3 + due c 2 + due c 1 + due c 0 = _
  unfold due0; simp only [add_assoc]
theorem owedAt0 (t : Fin (cfg0.N + 1)) : (dat0 m c).owed t = if t.val = 0 then rem c 17 else rem c 12 := rfl
theorem owedAt1 (t : Fin (cfg1.N + 1)) : (dat1 m c).owed t = if t.val = 0 then rem c 12 else rem c 0 := rfl

theorem stg_lv0 (w : Fin 2) (s : Fin (cfg0.win w).nbuf) : lvS (.dma ((cfg0.win w).sem s)) = 0 := by revert s; revert w; decide
theorem stg_lv1 (w : Fin 5) (s : Fin (cfg1.win w).nbuf) : lvS (.dma ((cfg1.win w).sem s)) = 0 := by revert s; revert w; decide

theorem cut0 : Pipeline.LevelCutOwed (pcfgs (F := F)) adm (pdats m) () L lv 0 (fun _ => 0) where
  hι c w s := by rw [L_tc]; exact Finset.mem_singleton_self _
  hιb c w s := le_of_eq (stg_lv0 w s)
  hD c t g i h := by
    rw [show (pdats m 0 c).owed t = _ from owedAt0 m c t] at h
    split at h
    · exact cut c 17 g i h
    · exact cut c 12 g i h
theorem cut1 : Pipeline.LevelCutOwed (pcfgs (F := F)) adm (pdats m) () L lv 1 (fun _ => 0) where
  hι c w s := by rw [L_tc]; exact Finset.mem_singleton_self _
  hιb c w s := le_of_eq (stg_lv1 w s)
  hD c t g i h := by
    rw [show (pdats m 1 c).owed t = _ from owedAt1 m c t] at h
    split at h
    · exact cut c 12 g i h
    · exact cut c 0 g i h

set_option backward.isDefEq.respectTransparency.types false in
/-- Call 0 in the program. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 own0 ∅ S0 (Finset.empty_subset _) launch0.toP rfl
    (fun c => (body0 m c).loose) (fun c => rem c 12) due0 (fun c => (owed0_zero m c).trans (rem17 c)) (fun c => owed0_last m c) (fun _ => rfl)
    (fun c w => share0 m c w) (fun c => V1 m c) (fun c => V2 m (outs m) c) (fun c b hb => rest0 m c b (Finset.mem_sdiff.mp hb).1)
    (fun c => iprop(∃ κ, env (inp m) κ ∗ g0 c)) (fun c => semVal (bc c 0) 0) (fun c => iprop(∃ κ, env (inp m) κ ∗ h0 c)) (fun c => semVal (bc c 0) 0)
    (fun c => hopen0 m c) (fun c => in0' m c) (fun c => out0' m c) (fun c => by iintro H; imodintro; iexact H)
    (fun _ => 0) (cut0 m) (fun c => iprop(∃ κ, env (inp m) κ ∗ g1 c)) (fun c w => ent0 m c w) (fun c w => ext0 m c w)

set_option backward.isDefEq.respectTransparency.types false in
/-- Call 1 in the program. -/
def reg1 : Pipeline.RegionSeg (pcfgs (F := F)) adm (pdats m) () defs₀ 𝒱₀ L lv 1 :=
  Pipeline.RegionSeg.ofTalk (pcfgs (F := F)) adm (pdats m) () defs₀ 𝒱₀ L lv 1 osem1 own1 {Proc.devRef .tc main_arg2} S1 arg2_mem launch1.toP rfl
    (fun c => (body1 m c).loose) (fun _ => 0) (fun c => rem c 12) (fun c => (owed1_zero m c).trans (zero_add _).symm) (fun c => owed1_last m c) (fun _ => rfl)
    (fun c w => share1 m c w) (fun c => V7 m (outs m) c) (fun c => V8 m (outs m) c) (fun c b hb => rest1 m c b (Finset.mem_sdiff.mp hb).1)
    (fun c => iprop(∃ κ, env (inp m) κ ∗ g1 c)) (fun c => semVal (bc c 1) 0) (fun c => iprop(∃ κ, env (inp m) κ ∗ h1 c)) (fun c => semVal (bc c 1) 0)
    (fun c => hopen1 m c) (fun c => in1' m c) (fun c => out1' m c) (fun c => by iintro H; imodintro; iexact H)
    (fun _ => 0) (cut1 m) (fun c => semVal (bc c 0) 0) (fun c w => ent1 m c w) (fun c w => ext1 m c w)

theorem pre_reg0 : iprop(StableHlo.held (c : Thread nD τ) (Pipeline.ucRefs τ sig) (V1 m c) ∗ E m 0 c) ⊢ (reg0 m).pre c := by
  show _ ⊢ iprop(StableHlo.held (c.tc : Thread nD τ) (Pipeline.arrRefs spec0) (V1 m c) ∗ (∃ r, prngReg c r)
    ∗ (StableHlo.held (c.tc : Thread nD τ) S0 (V1 m c) ∗ (∃ κ, env (inp m) κ ∗ g1 c)) ∗ (∃ κ, env (inp m) κ ∗ g0 c) ∗ ∃ Wd, owes (c : Thread nD τ) (rem c 12 + due0 c) Wd)
  rw [← rem17, StableHlo.held_sub_split (c.tc : Thread nD τ) arr0_sub]
  unfold E ow
  iintro ⟨⟨Ha, Hr⟩, Hp, HO, H0, H1⟩
  isplitl [Ha]; · iexact Ha
  isplitl [Hp]; · iexact Hp
  isplitl [Hr H1]
  · isplitl [Hr]; · iexact Hr
    iexact H1
  isplitl [H0]; · iexact H0
  iexact HO
theorem post_reg0 : (reg0 m).post c ⊢ iprop(StableHlo.held (c : Thread nD τ) (Pipeline.ucRefs τ sig) (V2 m (outs m) c) ∗ E m 1 c) := by
  show iprop(StableHlo.held (c.tc : Thread nD τ) (Pipeline.arrRefs spec0) (V2 m (outs m) c) ∗ (∃ r, prngReg c r)
    ∗ (StableHlo.held (c.tc : Thread nD τ) S0 (V2 m (outs m) c) ∗ (∃ κ, env (inp m) κ ∗ g1 c)) ∗ semVal (bc c 0) 0 ∗ ∃ Wd, owes (c : Thread nD τ) (rem c 12) Wd) ⊢ _
  rw [StableHlo.held_sub_split (c.tc : Thread nD τ) arr0_sub (V2 m (outs m) c)]
  unfold E ow
  iintro ⟨Ha, Hp, ⟨Hr, H1⟩, Hb, HO⟩
  isplitl [Ha Hr]
  · isplitl [Ha]; · iexact Ha
    iexact Hr
  isplitl [Hp]; · iexact Hp
  isplitl [HO]; · iexact HO
  isplitl [Hb]; · iexact Hb
  iexact H1
theorem pre_reg1 : iprop(StableHlo.held (c : Thread nD τ) (Pipeline.ucRefs τ sig) (V7 m (outs m) c) ∗ E m 1 c) ⊢ (reg1 m).pre c := by
  show _ ⊢ iprop(StableHlo.held (c.tc : Thread nD τ) (Pipeline.arrRefs spec1) (V7 m (outs m) c) ∗ (∃ r, prngReg c r)
    ∗ (StableHlo.held (c.tc : Thread nD τ) S1 (V7 m (outs m) c) ∗ semVal (bc c 0) 0) ∗ (∃ κ, env (inp m) κ ∗ g1 c) ∗ ∃ Wd, owes (c : Thread nD τ) (0 + rem c 12) Wd)
  rw [zero_add, StableHlo.held_sub_split (c.tc : Thread nD τ) arr1_sub (V7 m (outs m) c)]
  unfold E ow
  iintro ⟨⟨Ha, Hr⟩, Hp, HO, Hb, H1⟩
  isplitl [Ha]; · iexact Ha
  isplitl [Hp]; · iexact Hp
  isplitl [Hr Hb]
  · isplitl [Hr]; · iexact Hr
    iexact Hb
  isplitl [H1]; · iexact H1
  iexact HO
theorem post_reg1 : (reg1 m).post c ⊢ iprop(StableHlo.held (c : Thread nD τ) (Pipeline.ucRefs τ sig) (V8 m (outs m) c) ∗ E m 2 c) := by
  show iprop(StableHlo.held (c.tc : Thread nD τ) (Pipeline.arrRefs spec1) (V8 m (outs m) c) ∗ (∃ r, prngReg c r)
    ∗ (StableHlo.held (c.tc : Thread nD τ) S1 (V8 m (outs m) c) ∗ semVal (bc c 0) 0) ∗ semVal (bc c 1) 0 ∗ ∃ Wd, owes (c : Thread nD τ) (rem c 0) Wd) ⊢ _
  rw [StableHlo.held_sub_split (c.tc : Thread nD τ) arr1_sub (V8 m (outs m) c)]
  unfold E ow
  iintro ⟨Ha, Hp, ⟨Hr, Hb⟩, Hb1, HO⟩
  isplitl [Ha Hr]
  · isplitl [Ha]; · iexact Ha
    iexact Hr
  isplitl [Hp]; · iexact Hp
  isplitl [HO]; · iexact HO
  isplitl [Hb]; · iexact Hb
  iexact Hb1

end Cert.KernelIdeal.Net
-- ==== Proof.Launch1.lean ====
/-
  The launch of the exchange: every semaphore's invariant, the tokens of all payments dealt to the devices that make
  them, and the credits of all payments to the devices that wait for them.
-/
module

public import proofs.«01_k».proof.Proof.Seg

@[expose] public section

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (I : Inp F) (c : Dev nD)
open Idealize.ShloMosaic.Pipeline (Dat BodyObligation Seg)

/-! ## The tokens -/

/-- The payments at one device's semaphores: semaphore, round, duty. First those the device makes itself, then those its left
    neighbour makes, then those its right neighbour makes. -/
def tokAt (k : Fin 38) : SemLoc sig × ℕ × Fin 2 :=
  match k with
  | ⟨0, _⟩ => (.dma 2, 0, 0)
  | ⟨1, _⟩ => (.dma 3, 0, 0)
  | ⟨2, _⟩ => (.dma 4, 0, 0)
  | ⟨3, _⟩ => (.dma 14, 0, 0)
  | ⟨4, _⟩ => (.dma 15, 0, 0)
  | ⟨5, _⟩ => (.dma 16, 0, 0)
  | ⟨6, _⟩ => (.dma 17, 0, 0)
  | ⟨7, _⟩ => (.dma 22, 0, 0)
  | ⟨8, _⟩ => (.dma 23, 0, 0)
  | ⟨9, _⟩ => (.dma 24, 0, 0)
  | ⟨10, _⟩ => (.dma 25, 0, 0)
  | ⟨11, _⟩ => (.dma 26, 0, 0)
  | ⟨12, _⟩ => (.dma 27, 0, 0)
  | ⟨13, _⟩ => (.dma 13, 0, 0)
  | ⟨14, _⟩ => (.dma 13, 1, 0)
  | ⟨15, _⟩ => (.dma 13, 2, 0)
  | ⟨16, _⟩ => (.dma 13, 3, 0)
  | ⟨17, _⟩ => (.dma 13, 4, 0)
  | ⟨18, _⟩ => (.dma 13, 5, 0)
  | ⟨19, _⟩ => (.dma 13, 6, 0)
  | ⟨20, _⟩ => (.dma 13, 7, 0)
  | ⟨21, _⟩ => (.reg 0, 0, 1)
  | ⟨22, _⟩ => (.reg 1, 0, 1)
  | ⟨23, _⟩ => (.dma 5, 0, 0)
  | ⟨24, _⟩ => (.dma 6, 0, 0)
  | ⟨25, _⟩ => (.dma 7, 0, 0)
  | ⟨26, _⟩ => (.dma 18, 0, 0)
  | ⟨27, _⟩ => (.dma 20, 0, 0)
  | ⟨28, _⟩ => (.dma 28, 0, 0)
  | ⟨29, _⟩ => (.dma 30, 0, 0)
  | ⟨30, _⟩ => (.dma 32, 0, 0)
  | ⟨31, _⟩ => (.reg 0, 0, 0)
  | ⟨32, _⟩ => (.reg 1, 0, 0)
  | ⟨33, _⟩ => (.dma 19, 0, 0)
  | ⟨34, _⟩ => (.dma 21, 0, 0)
  | ⟨35, _⟩ => (.dma 29, 0, 0)
  | ⟨36, _⟩ => (.dma 31, 0, 0)
  | _ => (.dma 33, 0, 0)

theorem tokAt_inj : Function.Injective tokAt := by decide +kernel
def toks : Finset (GSem nD τ sig × ℕ × Fin 2) :=
  Finset.univ.map ⟨fun p : Dev nD × Fin 38 => (cl p.1 (tokAt p.2).1, (tokAt p.2).2.1, (tokAt p.2).2.2), fun _ _ h =>
    Prod.ext (congrArg (fun t : GSem nD τ sig × ℕ × Fin 2 => t.1.1.1) h)
      (tokAt_inj (Prod.ext (congrArg (fun t : GSem nD τ sig × ℕ × Fin 2 => t.1.2) h) (congrArg (fun t : GSem nD τ sig × ℕ × Fin 2 => t.2) h)))⟩

/-- A device's own payments. -/
def tO : sProp 𝕄 := iprop((dutyTok ER (dc c 2) 0 0 ∗ dutyTok ER (dc c 3) 0 0 ∗ dutyTok ER (dc c 4) 0 0) ∗ (dutyTok ER (dc c 14) 0 0 ∗ dutyTok ER (dc c 15) 0 0 ∗ dutyTok ER (dc c 16) 0 0 ∗ dutyTok ER (dc c 17) 0 0 ∗ dutyTok ER (dc c 22) 0 0 ∗ dutyTok ER (dc c 23) 0 0 ∗ dutyTok ER (dc c 24) 0 0 ∗ dutyTok ER (dc c 25) 0 0 ∗ dutyTok ER (dc c 26) 0 0 ∗ dutyTok ER (dc c 27) 0 0) ∗ ltk c 0 8)
/-- The payments at a device's semaphores by its left neighbour, -/
def tR : sProp 𝕄 := iprop((dutyTok ER (bc c 0) 0 1 ∗ dutyTok ER (bc c 1) 0 1) ∗ (dutyTok ER (dc c 5) 0 0 ∗ dutyTok ER (dc c 6) 0 0 ∗ dutyTok ER (dc c 7) 0 0) ∗ (dutyTok ER (dc c 18) 0 0 ∗ dutyTok ER (dc c 20) 0 0 ∗ dutyTok ER (dc c 28) 0 0 ∗ dutyTok ER (dc c 30) 0 0 ∗ dutyTok ER (dc c 32) 0 0))
/-- and by its right neighbour. -/
def tL : sProp 𝕄 := iprop((dutyTok ER (bc c 0) 0 0 ∗ dutyTok ER (bc c 1) 0 0) ∗ (dutyTok ER (dc c 19) 0 0 ∗ dutyTok ER (dc c 21) 0 0 ∗ dutyTok ER (dc c 29) 0 0 ∗ dutyTok ER (dc c 31) 0 0 ∗ dutyTok ER (dc c 33) 0 0))

theorem toks_list : (bigSep Finset.univ fun k : Fin 38 => (dutyTok ER (cl c (tokAt k).1) (tokAt k).2.1 (tokAt k).2.2 : sProp 𝕄))
    = iprop(dutyTok ER (dc c 2) 0 0 ∗ dutyTok ER (dc c 3) 0 0 ∗ dutyTok ER (dc c 4) 0 0 ∗ dutyTok ER (dc c 14) 0 0 ∗ dutyTok ER (dc c 15) 0 0 ∗ dutyTok ER (dc c 16) 0 0 ∗ dutyTok ER (dc c 17) 0 0 ∗ dutyTok ER (dc c 22) 0 0 ∗ dutyTok ER (dc c 23) 0 0 ∗ dutyTok ER (dc c 24) 0 0 ∗ dutyTok ER (dc c 25) 0 0 ∗ dutyTok ER (dc c 26) 0 0 ∗ dutyTok ER (dc c 27) 0 0 ∗ dutyTok ER (dc c 13) 0 0 ∗ dutyTok ER (dc c 13) 1 0 ∗ dutyTok ER (dc c 13) 2 0 ∗ dutyTok ER (dc c 13) 3 0 ∗ dutyTok ER (dc c 13) 4 0 ∗ dutyTok ER (dc c 13) 5 0 ∗ dutyTok ER (dc c 13) 6 0 ∗ dutyTok ER (dc c 13) 7 0 ∗ dutyTok ER (bc c 0) 0 1 ∗ dutyTok ER (bc c 1) 0 1 ∗ dutyTok ER (dc c 5) 0 0 ∗ dutyTok ER (dc c 6) 0 0 ∗ dutyTok ER (dc c 7) 0 0 ∗ dutyTok ER (dc c 18) 0 0 ∗ dutyTok ER (dc c 20) 0 0 ∗ dutyTok ER (dc c 28) 0 0 ∗ dutyTok ER (dc c 30) 0 0 ∗ dutyTok ER (dc c 32) 0 0 ∗ dutyTok ER (bc c 0) 0 0 ∗ dutyTok ER (bc c 1) 0 0 ∗ dutyTok ER (dc c 19) 0 0 ∗ dutyTok ER (dc c 21) 0 0 ∗ dutyTok ER (dc c 29) 0 0 ∗ dutyTok ER (dc c 31) 0 0 ∗ dutyTok ER (dc c 33) 0 0) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37] (by decide) (by decide) _

theorem toks_one : (bigSep Finset.univ fun k : Fin 38 => (dutyTok ER (cl c (tokAt k).1) (tokAt k).2.1 (tokAt k).2.2 : sProp 𝕄))
    ⊢ iprop(tO c ∗ tR c ∗ tL c) := by
  rw [toks_list]
  unfold tO tR tL ltk ltk ltk ltk ltk ltk ltk ltk ltk
  iintro ⟨H0, H1, H2, H3, H4, H5, H6, H7, H8, H9, H10, H11, H12, H13, H14, H15, H16, H17, H18, H19, H20, H21, H22, H23, H24, H25, H26, H27, H28, H29, H30, H31, H32, H33, H34, H35, H36, H37⟩
  isplitl [H0 H1 H2 H3 H4 H5 H6 H7 H8 H9 H10 H11 H12 H13 H14 H15 H16 H17 H18 H19 H20]
  · isplitl [H0 H1 H2]
    · isplitl [H0]; · iexact H0
      isplitl [H1]; · iexact H1
      iexact H2
    isplitl [H3 H4 H5 H6 H7 H8 H9 H10 H11 H12]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iempintro
  isplitl [H21 H22 H23 H24 H25 H26 H27 H28 H29 H30]
  · isplitl [H21 H22]
    · isplitl [H21]; · iexact H21
      iexact H22
    isplitl [H23 H24 H25]
    · isplitl [H23]; · iexact H23
      isplitl [H24]; · iexact H24
      iexact H25
    isplitl [H26]; · iexact H26
    isplitl [H27]; · iexact H27
    isplitl [H28]; · iexact H28
    isplitl [H29]; · iexact H29
    iexact H30
  isplitl [H31 H32]
  · isplitl [H31]; · iexact H31
    iexact H32
  isplitl [H33]; · iexact H33
  isplitl [H34]; · iexact H34
  isplitl [H35]; · iexact H35
  isplitl [H36]; · iexact H36
  iexact H37

def rtE : Dev nD ≃ Dev nD := ⟨rt, lf, lf_rt, rt_lf⟩
def lfE : Dev nD ≃ Dev nD := ⟨lf, rt, rt_lf, lf_rt⟩

/-- Every token goes to the device that makes the payment. -/
theorem toks_deal : (bigSep toks fun x => (dutyTok ER x.1 x.2.1 x.2.2 : sProp 𝕄))
    ⊢ bigSep Finset.univ fun c : Dev nD => iprop(tO c ∗ tR (rt c) ∗ tL (lf c)) := by
  unfold toks
  rw [bigSep_map, bigSep_univ_prod]
  have h : (bigSep Finset.univ fun c : Dev nD => bigSep Finset.univ fun k : Fin 38 => (dutyTok ER (cl c (tokAt k).1) (tokAt k).2.1 (tokAt k).2.2 : sProp 𝕄))
      ⊢ bigSep Finset.univ fun c : Dev nD => (iprop(tO c ∗ tR c ∗ tL c) : sProp 𝕄) := bigSep_mono fun c _ => toks_one c
  refine h.trans ?_
  rw [bigSep_sep', bigSep_sep', bigSep_sep', bigSep_sep', bigSep_univ_equiv rtE (fun c : Dev nD => (tR c : sProp 𝕄)),
    bigSep_univ_equiv lfE (fun c : Dev nD => (tL c : sProp 𝕄))]
  exact BI.Entails.refl _

/-! ## The cells -/

theorem disjoint_cells : Disjoint barCells cpyCells := by
  rw [Finset.disjoint_left]
  intro g h₁ h₂
  obtain ⟨p, hp, rfl⟩ := Finset.mem_map.mp h₁
  obtain ⟨p', hp', e⟩ := Finset.mem_map.mp h₂
  have e' : p'.2 = p.2 := congrArg (fun g : GSem nD τ sig => g.2) e
  have a := (Finset.mem_filter.mp (Finset.mem_product.mp hp).2).2.2
  have b := (Finset.mem_filter.mp (Finset.mem_product.mp hp').2).2.2
  rw [e', a] at b
  exact absurd b (by decide)

theorem bigSep_prod {α β : Type} [DecidableEq α] [DecidableEq β] (A : Finset α) (B : Finset β) (Φ : α × β → sProp 𝕄) :
    bigSep (A ×ˢ B) Φ = bigSep A fun a => bigSep B fun b => Φ (a, b) := by
  induction A using Finset.induction_on with
  | empty => rw [Finset.empty_product, BI.bigSep_empty, BI.bigSep_empty]
  | insert a A ha ih =>
    rw [bigSep_insert ha, ← ih, Finset.insert_eq, Finset.union_product, BI.bigSep_union, Finset.singleton_product, BI.bigSep_map]
    · rfl
    · exact Finset.disjoint_product.mpr (Or.inl (Finset.disjoint_singleton_left.mpr ha))

theorem bar_list : (Finset.univ.filter fun s : SemLoc sig => tk s = true ∧ s.isScoped .tc = false) = ([.reg 0, .reg 1] : List (SemLoc sig)).toFinset := by
  decide +kernel
theorem cpy_list : (Finset.univ.filter fun s : SemLoc sig => tk s = true ∧ s.isScoped .tc = true)
    = ([.dma 2, .dma 3, .dma 4, .dma 5, .dma 6, .dma 7, .dma 13, .dma 14, .dma 15, .dma 16, .dma 17, .dma 18, .dma 19, .dma 20, .dma 21, .dma 22, .dma 23, .dma 24, .dma 25, .dma 26, .dma 27, .dma 28, .dma 29, .dma 30, .dma 31, .dma 32, .dma 33] : List (SemLoc sig)).toFinset := by
  decide +kernel
theorem free_list : (Finset.univ.filter fun s : SemLoc sig => ¬ s.isScoped .tc) = ([.reg 0, .reg 1] : List (SemLoc sig)).toFinset := by
  decide +kernel

theorem bar_cells (Φ : GSem nD τ sig → sProp 𝕄) : bigSep barCells Φ = bigSep Finset.univ fun c : Dev nD => iprop(Φ (bc c 0) ∗ Φ (bc c 1)) := by
  unfold barCells
  rw [BI.bigSep_map, bigSep_prod]
  exact bigSep_congr fun c _ => by
    rw [bigSep_eq_bigSepL_of_eq _ bar_list (by decide)]; rfl
theorem cpy_cells : (bigSep cpyCells fun g => (openTok ER g : sProp 𝕄)) = bigSep Finset.univ fun c : Dev nD => iprop(openTok ER (dc c 2) ∗ openTok ER (dc c 3) ∗ openTok ER (dc c 4) ∗ openTok ER (dc c 5) ∗ openTok ER (dc c 6) ∗ openTok ER (dc c 7) ∗ openTok ER (dc c 13) ∗ openTok ER (dc c 14) ∗ openTok ER (dc c 15) ∗ openTok ER (dc c 16) ∗ openTok ER (dc c 17) ∗ openTok ER (dc c 18) ∗ openTok ER (dc c 19) ∗ openTok ER (dc c 20) ∗ openTok ER (dc c 21) ∗ openTok ER (dc c 22) ∗ openTok ER (dc c 23) ∗ openTok ER (dc c 24) ∗ openTok ER (dc c 25) ∗ openTok ER (dc c 26) ∗ openTok ER (dc c 27) ∗ openTok ER (dc c 28) ∗ openTok ER (dc c 29) ∗ openTok ER (dc c 30) ∗ openTok ER (dc c 31) ∗ openTok ER (dc c 32) ∗ openTok ER (dc c 33)) := by
  unfold cpyCells
  rw [BI.bigSep_map, bigSep_prod]
  exact bigSep_congr fun c _ => by
    rw [bigSep_eq_bigSepL_of_eq _ cpy_list (by decide)]; rfl
theorem free_sems : (unscopedSems0 c : sProp 𝕄) = iprop(semVal (bc c 0) 0 ∗ semVal (bc c 1) 0) := by
  unfold unscopedSems0
  rw [bigSep_eq_bigSepL_of_eq _ free_list (by decide)]; rfl

/-! ## The credits -/

/-- What all devices owe at a cell to which exactly one device, `p`, owes `n`. -/
theorem cred_of (O : Dev nD → CellTallies nD τ sig Unit) (s : SemLoc sig) (p : Dev nD) (n : ℕ)
    (h : ∀ d, O d (cl c s) () = if d = p then n else 0) : (Pipeline.launchCred O c : sProp 𝕄) ⊢ cred (tallyAt (cl c s) () n) := by
  have e : tallyOn (cl c s) (launchCredit (Pipeline.owing O) 0 (cl c s)) = (tallyAt (cl c s) () n : CellTallies nD τ sig Unit) := by
    unfold tallyAt; refine congrArg _ (Finsupp.ext fun u => ?_); cases u
    rw [Pipeline.launchCredit_owing, Finsupp.single_eq_same, Finset.sum_congr rfl fun d _ => h d, Finset.sum_ite_eq' Finset.univ p fun _ => n,
      if_pos (Finset.mem_univ _)]
  rw [← e]
  exact Pipeline.launchCred_elim O c s

theorem due_rt (s : SemLoc sig) (n k : ℕ) (h : ∀ d : Dev nD, dueAt d n = (cl (rt d) s, k)) :
    (Pipeline.launchCred (fun d => due d n) c : sProp 𝕄) ⊢ cred (tallyAt (cl c s) () k) :=
  cred_of c _ s (lf c) k fun d => by
    show due d n (cl c s) () = _
    unfold due; rw [h, tallyAt_apply]
    by_cases e : d = lf c
    · subst e; rw [rt_lf, if_pos ⟨rfl, rfl⟩, if_pos rfl]
    · rw [if_neg (fun ⟨h1, _⟩ => e (by rw [← lf_rt d]; exact congrArg lf (congrArg (fun g : GSem nD τ sig => g.1.1) h1).symm)), if_neg e]
theorem due_lf (s : SemLoc sig) (n k : ℕ) (h : ∀ d : Dev nD, dueAt d n = (cl (lf d) s, k)) :
    (Pipeline.launchCred (fun d => due d n) c : sProp 𝕄) ⊢ cred (tallyAt (cl c s) () k) :=
  cred_of c _ s (rt c) k fun d => by
    show due d n (cl c s) () = _
    unfold due; rw [h, tallyAt_apply]
    by_cases e : d = rt c
    · subst e; rw [lf_rt, if_pos ⟨rfl, rfl⟩, if_pos rfl]
    · rw [if_neg (fun ⟨h1, _⟩ => e (by rw [← rt_lf d]; exact congrArg rt (congrArg (fun g : GSem nD τ sig => g.1.1) h1).symm)), if_neg e]

theorem cred_two (s : SemLoc sig) : iprop(cred (tallyAt (cl c s) () 1) ∗ cred (tallyAt (cl c s) () 1)) ⊢ (cred (tallyAt (cl c s) () 2) : sProp 𝕄) := by
  rw [show (tallyAt (cl c s) () 2 : CellTallies nD τ sig Unit) = tallyAt (cl c s) () 1 + tallyAt (cl c s) () 1 from by
    unfold tallyAt; rw [← tallyOn_add, ← Finsupp.single_add]]
  exact (cred_add _ _).2

theorem creds : (Pipeline.launchCred (fun d => rem d 17) c : sProp 𝕄) ⊢ iprop((cred (tallyAt (bc c 0) () 2) ∗ cred (tallyAt (dc c 5) () NR) ∗ cred (tallyAt (dc c 6) () NR) ∗ cred (tallyAt (dc c 7) () NR)) ∗ (cred (tallyAt (bc c 1) () 2) ∗ (cred (tallyAt (dc c 18) () (amt 18)) ∗ cred (tallyAt (dc c 19) () (amt 19)) ∗ cred (tallyAt (dc c 20) () (amt 20)) ∗ cred (tallyAt (dc c 21) () (amt 21)) ∗ cred (tallyAt (dc c 28) () (amt 28)) ∗ cred (tallyAt (dc c 29) () (amt 29)) ∗ cred (tallyAt (dc c 30) () (amt 30)) ∗ cred (tallyAt (dc c 31) () (amt 31)) ∗ cred (tallyAt (dc c 32) () (amt 32)) ∗ cred (tallyAt (dc c 33) () (amt 33))))) := by
  have e (k : ℕ) : (Pipeline.launchCred (fun d => rem d (k + 1)) c : sProp 𝕄)
      = iprop(Pipeline.launchCred (fun d => rem d k) c ∗ Pipeline.launchCred (fun d => due d (16 - k)) c) :=
    Pipeline.launchCred_add (fun d => rem d k) (fun d => due d (16 - k)) c
  rw [e 16, e 15, e 14, e 13, e 12, e 11, e 10, e 9, e 8, e 7, e 6, e 5, e 4, e 3, e 2, e 1, e 0]
  iintro ⟨⟨⟨⟨⟨⟨⟨⟨⟨⟨⟨⟨⟨⟨⟨⟨⟨-, K16⟩, K15⟩, K14⟩, K13⟩, K12⟩, K11⟩, K10⟩, K9⟩, K8⟩, K7⟩, K6⟩, K5⟩, K4⟩, K3⟩, K2⟩, K1⟩, K0⟩
  ihave K0 := (due_lf (F := F) c (.reg 0) 0 (1) (fun _ => rfl)) $$ K0
  ihave K1 := (due_rt (F := F) c (.reg 0) 1 (1) (fun _ => rfl)) $$ K1
  ihave K2 := (due_rt (F := F) c (.dma 5) 2 (NR) (fun _ => rfl)) $$ K2
  ihave K3 := (due_rt (F := F) c (.dma 6) 3 (NR) (fun _ => rfl)) $$ K3
  ihave K4 := (due_rt (F := F) c (.dma 7) 4 (NR) (fun _ => rfl)) $$ K4
  ihave K5 := (due_lf (F := F) c (.reg 1) 5 (1) (fun _ => rfl)) $$ K5
  ihave K6 := (due_rt (F := F) c (.reg 1) 6 (1) (fun _ => rfl)) $$ K6
  ihave K7 := (due_rt (F := F) c (.dma 18) 7 (amt 18) (fun _ => rfl)) $$ K7
  ihave K8 := (due_lf (F := F) c (.dma 19) 8 (amt 19) (fun _ => rfl)) $$ K8
  ihave K9 := (due_rt (F := F) c (.dma 20) 9 (amt 20) (fun _ => rfl)) $$ K9
  ihave K10 := (due_lf (F := F) c (.dma 21) 10 (amt 21) (fun _ => rfl)) $$ K10
  ihave K11 := (due_rt (F := F) c (.dma 28) 11 (amt 28) (fun _ => rfl)) $$ K11
  ihave K12 := (due_lf (F := F) c (.dma 29) 12 (amt 29) (fun _ => rfl)) $$ K12
  ihave K13 := (due_rt (F := F) c (.dma 30) 13 (amt 30) (fun _ => rfl)) $$ K13
  ihave K14 := (due_lf (F := F) c (.dma 31) 14 (amt 31) (fun _ => rfl)) $$ K14
  ihave K15 := (due_rt (F := F) c (.dma 32) 15 (amt 32) (fun _ => rfl)) $$ K15
  ihave K16 := (due_lf (F := F) c (.dma 33) 16 (amt 33) (fun _ => rfl)) $$ K16
  ihave B0 := (cred_two (F := F) c (.reg 0)) $$ [K0 K1]
  · isplitl [K0]; · iexact K0
    iexact K1
  ihave B1 := (cred_two (F := F) c (.reg 1)) $$ [K5 K6]
  · isplitl [K5]; · iexact K5
    iexact K6
  isplitl [B0 K2 K3 K4]
  · isplitl [B0]; · iexact B0
    isplitl [K2]; · iexact K2
    isplitl [K3]; · iexact K3
    iexact K4
  isplitl [B1]; · iexact B1
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [K14]; · iexact K14
  isplitl [K15]; · iexact K15
  iexact K16

/-! ## The launch -/

/-- What stays with a device: its places at its barriers, its rights to open, the tokens of what it pays, its credits. -/
def linear : sProp 𝕄 :=
  iprop((atPos ER (bc c 0) 0 ∅ 0 ∗ atPos ER (bc c 1) 0 ∅ 0) ∗ (openTok ER (dc c 2) ∗ openTok ER (dc c 3) ∗ openTok ER (dc c 4) ∗ openTok ER (dc c 5) ∗ openTok ER (dc c 6) ∗ openTok ER (dc c 7) ∗ openTok ER (dc c 13) ∗ openTok ER (dc c 14) ∗ openTok ER (dc c 15) ∗ openTok ER (dc c 16) ∗ openTok ER (dc c 17) ∗ openTok ER (dc c 18) ∗ openTok ER (dc c 19) ∗ openTok ER (dc c 20) ∗ openTok ER (dc c 21) ∗ openTok ER (dc c 22) ∗ openTok ER (dc c 23) ∗ openTok ER (dc c 24) ∗ openTok ER (dc c 25) ∗ openTok ER (dc c 26) ∗ openTok ER (dc c 27) ∗ openTok ER (dc c 28) ∗ openTok ER (dc c 29) ∗ openTok ER (dc c 30) ∗ openTok ER (dc c 31) ∗ openTok ER (dc c 32) ∗ openTok ER (dc c 33)) ∗ (tO c ∗ tR (rt c) ∗ tL (lf c))
    ∗ Pipeline.launchCred (fun d => rem d 17) c)

theorem ghosts : (linear c : sProp 𝕄) ⊢ iprop(g0 c ∗ g1 c) := by
  unfold linear tO tR tL g0 g1
  iintro ⟨⟨Ha0, Ha1⟩, ⟨O2, O3, O4, O5, O6, O7, O13, O14, O15, O16, O17, O18, O19, O20, O21, O22, O23, O24, O25, O26, O27, O28, O29, O30, O31, O32, O33⟩, ⟨⟨TA, TB, TC⟩, ⟨⟨P0, P1⟩, TD, TE⟩, ⟨Q0, Q1⟩, TF⟩, Hc⟩
  ihave Hc := (creds (F := F) c) $$ Hc
  icases Hc with ⟨C0, C1⟩
  isplitl [Ha0 C0 O2 O3 O4 O5 O6 O7 Q0 P0 TA TD]
  · isplitl [Ha0]; · iexact Ha0
    isplitl [C0]; · iexact C0
    isplitl [O2 O3 O4 O5 O6 O7]
    · isplitl [O2]; · iexact O2
      isplitl [O3]; · iexact O3
      isplitl [O4]; · iexact O4
      isplitl [O5]; · iexact O5
      isplitl [O6]; · iexact O6
      iexact O7
    isplitl [Q0 P0]
    · isplitl [Q0]; · iexact Q0
      iexact P0
    isplitl [TA]; · iexact TA
    iexact TD
  isplitl [Ha1]; · iexact Ha1
  isplitl [C1]; · iexact C1
  isplitl [O13 O14 O15 O16 O17 O18 O19 O20 O21 O22 O23 O24 O25 O26 O27 O28 O29 O30 O31 O32 O33]
  · isplitl [O13]; · iexact O13
    isplitl [O14]; · iexact O14
    isplitl [O15]; · iexact O15
    isplitl [O16]; · iexact O16
    isplitl [O17]; · iexact O17
    isplitl [O18]; · iexact O18
    isplitl [O19]; · iexact O19
    isplitl [O20]; · iexact O20
    isplitl [O21]; · iexact O21
    isplitl [O22]; · iexact O22
    isplitl [O23]; · iexact O23
    isplitl [O24]; · iexact O24
    isplitl [O25]; · iexact O25
    isplitl [O26]; · iexact O26
    isplitl [O27]; · iexact O27
    isplitl [O28]; · iexact O28
    isplitl [O29]; · iexact O29
    isplitl [O30]; · iexact O30
    isplitl [O31]; · iexact O31
    isplitl [O32]; · iexact O32
    iexact O33
  isplitl [Q1 P1]
  · isplitl [Q1]; · iexact Q1
    iexact P1
  isplitl [TB]; · iexact TB
  isplitl [TE]; · iexact TE
  isplitl [TF]; · iexact TF
  iexact TC

/-- What a device starts from. -/
abbrev T₀ : Dev nD → sProp 𝕄 := fun c => iprop(StableHlo.held (c : Thread nD τ) (Pipeline.ucRefs τ sig) (V0 m c) ∗ E m 0 c)
/-- What a device ends with. -/
abbrev Tₙ : Dev nD → sProp 𝕄 := fun c => iprop(StableHlo.held (c : Thread nD τ) (Pipeline.ucRefs τ sig) (V9 m (outs m) c) ∗ semVal (bc c 0) 0 ∗ semVal (bc c 1) 0)

def bundle : sProp 𝕄 :=
  iprop(StableHlo.held (c : Thread nD τ) (Pipeline.ucRefs τ sig) (V0 m c) ∗ owes (c : Thread nD τ) (rem c 17) ∅ ∗ ∃ r, prngReg c r)

theorem T₀_intro (κ : GSem nD τ sig → ℕ) : iprop(env (inp m) κ ∗ (linear c ∗ bundle m c)) ⊢ T₀ m c := by
  unfold bundle T₀ E ow
  iintro ⟨#HR, Hl, Hh, HO, Hp⟩
  ihave Hg := (ghosts (F := F) c) $$ Hl
  icases Hg with ⟨H0, H1⟩
  isplitl [Hh]; · iexact Hh
  isplitl [Hp]; · iexact Hp
  isplitl [HO]; · iexists ∅; iexact HO
  isplitl [H0]
  · iexists κ; isplitr; · iexact HR
    iexact H0
  · iexists κ; isplitr; · iexact HR
    iexact H1

/-- A resource held by device 0 alone. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

/-- The launch's element: the staging cells' and the exchange's. -/
def u₀ : UU :=
  (initOf (Pipeline.cells cfgs cellOf_inj) (Pipeline.launchToks cfgs cellOf_inj), launchOf barCells cpyCells toks)
def G : Dev nD → sProp 𝕄 := onDev (BI.own (ER (launchOf barCells cpyCells toks)))

theorem init :
    iprop((bigSep Finset.univ fun c : Dev nD => iprop(unscopedBufs c (fun b => m ((c : Thread nD τ).loc b)) ∗ unscopedSems0 c
          ∗ owes (c : Thread nD τ) (rem c 17) ∅ ∗ Pipeline.launchCred (fun d => rem d 17) c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (rem c 17) ∅ ∗ Pipeline.launchCred (fun d => rem d 17) c ∗ prngReg c (ρ c) ∗ G c)
      ⊢ (iprop(bundle m c ∗ ((semVal (bc c 0) 0 ∗ semVal (bc c 1) 0) ∗ (Pipeline.launchCred (fun d => rem d 17) c ∗ G c))) : sProp 𝕄) := by
    rw [show (unscopedBufs c (fun b => m ((c : Thread nD τ).loc b)) : sProp 𝕄) = StableHlo.held (c : Thread nD τ) (Pipeline.ucRefs τ sig) (V0 m c) from
      Pipeline.unscopedBufs_held (Ix := Unit) (Name := ℕ) (U := UU) (Lvl := ℕ) c (V0 m c), free_sems]
    unfold bundle
    iintro ⟨Hh, Hus, HO, Hcr, Hp, HG⟩
    isplitl [Hh HO Hp]
    · isplitl [Hh]; · iexact Hh
      isplitl [HO]; · iexact HO
      iexists (ρ c); iexact Hp
    isplitl [Hus]; · iexact Hus
    isplitl [Hcr] <;> iassumption
  iintro ⟨H, #Hlv⟩
  ihave H' := (show (bigSep Finset.univ fun c : Dev nD => iprop(unscopedBufs c (fun b => m ((c : Thread nD τ).loc b)) ∗ unscopedSems0 c
          ∗ owes (c : Thread nD τ) (rem c 17) ∅ ∗ Pipeline.launchCred (fun d => rem d 17) c ∗ prngReg c (ρ c) ∗ G c))
      ⊢ (bigSep Finset.univ fun c : Dev nD => iprop(bundle m c ∗ ((semVal (bc c 0) 0 ∗ semVal (bc c 1) 0) ∗ (Pipeline.launchCred (fun d => rem d 17) c ∗ G c))) : sProp 𝕄)
      from bigSep_mono fun c _ => hcore c) $$ H
  ihave H2 := (Entails.of_eq (bigSep_sep' ..)) $$ H'; icases H2 with ⟨HB, H3⟩
  ihave H4 := (Entails.of_eq (bigSep_sep' ..)) $$ H3; icases H4 with ⟨Hv, H5⟩
  ihave H6 := (Entails.of_eq (bigSep_sep' ..)) $$ H5; icases H6 with ⟨Hc, HG⟩
  ihave Hu := (show bigSep Finset.univ (G (F := F)) ⊢ BI.own (ER (launchOf barCells cpyCells toks)) from
    Entails.of_eq (bigSep_onDev (F := F) (BI.own (ER (launchOf barCells cpyCells toks))))) $$ HG
  imod (Rounds.fund_launch ER (Rd (inp m)) disjoint_cells (fun g _ h => h) toks) $$ [Hv Hu] with ⟨%κ, -, #Hinv, #Hr, Hat, Hopen, Htok⟩
  · isplitl [Hv]
    · iapply (Entails.of_eq (bar_cells (fun g => (semVal g 0 : sProp 𝕄))).symm) $$ Hv
    · iexact Hu
  imodintro
  iapply (bigSep_with_persistent (R := env (inp m) κ) (Φ := fun c => iprop(linear c ∗ bundle m c)) fun c _ => T₀_intro m c κ)
  isplitr
  · unfold env
    isplitr; · iexact Hinv
    isplitr; · iexact Hr
    iexact Hlv
  iapply (Entails.of_eq (bigSep_sep' ..).symm)
  isplitr [HB]
  · unfold linear
    iapply (Entails.of_eq (bigSep_sep' ..).symm); isplitl [Hat]; · iapply (Entails.of_eq (bar_cells (fun g => (atPos ER g 0 ∅ 0 : sProp 𝕄)))) $$ Hat
    iapply (Entails.of_eq (bigSep_sep' ..).symm); isplitl [Hopen]; · iapply (Entails.of_eq (cpy_cells (F := F))) $$ Hopen
    iapply (Entails.of_eq (bigSep_sep' ..).symm); isplitl [Htok]; · iapply (toks_deal (F := F)) $$ Htok
    iexact Hc
  · iexact HB

theorem unscoped_eq : ∀ sm : SemLoc sig, sm.isScoped .tc = false → sm = .reg 0 ∨ sm = .reg 1 := by decide

/-! ## The run -/

theorem last_seg : iprop(StableHlo.held (c : Thread nD τ) (Pipeline.ucRefs τ sig) (V9 m (outs m) c) ∗ E m 2 c)
    ⊢ iprop(Tₙ m c ∗ ∃ W, owes (c : Thread nD τ) (0 : CellTallies nD τ sig Unit) W) := by
  unfold E ow
  iintro ⟨Hh, Hp, HO, Hb0, Hb1⟩
  isplitr [HO]
  · isplitl [Hh]; · iexact Hh
    isplitl [Hb0]; · iexact Hb0
    iexact Hb1
  · iexact HO

set_option backward.isDefEq.respectTransparency.types false in
/-- From any memory with zero counters, every fair execution of the program on the four devices ends, and every final state has the
    arguments unchanged, the result as the last host stretch leaves it, and every semaphore counter at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_v41) = V9 m (outs m) c main_v41) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg0 m) (reg1 m))
    (fun c Q => by
      rewrite [main_chain c, Pipeline.Seg.run_eq_chain,
        show (segs m (outs m) 𝒱₀ L lv (E m) () (pdats m) (reg0 m) (reg1 m) c).map Pipeline.Seg.prog = [
          StableHlo.seq (hostOps0 c),
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (fun c => rem c 17) L_of_ne G u₀
    (by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := fun c => ⟨.rfl, pre_reg0 m c, post_reg0 m c, .rfl, .rfl, .rfl, .rfl, pre_reg1 m c, post_reg1 m c, last_seg m c⟩)
    (hinit := init m ρ)
    (QY := fun c s => (s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_arg2) = m ((c.tc : Thread nD τ).loc main_arg2) ∧ s.mem ((c.tc : Thread nD τ).loc main_v41) = V9 m (outs m) c main_v41)
      ∧ s.sem (bc c 0) = 0 ∧ s.sem (bc c 1) = 0)
    (hfin := fun c s' => ?_) (hQ := fun s h hs => ⟨fun c => (h c).1, sem_eq_zero hs fun c sm hsm => by
      rcases unscoped_eq sm hsm with rfl | rfl
      · exact (h c).2.1
      · exact (h c).2.2⟩)
  · dsimp only [Tₙ]
    unfold StableHlo.held
    iintro ⟨⟨Hh, Hb0, Hb1⟩, HSI⟩
    icombine HSI Hb0 gives %hb0
    icombine HSI Hb1 gives %hb1
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V9_main_arg0 m (outs m) c),
        (h (Proc.devRef .tc main_arg1) (Finset.mem_filter.mpr ⟨StableHlo.devRef_mem_tcRefs main_arg1, by decide⟩)).trans (V9_main_arg1 m (outs m) c),
        (h (Proc.devRef .tc main_arg2) (Finset.mem_filter.mpr ⟨StableHlo.devRef_mem_tcRefs main_arg2, by decide⟩)).trans (V9_main_arg2 m (outs m) c),
        h (Proc.devRef .tc main_v41) (Finset.mem_filter.mpr ⟨StableHlo.devRef_mem_tcRefs main_v41, by decide⟩)⟩,
        by simpa using hb0, by simpa using hb1⟩
    · iexact HSI

end Cert.KernelIdeal.Net
-- ==== Proof.Host.lean ====
/-
  The lines of whole-array operations around the two calls, each result read in terms of the buffers before its stretch.
-/
module

public import proofs.«01_k».proof.Proof.Net
public import Idealize.ShloMosaic.Lib.Pointwise
public import Idealize.ShloMosaic.Lib.Pointwise.IndexBridge
public import Idealize.ShloMosaic.Lib.StableHlo.ReadAt
public import Idealize.ShloMosaic.Lib.StableHlo.RunClose
public import Idealize.ShloMosaic.Lib.Routing.OpsOne
public import Idealize.ShloMosaic.Lib.Routing.Count

@[expose] public section

noncomputable section

namespace Cert.KernelIdeal.Net

open Cert.KernelIdeal Cert.KernelIdeal.Gen
open Idealize.ShloMosaic Idealize.ShloMosaic.TcCoe

section Reads
variable (V : Valuation τ sig (Elt Ideal)) (c : Dev nD)

/-- The device's routes, laid out in sixteen rows of 128. -/
theorem ops0_v5 (i : Fin 16) (l : Fin 128) : StableHlo.after (hostOps0 (F := Ideal) c) V (Proc.devRef .tc main_v5) (ix2 i l) = V main_arg1 (ix2 ⟨i.val * 128 + l.val, by omega⟩ 0) := by
  unfold hostOps0
  after_reads_at
/-- The device's number. -/
theorem ops0_v4 : StableHlo.after (hostOps0 (F := Ideal) c) V (Proc.devRef .tc main_v4) = (fun _ => BitVec.ofNat 32 c.val) := by
  unfold hostOps0
  after_reads_simp
  funext i
  have h : ∀ c : Dev nD, IntOp.remui .host (IntOp.divui .host c.word 1#32) 4#32 = BitVec.ofNat 32 c.val := by decide
  exact h c
/-- The gathered routes in one line. -/
theorem ops1_v7 (t : Fin 8192) : StableHlo.after (hostOps1 (F := Ideal)) V (Proc.devRef .tc main_v7) (ix1 t) = V main_v6 (ix2 ⟨t.val / 128, by omega⟩ ⟨t.val % 128, by omega⟩) := by
  unfold hostOps1
  after_reads_at
/-- A one where the token has the route. -/
theorem ops1_v14 (t : Fin 8192) (e : Fin 32) : StableHlo.after (hostOps1 (F := Ideal)) V (Proc.devRef .tc main_v14) (ix2 t e)
    = BitVec.setWidth 32 (IntOp.cmpi CmpIPredicate.eq (V main_v6 (ix2 ⟨t.val / 128, by omega⟩ ⟨t.val % 128, by omega⟩)) (BitVec.ofNat 32 e.val)) := by
  unfold hostOps1
  after_reads_at
/-- The running sums down the columns. -/
theorem ops1_v15 : StableHlo.after (hostOps1_1 (F := Ideal)) V (Proc.devRef .tc main_v15)
    = Host.reduceWindow IntOp.addi ![8192, 1] ![1, 1] ![8191, 0] ![0, 0] (V main_v14) (broadcastInDim S_ ![] bcast_S_S_ (constantI S_ 32 0#32))
        reduceWindows_S8192x32_S8192x32_w8192s1p8191_0_w1s1p0_0 h_S_ := by
  unfold hostOps1_1
  after_reads_simp
  simp -implicitDefEqProofs only [StableHlo.TRef.toBuf, StableHlo.TRef.ofBuf, cast_cast, cast_eq]

/-- The ranks, from the running sums and the ones. -/
def ranks (a b : IVec S8192x32 32) : IVec S8192 32 :=
  Host.reduce IntOp.addi (muli (subi a (broadcastInDim S8192x32 ![] bcast_S_S8192x32 (constantI S_ 32 1#32))) b)
      (constantI S_ 32 0#32) reducesTo_S8192x32_S8192_d1 h_S_

theorem ops1_v19 : StableHlo.after (hostOps1_2 (F := Ideal)) V (Proc.devRef .tc main_v19) = ranks (V main_v15) (V main_v14) := by
  unfold hostOps1_2 ranks
  after_reads_simp
theorem ops1_c11 : StableHlo.after (hostOps1_2 (F := Ideal)) V (Proc.devRef .tc main_c_11) = constantI S_ 32 6656#32 := by
  unfold hostOps1_2
  after_reads_simp

/-- Where a device's stretch of tokens starts. -/
theorem start_eq (c : Dev nD) (w : BitVec 32) (hw : w = BitVec.ofNat 32 c.val) (h) :
    Host.clampedStart S8192 S2048 h (fun _ => (Scalar.select (IntOp.cmpi CmpIPredicate.slt (IntOp.muli w 2048#32) 0#32) (IntOp.addi (IntOp.muli w 2048#32) 8192#32)
      (IntOp.muli w 2048#32)).toInt) 0 = 2048 * c.val := by
  subst hw
  have hc : c.val < 4 := c.isLt
  refine Host.clampedStart_of_le _ _ _ _ ?_ ?_
  · revert c; decide
  · show 2048 * c.val + 2048 ≤ 8192; omega

variable (h4 : V main_v4 = fun _ => BitVec.ofNat 32 c.val)
include h4

/-- Whether the token's rank is below the capacity. -/
theorem ops1_v31 (i : Fin 2048) (t : Fin 8192) (ht : t.val = 2048 * c.val + i.val) :
    StableHlo.after (hostOps1_2 (F := Ideal)) V (Proc.devRef .tc main_v31) (ix1 i) = IntOp.cmpi CmpIPredicate.slt (ranks (V main_v15) (V main_v14) (ix1 t)) 204#32 := by
  unfold hostOps1_2
  after_results_simp_entrywise
  change (cmpi CmpIPredicate.slt (Host.dynamicSlice S2048 (ranks (V (Proc.devRef .tc main_v15)) (V (Proc.devRef .tc main_v14))) _ _) _) _ = _
  generalize ranks _ _ = R
  clean_types
  pointwise
  refine congrArg (fun z => IntOp.cmpi CmpIPredicate.slt (R (ix1 z)) 204#32) (Fin.ext ?_)
  rw [ht]
  exact congrArg (· + i.val) (start_eq c _ (congrFun h4 _) _)
/-- The token's slot, its rank being below the capacity. -/
theorem ops1_v34 (i : Fin 2048) (t : Fin 8192) (ht : t.val = 2048 * c.val + i.val) :
    StableHlo.after (hostOps1_2 (F := Ideal)) V (Proc.devRef .tc main_v34) (ix1 i)
      = IntOp.addi (IntOp.muli (V main_v7 (ix1 t)) 208#32) (ranks (V main_v15) (V main_v14) (ix1 t)) := by
  unfold hostOps1_2
  after_results_simp_entrywise
  change (addi (muli (Host.dynamicSlice S2048 (V (Proc.devRef .tc main_v7)) _ _) _) (Host.dynamicSlice S2048 (ranks (V (Proc.devRef .tc main_v15)) (V (Proc.devRef .tc main_v14))) _ _)) _ = _
  generalize ranks _ _ = R
  clean_types
  pointwise
  refine congrArg₂ (fun y z => IntOp.addi (IntOp.muli (V (Proc.devRef .tc main_v7) (ix1 y)) 208#32) (R (ix1 z))) (Fin.ext ?_) (Fin.ext ?_)
  · rw [ht]; exact congrArg (· + i.val) (start_eq c _ (congrFun h4 _) _)
  · rw [ht]; exact congrArg (· + i.val) (start_eq c _ (congrFun h4 _) _)
omit h4

theorem ops1_v35 (i : Fin 2048): StableHlo.after (hostOps1_3 (F := Ideal)) V (Proc.devRef .tc main_v35) (ix1 i)
    = Scalar.select (V main_v31 (ix1 i)) (V main_v34 (ix1 i)) (V main_c_11 ix0) := by
  unfold hostOps1_3
  after_reads_at
  rfl
theorem ops1_v36 (i : Fin 2048) (j : Fin 1024) : StableHlo.after (hostOps1_4 (F := Ideal)) V (Proc.devRef .tc main_v36) (ix2 i j) = V main_arg0 (ix2 i j) := by
  unfold hostOps1_4
  after_reads_at
theorem ops1_v37 (t : Fin 8192) : StableHlo.after (hostOps1_4 (F := Ideal)) V (Proc.devRef .tc main_v37) (ix2 0 t) = V main_v7 (ix1 t) := by
  unfold hostOps1_4
  after_reads_at
theorem ops1_v38 (t : Fin 8192) : StableHlo.after (hostOps1_4 (F := Ideal)) V (Proc.devRef .tc main_v38) (ix2 0 t) = V main_v19 (ix1 t) := by
  unfold hostOps1_4
  after_reads_at
theorem ops1_v39 (t : Fin 2048) : StableHlo.after (hostOps1_4 (F := Ideal)) V (Proc.devRef .tc main_v39) (ix2 t 0) = V main_v35 (ix1 t) := by
  unfold hostOps1_4
  after_reads_at
theorem ops2_v41 (i : Fin 2048) (j : Fin 1024) : StableHlo.after (hostOps2 (F := Ideal)) V (Proc.devRef .tc main_v41) (ix2 i j) = V main_v40 (ix2 i j) := by
  unfold hostOps2
  after_reads_at
end Reads

/-! ## The ranks -/

/-- The number of earlier tokens with the same route. -/
def rankOf (q : ℕ → ℕ) (t : ℕ) : ℕ := Nat.count (fun s => q s = q t) t

theorem rankOf_lt (q : ℕ → ℕ) (t : ℕ) (h : t < 8192) : rankOf q t < 8192 := lt_of_le_of_lt (Nat.count_le _) h

/-- Two tokens with one route have different ranks. -/
theorem rankOf_inj (q : ℕ → ℕ) (t u : ℕ) (hq : q t = q u) (hn : rankOf q t = rankOf q u) : t = u := by
  have key : ∀ t u, q t = q u → t < u → rankOf q t < rankOf q u := fun t u hq h => by
    unfold rankOf
    rw [hq]
    exact Nat.count_strict_mono hq h
  rcases Nat.lt_trichotomy t u with h | h | h
  · have := key t u hq h; omega
  · exact h
  · have := key u t hq.symm h; omega

/-- A sum of words with at most one nonzero term. -/
theorem fold_single {n : ℕ} (f : Fin n → BitVec 32) (e : Fin n) (h : ∀ x, x ≠ e → f x = 0#32) : Finset.fold IntOp.addi (0#32) f Finset.univ = f e := by
  have hz : ∀ s : Finset (Fin n), e ∉ s → Finset.fold IntOp.addi (0#32) f s = 0#32 := by
    intro s
    induction s using Finset.induction_on with
    | empty => intro _; exact Finset.fold_empty
    | insert a s ha ih =>
      intro he
      rw [Finset.fold_insert ha, ih (fun h => he (Finset.mem_insert_of_mem h)), h a (fun h => he (h ▸ Finset.mem_insert_self _ _))]
      rfl
  rw [← Finset.insert_erase (Finset.mem_univ e), Finset.fold_insert (Finset.notMem_erase e _), hz _ (Finset.notMem_erase e _)]
  exact BitVec.add_zero _

/-- Running sums less one, taken at the token's own route, are the ranks. -/
theorem ranks_at (q : ℕ → ℕ) (a b : IVec S8192x32 32) (hq : ∀ t, t < 8192 → q t < 32)
    (hb : ∀ (t : Fin 8192) (e : Fin 32), b (ix2 t e) = BitVec.ofNat 32 (if q t.val = e.val then 1 else 0))
    (ha : a = Host.reduceWindow IntOp.addi ![8192, 1] ![1, 1] ![8191, 0] ![0, 0] b (broadcastInDim S_ ![] bcast_S_S_ (constantI S_ 32 0#32))
        reduceWindows_S8192x32_S8192x32_w8192s1p8191_0_w1s1p0_0 h_S_) (t : Fin 8192) :
    ranks a b (ix1 t) = BitVec.ofNat 32 (rankOf q t.val) := by
  have hs : ∀ e : Fin 32, a (ix2 t e) = BitVec.ofNat 32 (Nat.count (fun s => q s = e.val) (t.val + 1)) := by
    intro e
    rw [ha, ix2_eq_valueIdx]
    refine (Routing.cumsum_rows (R := 8192) (Rm1 := 8191) rfl b (fun s e => if q s = e then 1 else 0) (fun i c => by rw [← ix2_eq_valueIdx]; exact hb i c) _ rfl _ _ t e).trans ?_
    rw [Routing.sum_map_ite]
  unfold ranks
  pointwise
  have key : ∀ x : Fin 32, q t.val ≠ x.val → IntOp.muli (IntOp.subi (a (ix2 t x)) 1#32) (b (ix2 t x)) = 0#32 := by
    intro x hx
    rw [hb, if_neg hx]
    exact BitVec.mul_zero
  refine (fold_single _ ⟨q t.val, hq _ t.isLt⟩ fun x hx => key x fun h => hx (Fin.ext h.symm)).trans ?_
  rw [hb, hs, if_pos rfl]
  show (BitVec.ofNat 32 (Nat.count (fun s => q s = q t.val) (t.val + 1)) - 1#32) * BitVec.ofNat 32 1 = _
  rw [Nat.count_succ, if_pos rfl, BitVec.ofNat_add, BitVec.add_sub_cancel, BitVec.mul_one]
  rfl

end Cert.KernelIdeal.Net

end
-- ==== Proof.Look.lean ====
/-
  Reading and writing a rectangle of one of the kernel's buffers, seen at an index.
-/
module

public import proofs.«01_k».proof.Proof.Sched
public import Idealize.ShloMosaic.Lib.Pointwise
public import Idealize.ShloMosaic.Lib.Pointwise.IndexBridge
public import Idealize.ShloMosaic.Lib.ValueLayout

@[expose] public section

noncomputable section

namespace Cert.KernelIdeal.Net

open Cert.KernelIdeal Cert.KernelIdeal.Gen
open Idealize.ShloMosaic Idealize.ShloMosaic.TcCoe

variable {F : FTy → Type} [FloatOps F]

omit [FloatOps F]

/-- Reading a rectangle of the activations. -/
theorem x_read (off size : Fin 2 → ℕ) (inb) (f : Vec F S8192x1024 .bf16) (x : (⟨2, size⟩ : Shape).Idx) (i : S8192x1024.Idx)
    (h0 : (i 0).val = off 0 + (x 0).val) (h1 : (i 1).val = off 1 + (x 1).val) :
    (xM.access (Rect.unit (s := S8192x1024) off size inb)).read (Elt F) f x = f i := by
  show f ((Rect.unit (s := S8192x1024) off size inb).emb x) = f i
  congr 1
  refine (funext (Fin.forall_fin_two.mpr ⟨Fin.ext ?_, Fin.ext ?_⟩) : i = _).symm
  · rw [h0, Rect.emb_apply]; simp
  · rw [h1, Rect.emb_apply]; simp
/-- Reading a rectangle of the expert rows. -/
theorem y_read (off size : Fin 2 → ℕ) (inb) (f : Vec F S6656x1024 .bf16) (x : (⟨2, size⟩ : Shape).Idx) (i : S6656x1024.Idx)
    (h0 : (i 0).val = off 0 + (x 0).val) (h1 : (i 1).val = off 1 + (x 1).val) :
    (yM.access (Rect.unit (s := S6656x1024) off size inb)).read (Elt F) f x = f i := by
  show f ((Rect.unit (s := S6656x1024) off size inb).emb x) = f i
  congr 1
  refine (funext (Fin.forall_fin_two.mpr ⟨Fin.ext ?_, Fin.ext ?_⟩) : i = _).symm
  · rw [h0, Rect.emb_apply]; simp
  · rw [h1, Rect.emb_apply]; simp
/-- Reading a stretch of the routes. -/
theorem rr_read (off size : Fin 2 → ℕ) (inb) (f : Vec F S1x8192 .i32) (x : (⟨2, size⟩ : Shape).Idx) (i : S1x8192.Idx)
    (h0 : (i 0).val = off 0 + (x 0).val) (h1 : (i 1).val = off 1 + (x 1).val) :
    (rrM.access (Rect.unit (s := S1x8192) off size inb)).read (Elt F) f x = f i := by
  show f ((Rect.unit (s := S1x8192) off size inb).emb x) = f i
  congr 1
  refine (funext (Fin.forall_fin_two.mpr ⟨Fin.ext ?_, Fin.ext ?_⟩) : i = _).symm
  · rw [h0, Rect.emb_apply]; simp
  · rw [h1, Rect.emb_apply]; simp
/-- Reading a stretch of the ranks. -/
theorem rk_read (off size : Fin 2 → ℕ) (inb) (f : Vec F S1x8192 .i32) (x : (⟨2, size⟩ : Shape).Idx) (i : S1x8192.Idx)
    (h0 : (i 0).val = off 0 + (x 0).val) (h1 : (i 1).val = off 1 + (x 1).val) :
    (rkM.access (Rect.unit (s := S1x8192) off size inb)).read (Elt F) f x = f i :=
  rr_read off size inb f x i h0 h1

/-- What is written in a rectangle of the expert rows is read there. -/
theorem y_hit (off size : Fin 2 → ℕ) (inb) (f : Vec F S6656x1024 .bf16) (v : (⟨2, size⟩ : Shape).Idx → Elt F .bf16) (x : (⟨2, size⟩ : Shape).Idx) (i : S6656x1024.Idx)
    (h0 : (i 0).val = off 0 + (x 0).val) (h1 : (i 1).val = off 1 + (x 1).val) :
    (yM.access (Rect.unit (s := S6656x1024) off size inb)).write (Elt F) f v Finset.univ i = v x := by
  have e : i = (yM.access (Rect.unit (s := S6656x1024) off size inb)).emb x := by
    refine funext (Fin.forall_fin_two.mpr ⟨Fin.ext ?_, Fin.ext ?_⟩)
    · rw [h0]; show _ = ((Rect.unit (s := S6656x1024) off size inb).emb x 0).val; rw [Rect.emb_apply]; simp
    · rw [h1]; show _ = ((Rect.unit (s := S6656x1024) off size inb).emb x 1).val; rw [Rect.emb_apply]; simp
  rw [e, View.write_emb_of_mem _ _ (Finset.mem_univ _)]; rfl
/-- Rows outside the rectangle are as they were. -/
theorem y_miss (off size : Fin 2 → ℕ) (inb) (f : Vec F S6656x1024 .bf16) (v : (⟨2, size⟩ : Shape).Idx → Elt F .bf16) (i : S6656x1024.Idx)
    (h : (i 0).val < off 0 ∨ off 0 + size 0 ≤ (i 0).val) :
    (yM.access (Rect.unit (s := S6656x1024) off size inb)).write (Elt F) f v Finset.univ i = f i := by
  refine write_out _ _ _ _ fun hi => ?_
  have := ((mem_rY off size inb i).mp hi).1
  omega
/-- The same of the activations. -/
theorem x_hit (off size : Fin 2 → ℕ) (inb) (f : Vec F S8192x1024 .bf16) (v : (⟨2, size⟩ : Shape).Idx → Elt F .bf16) (x : (⟨2, size⟩ : Shape).Idx) (i : S8192x1024.Idx)
    (h0 : (i 0).val = off 0 + (x 0).val) (h1 : (i 1).val = off 1 + (x 1).val) :
    (xM.access (Rect.unit (s := S8192x1024) off size inb)).write (Elt F) f v Finset.univ i = v x := by
  have e : i = (xM.access (Rect.unit (s := S8192x1024) off size inb)).emb x := by
    refine funext (Fin.forall_fin_two.mpr ⟨Fin.ext ?_, Fin.ext ?_⟩)
    · rw [h0]; show _ = ((Rect.unit (s := S8192x1024) off size inb).emb x 0).val; rw [Rect.emb_apply]; simp
    · rw [h1]; show _ = ((Rect.unit (s := S8192x1024) off size inb).emb x 1).val; rw [Rect.emb_apply]; simp
  rw [e, View.write_emb_of_mem _ _ (Finset.mem_univ _)]; rfl
/-- And of the gathered routes. -/
theorem r_hit (off size : Fin 2 → ℕ) (inb) (f : Vec F S64x128 .i32) (v : (⟨2, size⟩ : Shape).Idx → Elt F .i32) (x : (⟨2, size⟩ : Shape).Idx) (i : S64x128.Idx)
    (h0 : (i 0).val = off 0 + (x 0).val) (h1 : (i 1).val = off 1 + (x 1).val) :
    (rM.access (Rect.unit (s := S64x128) off size inb)).write (Elt F) f v Finset.univ i = v x := by
  have e : i = (rM.access (Rect.unit (s := S64x128) off size inb)).emb x := by
    refine funext (Fin.forall_fin_two.mpr ⟨Fin.ext ?_, Fin.ext ?_⟩)
    · rw [h0]; show _ = ((Rect.unit (s := S64x128) off size inb).emb x 0).val; rw [Rect.emb_apply]; simp
    · rw [h1]; show _ = ((Rect.unit (s := S64x128) off size inb).emb x 1).val; rw [Rect.emb_apply]; simp
  rw [e, View.write_emb_of_mem _ _ (Finset.mem_univ _)]; rfl

/-- Expert `k`'s weights among the first four. -/
theorem e_read (k : Fin 4) (f : Vec F S8x1024x1024 .f32) (d h : Fin 1024) :
    (vE k).view.read (Elt F) f (ix2 d h) = f (ix3 ⟨k.val, by omega⟩ d h) := by
  have e : ∀ x : S1x1024x1024.Idx, (Rect.unit (s := S8x1024x1024) (k1_off17 k) S1x1024x1024.size (k1_off17_inb k)).emb x = ix3 ⟨k.val, by omega⟩ (x 1) (x 2) := by
    intro x
    have h0 : (x 0).val < 1 := (x 0).isLt
    funext a
    apply Fin.ext
    rw [Rect.emb_apply]
    simp only [Rect.unit]
    rw [k1_off17_eq k]
    match a with
    | ⟨0, _⟩ => show k.val + 1 * (x 0).val = k.val; omega
    | ⟨1, _⟩ => show 0 + 1 * (x 1).val = (x 1).val; omega
    | ⟨2, _⟩ => show 0 + 1 * (x 2).val = (x 2).val; omega
  show f ((Rect.unit (s := S8x1024x1024) (k1_off17 k) S1x1024x1024.size (k1_off17_inb k)).emb (Shape.reshapeEquiv _ (ix2 d h))) = _
  rw [e, ix2_eq_valueIdx, ValueIdx.reshapeEquiv_ix2_1ab]
  rfl
/-- Expert `k`'s weights among the last four. -/
theorem e_read' (k : Fin 4) (f : Vec F S8x1024x1024 .f32) (d h : Fin 1024) :
    (vE' k).view.read (Elt F) f (ix2 d h) = f (ix3 ⟨k.val + 4, by omega⟩ d h) := by
  have e : ∀ x : S1x1024x1024.Idx, (Rect.unit (s := S8x1024x1024) (k1_off20 k) S1x1024x1024.size (k1_off20_inb k)).emb x = ix3 ⟨k.val + 4, by omega⟩ (x 1) (x 2) := by
    intro x
    have h0 : (x 0).val < 1 := (x 0).isLt
    funext a
    apply Fin.ext
    rw [Rect.emb_apply]
    simp only [Rect.unit]
    rw [k1_off20_eq k]
    match a with
    | ⟨0, _⟩ => show k.val + 4 + 1 * (x 0).val = k.val + 4; omega
    | ⟨1, _⟩ => show 0 + 1 * (x 1).val = (x 1).val; omega
    | ⟨2, _⟩ => show 0 + 1 * (x 2).val = (x 2).val; omega
  show f ((Rect.unit (s := S8x1024x1024) (k1_off20 k) S1x1024x1024.size (k1_off20_inb k)).emb (Shape.reshapeEquiv _ (ix2 d h))) = _
  rw [e, ix2_eq_valueIdx, ValueIdx.reshapeEquiv_ix2_1ab]
  rfl
end Cert.KernelIdeal.Net

end
-- ==== Proof.Pay.lean ====
/-
  The kernel's vector expressions over the reals, seen at an index: each adds to an entry the entries a mask selects,
  or is a row of a matrix product.
-/
module

public import proofs.«01_k».proof.Proof.Net
public import Idealize.ShloMosaic.Lib.Pointwise
public import Idealize.ShloMosaic.Lib.IdealHost
public import Idealize.ShloMosaic.Lib.WordCmp

@[expose] public section

noncomputable section

namespace Cert.KernelIdeal.Net

open Cert.KernelIdeal Cert.KernelIdeal.Gen
open Idealize.ShloMosaic Idealize.ShloMosaic.TcCoe

/-- A bit as a real number times `y` is `y` or nothing. -/
theorem bit_mul (b : BitVec 1) (y : EReal) :
    (FloatOps.sitofp (F := Ideal) FTy.f32 (BitVec.setWidth 32 b) : EReal) * y = if b = 1#1 then y else 0 := by
  have h : ∀ b : BitVec 1, (BitVec.setWidth 32 b).toInt = if b = 1#1 then 1 else 0 := by decide
  show (((BitVec.setWidth 32 b).toInt : ℝ) : EReal) * y = _
  rw [h]
  split <;> simp

theorem andi_one (a b : BitVec 1) : IntOp.andi a b = 1#1 ↔ a = 1#1 ∧ b = 1#1 := by revert a b; decide
theorem ofBool_one (b : Bool) : BitVec.ofBool b = 1#1 ↔ b = true := by revert b; decide

/-- A token with route `r` and rank `n` belongs in place `s` of the tile of expert `k` of the device numbered `w`. -/
def lands (w : BitVec 32) (k s : ℕ) (r n : BitVec 32) : Prop :=
  BitVec.ofNat 16 s = n.setWidth 16 ∧ r = w * 8#32 + BitVec.ofNat 32 k ∧ n.toInt < 204

instance (w : BitVec 32) (k s : ℕ) (r n : BitVec 32) : Decidable (lands w k s r n) := by unfold lands; infer_instance

theorem iv_eq (k : ℕ) : Scf.iv 0#32 1#32 k = BitVec.ofNat 32 k := by
  unfold Scf.iv
  simp

/-- The dispatch mask is `lands`. -/
theorem mask_lands (w r n : BitVec 32) (k s : ℕ) :
    IntOp.andi (IntOp.cmpi CmpIPredicate.eq (BitVec.ofNat 16 s) (BitVec.setWidth 16 n))
      (IntOp.andi (IntOp.cmpi CmpIPredicate.eq r (Scalar.addi (Scalar.muli w 8#32) (Scf.iv 0#32 1#32 k)))
        (IntOp.cmpi CmpIPredicate.slt n 204#32)) = 1#1 ↔ lands w k s r n := by
  rw [andi_one, andi_one, WordCmp.cmpi_eq_eq, WordCmp.cmpi_eq_eq, WordCmp.cmpi_slt_eq, ofBool_one, ofBool_one, ofBool_one, iv_eq,
    decide_eq_true_iff, decide_eq_true_iff, decide_eq_true_iff]
  exact Iff.rfl

/-- What a dispatch step makes of a tile's entry: the entry, and the matching tokens' entries. -/
abbrev dispatch (w : BitVec 32) (r n : Vec Ideal S1x2048 .i32) (k : ℕ) (y : Vec Ideal S208x1024 .bf16) (x : Vec Ideal S2048x1024 .bf16) (s : Fin 208) (j : Fin 1024) : EReal :=
  (y (ix2 s j) : EReal) + ∑ t : Fin 2048, if lands w k s.val (r (ix2 0 t)) (n (ix2 0 t)) then (x (ix2 t j) : EReal) else 0

theorem pay4_at (w : BitVec 32) (r n : Vec Ideal S1x2048 .i32) (k : Fin k1_t1_loop.trips) (y : Vec Ideal S208x1024 .bf16) (x : Vec Ideal S2048x1024 .bf16) (s : Fin 208) (j : Fin 1024) :
    k1_pay4 w r n k y x (ix2 s j) = dispatch w r n k.val y x s j := by
  unfold k1_pay4
  pointwise
  simp only [bit_mul, mask_lands]
theorem pay5_at (w : BitVec 32) (r n : Vec Ideal S1x2048 .i32) (k : Fin k1_t2_loop.trips) (y : Vec Ideal S208x1024 .bf16) (x : Vec Ideal S2048x1024 .bf16) (s : Fin 208) (j : Fin 1024) :
    k1_pay5 w r n k y x (ix2 s j) = dispatch w r n k.val y x s j := by
  unfold k1_pay5
  pointwise
  simp only [bit_mul, mask_lands]
theorem pay6_at (w : BitVec 32) (r n : Vec Ideal S1x2048 .i32) (k : Fin k1_t3_loop.trips) (y : Vec Ideal S208x1024 .bf16) (x : Vec Ideal S2048x1024 .bf16) (s : Fin 208) (j : Fin 1024) :
    k1_pay6 w r n k y x (ix2 s j) = dispatch w r n k.val y x s j := by
  unfold k1_pay6
  pointwise
  simp only [bit_mul, mask_lands]
theorem pay7_at (w : BitVec 32) (r n : Vec Ideal S1x2048 .i32) (k : Fin k1_t4_loop.trips) (y : Vec Ideal S208x1024 .bf16) (x : Vec Ideal S2048x1024 .bf16) (s : Fin 208) (j : Fin 1024) :
    k1_pay7 w r n k y x (ix2 s j) = dispatch w r n k.val y x s j := by
  unfold k1_pay7
  pointwise
  simp only [bit_mul, mask_lands]

/-- The product with an expert's weights. -/
theorem pay8_at (e : Vec Ideal S1024x1024 .f32) (y : Vec Ideal S208x1024 .bf16) (s : Fin 208) (h : Fin 1024) :
    k1_pay8 e y (ix2 s h) = ∑ d : Fin 1024, (y (ix2 s d) : EReal) * e (ix2 d h) := by
  unfold k1_pay8
  pointwise
theorem pay9_at (e : Vec Ideal S1024x1024 .f32) (y : Vec Ideal S208x1024 .bf16) (s : Fin 208) (h : Fin 1024) :
    k1_pay9 e y (ix2 s h) = ∑ d : Fin 1024, (y (ix2 s d) : EReal) * e (ix2 d h) := by
  unfold k1_pay9
  pointwise

/-- Place `p` of the results of the device numbered `w` is the slot `g`. -/
def isSlot (w : BitVec 32) (p : ℕ) (g : BitVec 32) : Prop := g.setWidth 16 = BitVec.ofNat 16 p + (w * 1664#32).setWidth 16

instance (w : BitVec 32) (p : ℕ) (g : BitVec 32) : Decidable (isSlot w p g) := by unfold isSlot; infer_instance

theorem mask_isSlot (w g : BitVec 32) (p : ℕ) :
    IntOp.cmpi CmpIPredicate.eq (BitVec.setWidth 16 g) (IntOp.addi (BitVec.ofNat 16 p) (BitVec.setWidth 16 (Scalar.muli w 1664#32))) = 1#1
      ↔ isSlot w p g := by
  rw [WordCmp.cmpi_eq_eq, ofBool_one, decide_eq_true_iff]
  exact Iff.rfl

/-- What a combining step makes of an entry of the output: the entry, and the entry of the token's slot. -/
abbrev combine (w : BitVec 32) (g : Vec Ideal S2048x1 .i32) (o : Vec Ideal S2048x1024 .bf16) (y : Vec Ideal S1664x1024 .bf16) (s : Fin 2048) (h : Fin 1024) : EReal :=
  (o (ix2 s h) : EReal) + ∑ p : Fin 1664, if isSlot w p.val (g (ix2 s 0)) then (y (ix2 p h) : EReal) else 0

theorem pay12_at (w : BitVec 32) (g : Vec Ideal S2048x1 .i32) (o : Vec Ideal S2048x1024 .bf16) (y : Vec Ideal S1664x1024 .bf16) (s : Fin 2048) (h : Fin 1024) :
    k1_pay12 w g o y (ix2 s h) = combine w g o y s h := by
  unfold k1_pay12 k1_pay10
  pointwise
  simp only [bit_mul, mask_isSlot]
theorem pay13_at (w : BitVec 32) (g : Vec Ideal S2048x1 .i32) (o : Vec Ideal S2048x1024 .bf16) (y : Vec Ideal S1664x1024 .bf16) (s : Fin 2048) (h : Fin 1024) :
    k1_pay13 w (k1_pay10 (F := Ideal) g) iota16 o y (ix2 s h) = combine w g o y s h := by
  unfold k1_pay13 k1_pay10 iota16
  pointwise
  simp only [bit_mul, mask_isSlot]
theorem pay14_at (w : BitVec 32) (g : Vec Ideal S2048x1 .i32) (o : Vec Ideal S2048x1024 .bf16) (y : Vec Ideal S1664x1024 .bf16) (s : Fin 2048) (h : Fin 1024) :
    k1_pay14 w (k1_pay10 (F := Ideal) g) iota16 o y (ix2 s h) = combine w g o y s h := by
  unfold k1_pay14 k1_pay10 iota16
  pointwise
  simp only [bit_mul, mask_isSlot]
theorem pay15_at (w : BitVec 32) (g : Vec Ideal S2048x1 .i32) (o : Vec Ideal S2048x1024 .bf16) (y : Vec Ideal S1664x1024 .bf16) (s : Fin 2048) (h : Fin 1024) :
    k1_pay1 (k1_pay15 (F := Ideal) w (k1_pay10 (F := Ideal) g) iota16) o y (ix2 s h) = combine w g o y s h := by
  unfold k1_pay15 k1_pay1 k1_pay10 iota16
  pointwise
  simp only [bit_mul, mask_isSlot]

/-! The constants and the copies. -/
theorem pay2_at (x : Vec Ideal S2048x1024 .bf16) : k1_pay2 (F := Ideal) x = x := by
  unfold k1_pay2
  funext i
  pointwise
theorem pay3_at (i : S1664x1024.Idx) : (k1_pay3 (F := Ideal) i : EReal) = 0 := by
  unfold k1_pay3
  pointwise
theorem pay11_at (i : S2048x1024.Idx) : (k1_pay11 (F := Ideal) i : EReal) = 0 := by
  unfold k1_pay11
  pointwise

/-! The masks on numbers. -/

/-- With everything in range, a token lands in place `s` of the device's expert `k` when its rank is `s` and its route
    is that expert. -/
theorem lands_iff {c k s q n : ℕ} (hc : c < 4) (hk : k < 8) (hs : s < 208) (hq : q < 32) (hn : n < 8192) :
    lands (BitVec.ofNat 32 c) k s (BitVec.ofNat 32 q) (BitVec.ofNat 32 n) ↔ n = s ∧ q = 8 * c + k ∧ n < 204 := by
  unfold lands
  have e1 : BitVec.ofNat 16 s = (BitVec.ofNat 32 n).setWidth 16 ↔ n = s := by
    rw [← BitVec.toNat_inj]; simp; omega
  have e2 : BitVec.ofNat 32 q = BitVec.ofNat 32 c * 8#32 + BitVec.ofNat 32 k ↔ q = 8 * c + k := by
    rw [← BitVec.toNat_inj]; simp; omega
  have e3 : (BitVec.ofNat 32 n).toInt < 204 ↔ n < 204 := by
    rw [BitVec.toInt_eq_toNat_of_lt (by simp; omega)]; simp; omega
  rw [e1, e2, e3]

theorem isSlot_iff {c p g : ℕ} (hc : c < 4) (hp : p < 1664) (hg : g ≤ 6656) :
    isSlot (BitVec.ofNat 32 c) p (BitVec.ofNat 32 g) ↔ g = 1664 * c + p := by
  unfold isSlot
  rw [← BitVec.toNat_inj]; simp; omega

theorem w0_eq (c : Dev nD) : w0 c = BitVec.ofNat 32 c.val := by revert c; decide
theorem w1_eq (c : Dev nD) : w1 c = BitVec.ofNat 32 (lf c).val := by revert c; decide
theorem w2_eq (c : Dev nD) : w2 c = BitVec.ofNat 32 (rt c).val := by revert c; decide
theorem w3_eq (c : Dev nD) : w3 c = BitVec.ofNat 32 (op c).val := by revert c; decide

end Cert.KernelIdeal.Net

end
-- ==== Proof.Rows.lean ====
/-
  What the exchange computes over the reals, row by row: the dispatch puts a token's activations in its slot, the products
  turn the slot into the expert's answer, and the combination gives the answer back to the token.
-/
module

public import proofs.«01_k».proof.Proof.Look
public import proofs.«01_k».proof.Proof.Pay

@[expose] public section

noncomputable section

namespace Cert.KernelIdeal.Net

open Cert.KernelIdeal Cert.KernelIdeal.Gen
open Idealize.ShloMosaic Idealize.ShloMosaic.TcCoe

/-- A loop whose trip `κ` alone changes the part `P`, by `g`. -/
theorem steps_hit {α β : Type} {N : ℕ} (st : Fin N → α → α) (P : α → β) (g : β → β) (κ : ℕ)
    (h : ∀ k f, P (st k f) = if k.val = κ then g (P f) else P f) (a : α) :
    ∀ n, n ≤ N → P (steps st a n) = if κ < n then g (P a) else P a := by
  intro n
  induction n with
  | zero => intro _; rw [if_neg (by omega)]; rfl
  | succ n ih =>
    intro hn
    rw [steps_succ st a ⟨n, hn⟩, h, ih (by omega)]
    by_cases h1 : n = κ
    · rw [if_pos h1, if_neg (by omega), if_pos (by omega)]
    · rw [if_neg h1]
      by_cases h2 : κ < n
      · rw [if_pos h2, if_pos (by omega)]
      · rw [if_neg h2, if_neg (by omega)]

/-- The slot of a token: place `n` of its expert's tile, or past the end when the expert is full. -/
def slot (q n : ℕ → ℕ) (t : ℕ) : ℕ := if n t < 204 then q t * 208 + n t else 6656

/-- What call 1 is given: the routes `q`, the ranks `n` of the tokens among those of their route, and the slots. -/
structure Given (I : Inp Ideal) (q n : ℕ → ℕ) : Prop where
  rr : ∀ (c : Dev nD) (t : Fin 8192), I.rr c (ix2 0 t) = BitVec.ofNat 32 (q t.val)
  rk : ∀ (c : Dev nD) (t : Fin 8192), I.rk c (ix2 0 t) = BitVec.ofNat 32 (n t.val)
  gm : ∀ (c : Dev nD) (i : Fin 2048), I.gm c (ix2 i 0) = BitVec.ofNat 32 (slot q n (2048 * c.val + i.val))
  qlt : ∀ t, t < 8192 → q t < 32
  nlt : ∀ t, t < 8192 → n t < 8192
  inj : ∀ t u, t < 8192 → u < 8192 → q t = q u → n t = n u → t = u

variable {I : Inp Ideal} {q n : ℕ → ℕ} (G : Given I q n)

theorem XG_of (I : Inp Ideal) (e : Dev nD) (i : S8192x1024.Idx) (h : dX i = e) :
    XG I i = (xM.access (Rect.unit (s := S8192x1024) (k1_off1 e) S2048x1024.size (k1_off1_inb e))).write (Elt Ideal) zX (k1_pay2 (F := Ideal) (I.xx e)) Finset.univ i := by
  subst h; unfold XG; with_reducible rfl

/-- Row `t` of the gathered activations is the row its device brought. -/
theorem XG_at (I : Inp Ideal) (d : Dev nD) (i : Fin 2048) (t : Fin 8192) (j : Fin 1024) (h : t.val = 2048 * d.val + i.val) :
    XG I (ix2 t j) = I.xx d (ix2 i j) := by
  have hi : i.val < 2048 := i.isLt
  refine (XG_of I d _ (Fin.ext (by show t.val / 2048 = d.val; omega))).trans ?_
  refine (x_hit (k1_off1 d) S2048x1024.size (k1_off1_inb d) zX _ (ix2 i j) (ix2 t j) ?_ ?_).trans ?_
  · rw [k1_off1_eq]; exact h
  · rw [k1_off1_eq]; exact (Nat.zero_add _).symm
  · rw [pay2_at]

/-- Row `s` of the tile of expert `k` of device `c`. -/
def rowOf (c : Dev nD) (k : Fin 8) (s : Fin 208) : Fin 6656 :=
  ⟨1664 * c.val + 208 * k.val + s.val, by have : c.val < 4 := c.isLt; omega⟩

section Dispatch
variable (c : Dev nD) (κ : Fin 8) (s : Fin 208) (T : Fin 8192) (hq : q T.val = 8 * c.val + κ.val) (hn : n T.val = s.val) (hs : s.val < 204)
include G hq hn hs

/-- One dispatch step, at the slot of token `T`. -/
theorem disp_step (b : Dev nD) (k : ℕ) (hk : k < 8) (oT : Fin 2 → ℕ) (iT) (eT : oT = ![1664 * c.val + 208 * k, 0])
    (oR : Fin 2 → ℕ) (iR) (eR : oR = ![0, 2048 * b.val]) (oX : Fin 2 → ℕ) (iX) (eX : oX = ![2048 * b.val, 0])
    (f : Vec Ideal S6656x1024 .bf16) (pay : Vec Ideal S208x1024 .bf16)
    (hpay : ∀ s j, pay (ix2 s j) = dispatch (w0 c)
      ((rrM.access (Rect.unit (s := S1x8192) oR S1x2048.size iR)).read (Elt Ideal) (I.rr c))
      ((rkM.access (Rect.unit (s := S1x8192) oR S1x2048.size iR)).read (Elt Ideal) (I.rk c)) k
      ((yM.access (Rect.unit (s := S6656x1024) oT S208x1024.size iT)).read (Elt Ideal) f)
      ((xM.access (Rect.unit (s := S8192x1024) oX S2048x1024.size iX)).read (Elt Ideal) (XG I)) s j) (j : Fin 1024) :
    ((yM.access (Rect.unit (s := S6656x1024) oT S208x1024.size iT)).write (Elt Ideal) f pay Finset.univ (ix2 (rowOf c κ s) j) : EReal)
      = if k = κ.val then (f (ix2 (rowOf c κ s) j) : EReal) + (if T.val / 2048 = b.val then (XG I (ix2 T j) : EReal) else 0)
        else f (ix2 (rowOf c κ s) j) := by
  have hc : c.val < 4 := c.isLt
  have hb : b.val < 4 := b.isLt
  have hκ : κ.val < 8 := κ.isLt
  have hs' : s.val < 208 := s.isLt
  have hT : T.val < 8192 := T.isLt
  subst eT eR eX
  by_cases hkκ : k = κ.val
  · rw [if_pos hkκ]
    refine (y_hit _ _ _ _ _ (ix2 s j) _ ?_ ?_).trans ?_
    · show 1664 * c.val + 208 * κ.val + s.val = (1664 * c.val + 208 * k) + s.val; omega
    · exact (Nat.zero_add _).symm
    rw [hpay]
    unfold dispatch
    refine congrArg₂ (fun a b : EReal => a + b) ?_ ?_
    · refine y_read _ _ _ _ _ _ ?_ ?_
      · show 1664 * c.val + 208 * κ.val + s.val = (1664 * c.val + 208 * k) + s.val; omega
      · exact (Nat.zero_add _).symm
    have tok : ∀ t : Fin 2048, 2048 * b.val + t.val < 8192 := fun t => by have := t.isLt; omega
    have e : ∀ t : Fin 2048, (if lands (w0 c) k s.val
          ((rrM.access (Rect.unit (s := S1x8192) ![0, 2048 * b.val] S1x2048.size iR)).read (Elt Ideal) (I.rr c) (ix2 0 t))
          ((rkM.access (Rect.unit (s := S1x8192) ![0, 2048 * b.val] S1x2048.size iR)).read (Elt Ideal) (I.rk c) (ix2 0 t))
        then ((xM.access (Rect.unit (s := S8192x1024) ![2048 * b.val, 0] S2048x1024.size iX)).read (Elt Ideal) (XG I) (ix2 t j) : EReal) else 0)
        = if 2048 * b.val + t.val = T.val then (XG I (ix2 T j) : EReal) else 0 := by
      intro t
      rw [rr_read _ _ _ _ _ (ix2 0 ⟨2048 * b.val + t.val, tok t⟩) rfl rfl, rk_read _ _ _ _ _ (ix2 0 ⟨2048 * b.val + t.val, tok t⟩) rfl rfl,
        G.rr, G.rk, w0_eq]
      refine if_ctx_congr ?_ (fun h => ?_) (fun _ => rfl)
      · rw [lands_iff hc hk hs' (G.qlt _ (tok t)) (G.nlt _ (tok t))]
        constructor
        · rintro ⟨h1, h2, h3⟩
          exact G.inj _ _ (tok t) hT (by show q _ = q _; omega) (by show n _ = n _; omega)
        · intro h
          show n (2048 * b.val + t.val) = s.val ∧ q (2048 * b.val + t.val) = 8 * c.val + k ∧ n (2048 * b.val + t.val) < 204
          rw [h]; omega
      · refine x_read _ _ _ _ _ _ ?_ ?_
        · exact h.symm
        · exact (Nat.zero_add _).symm
    rw [Finset.sum_congr rfl fun t _ => e t]
    by_cases hB : T.val / 2048 = b.val
    · rw [if_pos hB, Finset.sum_eq_single (⟨T.val % 2048, Nat.mod_lt _ (by decide)⟩ : Fin 2048)]
      · rw [if_pos (by show 2048 * b.val + T.val % 2048 = T.val; omega)]
      · intro t _ ht
        rw [if_neg]
        intro h
        exact ht (Fin.ext (by show t.val = T.val % 2048; have := t.isLt; omega))
      · intro h; exact absurd (Finset.mem_univ _) h
    · rw [if_neg hB]
      refine Finset.sum_eq_zero fun t _ => if_neg ?_
      intro h
      have := t.isLt
      omega
  · rw [if_neg hkκ]
    refine y_miss _ _ _ _ _ _ ?_
    show 1664 * c.val + 208 * κ.val + s.val < 1664 * c.val + 208 * k ∨ (1664 * c.val + 208 * k) + 208 ≤ 1664 * c.val + 208 * κ.val + s.val
    omega

/-- The dispatched slot of token `T` holds its activations. -/
theorem Y4_at (j : Fin 1024) : Y4 I c (ix2 (rowOf c κ s) j) = XG I (ix2 T j) := by
  have hκ : κ.val < 8 := κ.isLt
  let P : Vec Ideal S6656x1024 .bf16 → EReal := fun f => f (ix2 (rowOf c κ s) j)
  let g : Dev nD → EReal → EReal := fun b z => z + (if T.val / 2048 = b.val then (XG I (ix2 T j) : EReal) else 0)
  have s1 := steps_hit (st1 I c) P (g c) κ.val (fun k f => disp_step G c κ s T hq hn hs c k.val k.isLt _ _ (k1_off5_eq c k) _ _ (k1_off4_eq c) _ _ (k1_off6_eq c) f _ (fun s j => pay4_at _ _ _ _ _ _ s j) j) (Y0 c) 8 (le_refl 8)
  have s2 := steps_hit (st2 I c) P (g (lf c)) κ.val (fun k f => disp_step G c κ s T hq hn hs (lf c) k.val k.isLt _ _ (k1_off10_eq c k) _ _ (k1_off9_eq c) _ _ (k1_off11_eq c) f _ (fun s j => pay5_at _ _ _ _ _ _ s j) j) (Y1 I c) 8 (le_refl 8)
  have s3 := steps_hit (st3 I c) P (g (rt c)) κ.val (fun k f => disp_step G c κ s T hq hn hs (rt c) k.val k.isLt _ _ (k1_off13_eq c k) _ _ (k1_off12_eq c 0) _ _ (k1_off14_eq c) f _ (fun s j => pay6_at _ _ _ _ _ _ s j) j) (Y2 I c) 8 (le_refl 8)
  have s4 := steps_hit (st4 I c) P (g (op c)) κ.val (fun k f => disp_step G c κ s T hq hn hs (op c) k.val k.isLt _ _ (k1_off15_eq c k) _ _ (k1_off12_eq c 1) _ _ (k1_off16_eq c) f _ (fun s j => pay7_at _ _ _ _ _ _ s j) j) (Y3 I c) 8 (le_refl 8)
  rw [if_pos hκ] at s1 s2 s3 s4
  have z : P (Y0 c) = 0 := by
    refine (y_hit _ _ _ _ _ (ix2 (⟨208 * κ.val + s.val, by omega⟩ : Fin 1664) j) _ ?_ ?_).trans (pay3_at _)
    · rw [k1_off3_eq]; show 1664 * c.val + 208 * κ.val + s.val = 1664 * c.val + (208 * κ.val + s.val); omega
    · rw [k1_off3_eq]; exact (Nat.zero_add _).symm
  have : P (Y4 I c) = g (op c) (g (rt c) (g (lf c) (g c 0))) := by
    rw [← z, ← s1]; show P (steps (st4 I c) (Y3 I c) 8) = _; rw [s4]
    show g _ (P (steps (st3 I c) (Y2 I c) 8)) = _; rw [s3]
    show g _ (g _ (P (steps (st2 I c) (Y1 I c) 8))) = _; rw [s2]; rfl
  refine this.trans ?_
  have hb : T.val / 2048 < 4 := by have := T.isLt; omega
  have hc : c.val < 4 := c.isLt
  have key : ∀ (a b : ℕ) (v : EReal), a < 4 → b < 4 → (((0 + (if b = a then v else 0)) + (if b = (a + 3) % 4 then v else 0)) + (if b = (a + 1) % 4 then v else 0)) + (if b = (a + 2) % 4 then v else 0) = v := by
    intro a b v ha hb
    interval_cases a <;> interval_cases b <;> simp
  exact key c.val (T.val / 2048) _ hc hb

end Dispatch

/-! ## The products -/

section Products
variable (c : Dev nD) (κ : Fin 8) (s : Fin 208)

/-- A product step replaces the rows of its own tile. -/
theorem prod_step (k o : ℕ) (oT : Fin 2 → ℕ) (iT) (eT : oT = ![1664 * c.val + 208 * k + o, 0]) (e : ℕ) (he : o = 208 * e) (w : Vec Ideal S1024x1024 .f32)
    (f : Vec Ideal S6656x1024 .bf16) (pay : Vec Ideal S208x1024 .bf16)
    (hpay : ∀ s h, pay (ix2 s h) = ∑ d : Fin 1024, ((yM.access (Rect.unit (s := S6656x1024) oT S208x1024.size iT)).read (Elt Ideal) f (ix2 s d) : EReal) * w (ix2 d h)) (h : Fin 1024) :
    ((yM.access (Rect.unit (s := S6656x1024) oT S208x1024.size iT)).write (Elt Ideal) f pay Finset.univ (ix2 (rowOf c κ s) h) : EReal)
      = if k + e = κ.val then ∑ d : Fin 1024, (f (ix2 (rowOf c κ s) d) : EReal) * w (ix2 d h)
        else f (ix2 (rowOf c κ s) h) := by
  have hs' : s.val < 208 := s.isLt
  subst eT
  by_cases hk : k + e = κ.val
  · rw [if_pos hk]
    refine (y_hit _ _ _ _ _ (ix2 s h) _ ?_ ?_).trans ?_
    · show 1664 * c.val + 208 * κ.val + s.val = (1664 * c.val + 208 * k + o) + s.val; omega
    · exact (Nat.zero_add _).symm
    refine (hpay s h).trans (Finset.sum_congr rfl fun d _ => congrArg (fun a : EReal => a * w (ix2 d h)) ?_)
    refine y_read _ _ _ _ _ _ ?_ ?_
    · show 1664 * c.val + 208 * κ.val + s.val = (1664 * c.val + 208 * k + o) + s.val; omega
    · exact (Nat.zero_add _).symm
  · rw [if_neg hk]
    refine y_miss _ _ _ _ _ _ ?_
    show 1664 * c.val + 208 * κ.val + s.val < 1664 * c.val + 208 * k + o ∨ (1664 * c.val + 208 * k + o) + 208 ≤ 1664 * c.val + 208 * κ.val + s.val
    omega

/-- A row as it stands after the products: the dispatched row times the expert's weights. -/
theorem YG_at (I : Inp Ideal) (h : Fin 1024) :
    (YG I (ix2 (rowOf c κ s) h) : EReal) = ∑ d : Fin 1024, (Y4 I c (ix2 (rowOf c κ s) d) : EReal) * I.ew c (ix3 κ d h) := by
  have hs' : s.val < 208 := s.isLt
  have hκ : κ.val < 8 := κ.isLt
  have hc : c.val < 4 := c.isLt
  have hd : dY (ix2 (rowOf c κ s) h) = c := Fin.ext (by show (1664 * c.val + 208 * κ.val + s.val) / 1664 = c.val; omega)
  let P : Vec Ideal S6656x1024 .bf16 → Fin 1024 → EReal := fun f h => f (ix2 (rowOf c κ s) h)
  let g : (Fin 1024 → EReal) → Fin 1024 → EReal := fun z h => ∑ d : Fin 1024, z d * I.ew c (ix3 κ d h)
  by_cases h4 : κ.val < 4
  · have s5 := steps_hit (st5 I c) P g κ.val (fun k f => by
      have hk : k.val < 4 := k.isLt
      by_cases e : k.val = κ.val
      · rw [if_pos e]
        funext h
        refine (prod_step c κ s k.val 0 _ _ (k1_off18_eq c k) 0 rfl _ f _ (fun s h => pay8_at _ _ s h) h).trans ((if_pos (by omega)).trans (Finset.sum_congr rfl fun d _ => congrArg (fun a : EReal => (f (ix2 (rowOf c κ s) d) : EReal) * a) ?_))
        refine (e_read k (I.ew c) d h).trans ?_
        exact congrArg (fun z => I.ew c (ix3 z d h)) (Fin.ext (by show _ = κ.val; omega))
      · rw [if_neg e]
        funext h
        exact (prod_step c κ s k.val 0 _ _ (k1_off18_eq c k) 0 rfl _ f _ (fun s h => pay8_at _ _ s h) h).trans (if_neg (by omega))) (Y4 I c) 4 (le_refl 4)
    rw [if_pos h4] at s5
    unfold YG
    rw [if_pos (by show (1664 * c.val + 208 * κ.val + s.val) % 1664 / 832 = 0; omega)]
    rw [hd]
    exact congrFun s5 h
  · have s5 := steps_hit (st5 I c) P g κ.val (fun k f => by
      have hk : k.val < 4 := k.isLt
      rw [if_neg (by omega)]
      funext h
      exact (prod_step c κ s k.val 0 _ _ (k1_off18_eq c k) 0 rfl _ f _ (fun s h => pay8_at _ _ s h) h).trans (if_neg (by omega))) (Y4 I c) 4 (le_refl 4)
    rw [if_neg h4] at s5
    have s6 := steps_hit (st6 I c) P g (κ.val - 4) (fun k f => by
      have hk : k.val < 4 := k.isLt
      by_cases e : k.val = (κ.val - 4)
      · rw [if_pos e]
        funext h
        refine (prod_step c κ s k.val 832 _ _ (k1_off21_eq c k) 4 rfl _ f _ (fun s h => pay9_at _ _ s h) h).trans ((if_pos (by omega)).trans (Finset.sum_congr rfl fun d _ => congrArg (fun a : EReal => (f (ix2 (rowOf c κ s) d) : EReal) * a) ?_))
        refine (e_read' k (I.ew c) d h).trans ?_
        exact congrArg (fun z => I.ew c (ix3 z d h)) (Fin.ext (by show k.val + 4 = κ.val; omega))
      · rw [if_neg e]
        funext h
        exact (prod_step c κ s k.val 832 _ _ (k1_off21_eq c k) 4 rfl _ f _ (fun s h => pay9_at _ _ s h) h).trans (if_neg (by omega))) (Y5 I c) 4 (le_refl 4)
    rw [if_pos (by omega)] at s6
    unfold YG
    rw [if_neg (by show ¬ (1664 * c.val + 208 * κ.val + s.val) % 1664 / 832 = 0; omega)]
    rw [hd]
    have s6' := congrFun s6 h
    refine s6'.trans ?_
    show g (P (steps (st5 I c) (Y4 I c) 4)) h = _
    rw [s5]

end Products

/-! ## The combination -/

/-- One combining step: block `b` gives the token its answer when its slot lies there. -/
theorem comb_step (c b : Dev nD) (i : Fin 2048) (S : ℕ) (hS : S ≤ 6656) (hg : I.gm c (ix2 i 0) = BitVec.ofNat 32 S)
    (o : Vec Ideal S2048x1024 .bf16) (oY : Fin 2 → ℕ) (iY) (eY : oY = ![1664 * b.val, 0]) (h : Fin 1024) :
    combine (BitVec.ofNat 32 b.val) (I.gm c) o ((yM.access (Rect.unit (s := S6656x1024) oY S1664x1024.size iY)).read (Elt Ideal) (YG I)) i h
      = (o (ix2 i h) : EReal) + (if S / 1664 = b.val then (if hS : S < 6656 then (YG I (ix2 ⟨S, hS⟩ h) : EReal) else 0) else 0) := by
  have hb : b.val < 4 := b.isLt
  subst eY
  unfold combine
  refine congrArg (fun a : EReal => (o (ix2 i h) : EReal) + a) ?_
  rw [hg]
  have e : ∀ p : Fin 1664, (isSlot (BitVec.ofNat 32 b.val) p.val (BitVec.ofNat 32 S)) ↔ S = 1664 * b.val + p.val := fun p => isSlot_iff hb p.isLt hS
  by_cases hB : S / 1664 = b.val
  · have hS' : S < 6656 := by omega
    rw [if_pos hB, dif_pos hS', Finset.sum_eq_single (⟨S % 1664, Nat.mod_lt _ (by decide)⟩ : Fin 1664)]
    · rw [if_pos ((e _).mpr (by show S = 1664 * b.val + S % 1664; omega))]
      refine y_read _ _ _ _ _ _ ?_ ?_
      · show S = 1664 * b.val + S % 1664; omega
      · exact (Nat.zero_add _).symm
    · intro p _ hp
      refine if_neg fun hh => hp (Fin.ext ?_)
      have := (e p).mp hh
      have := p.isLt
      show p.val = S % 1664; omega
    · intro hh; exact absurd (Finset.mem_univ _) hh
  · rw [if_neg hB]
    refine Finset.sum_eq_zero fun p _ => if_neg fun hh => ?_
    have := (e p).mp hh
    have := p.isLt
    omega

/-- The output at a token: the result row its slot names. -/
theorem OUT_slot (c : Dev nD) (i : Fin 2048) (S : ℕ) (hS : S ≤ 6656) (hg : I.gm c (ix2 i 0) = BitVec.ofNat 32 S) (h : Fin 1024) :
    (OUT I c (ix2 i h) : EReal) = if hS : S < 6656 then (YG I (ix2 ⟨S, hS⟩ h) : EReal) else 0 := by
  unfold OUT slots16
  rw [pay15_at, w3_eq]
  refine (comb_step c (op c) i S hS hg _ _ _ (k1_off26_eq c 1) h).trans ?_
  unfold o3 slots16
  rw [pay14_at, w2_eq]
  refine (congrArg (fun a : EReal => a + _) (comb_step c (rt c) i S hS hg _ _ _ (k1_off26_eq c 0) h)).trans ?_
  unfold o2 slots16
  rw [pay13_at, w1_eq]
  refine (congrArg (fun a : EReal => a + _ + _) (comb_step c (lf c) i S hS hg _ _ _ (k1_off25_eq c) h)).trans ?_
  unfold o1
  rw [pay12_at, w0_eq]
  refine (congrArg (fun a : EReal => a + _ + _ + _) (comb_step c c i S hS hg _ _ _ (k1_off3_eq c) h)).trans ?_
  rw [pay11_at]
  have key : ∀ (a b : ℕ) (v : EReal), a < 4 → (4 ≤ b → v = 0) → (((0 + (if b = a then v else 0)) + (if b = (a + 3) % 4 then v else 0)) + (if b = (a + 1) % 4 then v else 0)) + (if b = (a + 2) % 4 then v else 0) = v := by
    intro a b v ha hv
    by_cases hb : b < 4
    · interval_cases a <;> interval_cases b <;> simp
    · rw [hv (by omega)]; simp
  exact key c.val (S / 1664) _ c.isLt (fun h4 => dif_neg (by omega))

include G in
/-- **What the kernel computes at a token**: its expert's answer, or zero when the expert was full. -/
theorem OUT_at (c : Dev nD) (i : Fin 2048) (T : Fin 8192) (hT : T.val = 2048 * c.val + i.val) (e : Dev nD) (κ : Fin 8)
    (hq : q T.val = 8 * e.val + κ.val) (h : Fin 1024) :
    (OUT I c (ix2 i h) : EReal)
      = if n T.val < 204 then ∑ d : Fin 1024, (I.xx c (ix2 i d) : EReal) * I.ew e (ix3 κ d h) else 0 := by
  have hq32 := G.qlt T.val T.isLt
  have hκ : κ.val < 8 := κ.isLt
  have hgm := G.gm c i
  rw [← hT] at hgm
  unfold slot at hgm
  by_cases hn : n T.val < 204
  · rw [if_pos hn] at hgm
    rw [if_pos hn, OUT_slot c i _ (by omega) hgm h, dif_pos (by omega)]
    have er : (⟨q T.val * 208 + n T.val, by omega⟩ : Fin 6656) = rowOf e κ ⟨n T.val, by omega⟩ := Fin.ext (by
      show q T.val * 208 + n T.val = 1664 * e.val + 208 * κ.val + n T.val; omega)
    rw [er, YG_at]
    refine Finset.sum_congr rfl fun d _ => congrArg (fun a : EReal => a * I.ew e (ix3 κ d h)) ?_
    exact (Y4_at G e κ ⟨n T.val, by omega⟩ T hq rfl hn d).trans (XG_at I c i T d hT)
  · rw [if_neg hn] at hgm
    rw [if_neg hn, OUT_slot c i _ (by omega) hgm h, dif_neg (by omega)]

end Cert.KernelIdeal.Net

end
-- ==== Proof.Routes.lean ====
/-
  What the whole-array lines hand to call 1: every token's route, its rank among the tokens of that route, and its slot.
-/
module

public import proofs.«01_k».proof.Proof.Host
public import proofs.«01_k».proof.Proof.Rows
public import proofs.«01_k».proof.Proof.Seg

@[expose] public section

noncomputable section

namespace Cert.KernelIdeal.Net

open Cert.KernelIdeal Cert.KernelIdeal.Gen
open Idealize.ShloMosaic Idealize.ShloMosaic.TcCoe

theorem RG_of (I : Inp Ideal) (e : Dev nD) (i : S64x128.Idx) (h : dR i = e) :
    RG I i = (rM.access (Rect.unit (s := S64x128) (k0_off1 e) S16x128.size (k0_off1_inb e))).write (Elt Ideal) zR (k0_pay1 (F := Ideal) (I.ro e)) Finset.univ i := by
  subst h; unfold RG; with_reducible rfl

/-- A row of the gathered routes is the row its device brought. -/
theorem RG_at (I : Inp Ideal) (d : Dev nD) (s : Fin 16) (r : Fin 64) (l : Fin 128) (h : r.val = 16 * d.val + s.val) :
    RG I (ix2 r l) = I.ro d (ix2 s l) := by
  have hs : s.val < 16 := s.isLt
  refine (RG_of I d _ (Fin.ext (by show r.val / 16 = d.val; omega))).trans ?_
  refine (r_hit (k0_off1 d) S16x128.size (k0_off1_inb d) zR _ (ix2 s l) (ix2 r l) ?_ ?_).trans ?_
  · rw [k0_off1_eq]; exact h
  · rw [k0_off1_eq]; exact (Nat.zero_add _).symm
  · unfold k0_pay1; pointwise

variable (m : (ℓ : Loc nD τ sig) → Buf (Elt Ideal) ℓ) (q : ℕ → ℕ)
  (hm : ∀ (c : Dev nD) (i : Fin 2048), m ((c : Thread nD τ).loc main_arg1) (ix2 i 0) = BitVec.ofNat 32 (q (2048 * c.val + i.val)))
  (hq : ∀ t, t < 8192 → q t < 32)

theorem inp_ro (c : Dev nD) : (inp m).ro c = V1 m c main_v5 := by unfold inp; with_reducible rfl

include hm in
/-- The gathered routes are the tokens' routes. -/
theorem route_at (t : Fin 8192) (r : Fin 64) (l : Fin 128) (hr : r.val = t.val / 128) (hl : l.val = t.val % 128) :
    RG (inp m) (ix2 r l) = BitVec.ofNat 32 (q t.val) := by
  have ht : t.val < 8192 := t.isLt
  have hl' : l.val < 128 := l.isLt
  refine (RG_at (inp m) ⟨r.val / 16, by show _ < 4; omega⟩ ⟨r.val % 16, by omega⟩ r l (by show r.val = 16 * (r.val / 16) + r.val % 16; omega)).trans ?_
  rw [inp_ro]
  refine (ops0_v5 (V0 m _) _ _ l).trans ?_
  refine (hm ⟨r.val / 16, by show _ < 4; omega⟩ ⟨r.val % 16 * 128 + l.val, by omega⟩).trans (congrArg (fun z => BitVec.ofNat 32 (q z)) ?_)
  show 2048 * (r.val / 16) + (r.val % 16 * 128 + l.val) = t.val
  omega

theorem V2_at (c : Dev nD) (i : S64x128.Idx) : V2 m (outs m) c main_v6 i = RG (inp m) i := congrFun (V2_v6 m c) i
theorem V4_v4 (c : Dev nD) : V4 m (outs m) c main_v4 = fun _ => BitVec.ofNat 32 c.val :=
  (V4_of m (outs m) c main_v4 (by decide)).trans ((V3_of m (outs m) c main_v4 (by decide)).trans ((V2_of m (outs m) c main_v4 (by decide)).trans (ops0_v4 (V0 m c) c)))

theorem select_congr {a a' : BitVec 1} {b b' d d' : BitVec 32} (ha : a = a') (hb : b = b') (hd : d = d') : Scalar.select a b d = Scalar.select a' b' d' := by
  rw [ha, hb, hd]

include hm

theorem V3_v7 (c : Dev nD) (t : Fin 8192) : V3 m (outs m) c main_v7 (ix1 t) = BitVec.ofNat 32 (q t.val) :=
  (ops1_v7 (V2 m (outs m) c) t).trans ((V2_at m c _).trans (route_at m q hm t _ _ rfl rfl))
theorem V4_v7 (c : Dev nD) (t : Fin 8192) : V4 m (outs m) c main_v7 (ix1 t) = BitVec.ofNat 32 (q t.val) :=
  (congrFun (V4_of m (outs m) c main_v7 (by decide)) _).trans (V3_v7 m q hm c t)
theorem V6_v7 (c : Dev nD) (t : Fin 8192) : V6 m (outs m) c main_v7 (ix1 t) = BitVec.ofNat 32 (q t.val) :=
  (congrFun ((V6_of m (outs m) c main_v7 (by decide)).trans (V5_of m (outs m) c main_v7 (by decide))) _).trans (V4_v7 m q hm c t)

include hq

theorem V3_v14 (c : Dev nD) (t : Fin 8192) (e : Fin 32) : V3 m (outs m) c main_v14 (ix2 t e) = BitVec.ofNat 32 (if q t.val = e.val then 1 else 0) := by
  refine (ops1_v14 (V2 m (outs m) c) t e).trans ?_
  rw [V2_at, route_at m q hm t _ _ rfl rfl, WordCmp.cmpi_eq_eq]
  have h32 := hq t.val t.isLt
  have hw : BitVec.ofNat 32 (q t.val) = BitVec.ofNat 32 e.val ↔ q t.val = e.val := WordCmp.ofNat_eq_ofNat_iff (by omega) (by omega)
  by_cases h : q t.val = e.val
  · rw [if_pos h, decide_eq_true (hw.mpr h)]; rfl
  · rw [if_neg h, decide_eq_false fun z => h (hw.mp z)]; rfl
theorem V4_v14 (c : Dev nD) (t : Fin 8192) (e : Fin 32) : V4 m (outs m) c main_v14 (ix2 t e) = BitVec.ofNat 32 (if q t.val = e.val then 1 else 0) :=
  (congrFun (V4_of m (outs m) c main_v14 (by decide)) _).trans (V3_v14 m q hm hq c t e)

/-- The kernel's ranks. -/
theorem V4_ranks (c : Dev nD) (t : Fin 8192) : ranks (V4 m (outs m) c main_v15) (V4 m (outs m) c main_v14) (ix1 t) = BitVec.ofNat 32 (rankOf q t.val) := by
  refine ranks_at q _ _ hq (V4_v14 m q hm hq c) ?_ t
  rw [V4_of m (outs m) c main_v14 (by decide)]
  exact ops1_v15 (V3 m (outs m) c)
theorem V6_v19 (c : Dev nD) (t : Fin 8192) : V6 m (outs m) c main_v19 (ix1 t) = BitVec.ofNat 32 (rankOf q t.val) :=
  (congrFun ((V6_of m (outs m) c main_v19 (by decide)).trans (ops1_v19 (V4 m (outs m) c))) _).trans (V4_ranks m q hm hq c t)
theorem V6_v35 (c : Dev nD) (i : Fin 2048) : V6 m (outs m) c main_v35 (ix1 i) = BitVec.ofNat 32 (slot q (rankOf q) (2048 * c.val + i.val)) := by
  have hc : c.val < 4 := c.isLt
  have hi : i.val < 2048 := i.isLt
  have h31 := ops1_v31 (V4 m (outs m) c) c (V4_v4 m c) i ⟨2048 * c.val + i.val, by omega⟩ rfl
  have h34 := ops1_v34 (V4 m (outs m) c) c (V4_v4 m c) i ⟨2048 * c.val + i.val, by omega⟩ rfl
  have h11 := congrFun (ops1_c11 (V4 m (outs m) c)) ix0
  refine (ops1_v35 (V5 m (outs m) c) i).trans ((select_congr h31 h34 h11).trans ?_)
  rw [V4_ranks m q hm hq, V4_v7 m q hm]
  have hn := rankOf_lt q (2048 * c.val + i.val) (by omega)
  unfold slot
  have e : IntOp.cmpi CmpIPredicate.slt (BitVec.ofNat 32 (rankOf q (2048 * c.val + i.val))) 204#32 = BitVec.ofBool (decide (rankOf q (2048 * c.val + i.val) < 204)) :=
    WordCmp.cmpi_slt_ofNat (by omega) (by omega)
  rw [e, WordCmp.select_ofBool]
  by_cases h : rankOf q (2048 * c.val + i.val) < 204
  · rw [if_pos h, if_pos (decide_eq_true h), BitVec.ofNat_add, BitVec.ofNat_mul]; rfl
  · rw [if_neg h, if_neg (fun z => h (of_decide_eq_true z))]; rfl

/-- What call 1 is given. -/
theorem given : Given (inp m) q (rankOf q) where
  rr c t := by rw [inp_rr]; exact (ops1_v37 (V6 m (outs m) c) t).trans (V6_v7 m q hm c t)
  rk c t := by rw [inp_rk]; exact (ops1_v38 (V6 m (outs m) c) t).trans (V6_v19 m q hm hq c t)
  gm c i := by rw [inp_gm]; exact (ops1_v39 (V6 m (outs m) c) i).trans (V6_v35 m q hm hq c i)
  qlt := hq
  nlt := rankOf_lt q
  inj t u _ _ := rankOf_inj q t u

omit hm hq in
/-- The activations call 1 is given. -/
theorem given_xx (c : Dev nD) (i : Fin 2048) (j : Fin 1024) : ((inp m).xx c (ix2 i j) : EReal) = m ((c : Thread nD τ).loc main_arg0) (ix2 i j) := by
  rw [inp_xx]
  refine (ops1_v36 (V6 m (outs m) c) i j).trans (congrFun ?_ _)
  exact (V6_of m (outs m) c main_arg0 (by decide)).trans ((V5_of m (outs m) c main_arg0 (by decide)).trans ((V4_of m (outs m) c main_arg0 (by decide)).trans
    ((V3_of m (outs m) c main_arg0 (by decide)).trans ((V2_of m (outs m) c main_arg0 (by decide)).trans (V1_of m c main_arg0 (by decide))))))
omit hm hq in
theorem V9_at (c : Dev nD) (i : Fin 2048) (j : Fin 1024) : (V9 m (outs m) c main_v41 (ix2 i j) : EReal) = OUT (inp m) c (ix2 i j) :=
  (ops2_v41 (V8 m (outs m) c) i j).trans (congrFun (V8_v40 m c) _)

/-- The kernel's result at a token: the expert's answer where the token's rank is below the capacity. -/
theorem out_at (c : Dev nD) (i : Fin 2048) (h : Fin 1024) (e : Dev nD) (κ : Fin 8) (he : q (2048 * c.val + i.val) = 8 * e.val + κ.val) :
    @Eq EReal (V9 m (outs m) c main_v41 (ix2 i h)) <| if rankOf q (2048 * c.val + i.val) < 204
      then ∑ d : Fin 1024, @HMul.hMul EReal EReal EReal _ (m ((c : Thread nD τ).loc main_arg0) (ix2 i d)) (m ((e : Thread nD τ).loc main_arg2) (ix3 κ d h)) else 0 := by
  have hc : c.val < 4 := c.isLt
  have hi : i.val < 2048 := i.isLt
  refine (V9_at m c i h).trans ((OUT_at (given m q hm hq) c i ⟨2048 * c.val + i.val, by omega⟩ rfl e κ he h).trans ?_)
  refine if_congr Iff.rfl (Finset.sum_congr rfl fun d _ => ?_) rfl
  exact congrArg₂ (fun a b : EReal => a * b) (given_xx m c i d) rfl

end Cert.KernelIdeal.Net

end
-- ==== Proof.Ref.lean ====
/-
  The reference's result at a token.
-/
module

public import proofs.«01_k».proof.Proof.Gen.ReferenceIdeal.Run
public import proofs.«01_k».proof.Proof.Host

@[expose] public section

noncomputable section

namespace Cert.ReferenceIdeal.Net

open Cert.ReferenceIdeal Cert.ReferenceIdeal.Gen
open Idealize.ShloMosaic Idealize.ShloMosaic.TcCoe

/-- The reference's ranks, of the routes in a line. -/
def rnk (r : IVec S8192 32) : IVec S8192 32 :=
  Host.reduce IntOp.addi (extui 32 (andi (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))) (cmpi .eq (broadcastInDim S8192x8192 ![0, 1] bcast_S1x8192_S8192x8192_0_1 (broadcastInDim S1x8192 ![1] bcast_S8192_S1x8192_1 r)) (broadcastInDim S8192x8192 ![0, 1] bcast_S8192x1_S8192x8192_0_1 (broadcastInDim S8192x1 ![0] bcast_S8192_S8192x1_0 r)))) natLt_1_32) (constantI S_ 32 0#32) reducesTo_S8192x8192_S8192_d1 h_S_

/-- The reference's result, of its ranks and its products. -/
def res (r n : IVec S8192 32) (p : FVec Ideal S8192x32x1024 .f32) : FVec Ideal S8192x1024 .f32 :=
  Host.reduceAdd (select (broadcastInDim S8192x32x1024 ![0, 1, 2] bcast_S8192x32x1_S8192x32x1024_0_1_2 (broadcastInDim S8192x32x1 ![0, 1] bcast_S8192x32_S8192x32x1_0_1 (andi (cmpi .eq (broadcastInDim S8192x32 ![0, 1] bcast_S8192x1_S8192x32_0_1 (broadcastInDim S8192x1 ![0] bcast_S8192_S8192x1_0 r)) (broadcastInDim S8192x32 ![0, 1] bcast_S1x32_S8192x32_0_1 (broadcastInDim S1x32 ![1] bcast_S32_S1x32_1 (iotaInDim S32 32 0)))) (broadcastInDim S8192x32 ![0, 1] bcast_S8192x1_S8192x32_0_1 (broadcastInDim S8192x1 ![0] bcast_S8192_S8192x1_0 (cmpi .slt n (broadcastInDim S8192 ![] bcast_S_S8192 (constantI S_ 32 204#32)))))))) p (broadcastInDim S8192x32x1024 ![] bcast_S_S8192x32x1024 (id (constant S_ .f32 0x00000000#32)))) (constant S_ .f32 0x00000000#32) reducesTo_S8192x32x1024_S8192x1024_d1 h_S_

/-- The reference's result, of its arguments. -/
def out (x : FVec Ideal S8192x1024 .f32) (r : IVec S8192x1 32) (w : FVec Ideal S32x1024x1024 .f32) : FVec Ideal S8192x1024 .f32 :=
  res (shapeCast _ r shapeCasts_S8192x1_S8192) (rnk (shapeCast _ r shapeCasts_S8192x1_S8192)) (Host.dotGeneral dot_S8192x1024_S32x1024x1024_S8192x32x1024_1_1_0_02_n_n none x w)

theorem dot_at (x : FVec Ideal S8192x1024 .f32) (w : FVec Ideal S32x1024x1024 .f32) (t : Fin 8192) (e : Fin 32) (h : Fin 1024) :
    (Host.dotGeneral dot_S8192x1024_S32x1024x1024_S8192x32x1024_1_1_0_02_n_n none x w (ix3 t e h) : EReal) = ∑ d : Fin 1024, (x (ix2 t d) : EReal) * w (ix3 e d h) := by
  pointwise

theorem line_at (r : IVec S8192x1 32) (t : Fin 8192) : (shapeCast S8192 r shapeCasts_S8192x1_S8192) (ix1 t) = r (ix2 t 0) := by
  pointwise

/-- The one product kept is that of the token's route, and it is kept while the rank is below the capacity. -/
theorem res_at (r n : IVec S8192 32) (p : FVec Ideal S8192x32x1024 .f32) (t : Fin 8192) (h : Fin 1024) (e : Fin 32) (k : ℕ)
    (hr : r (ix1 t) = BitVec.ofNat 32 e.val) (hn : n (ix1 t) = BitVec.ofNat 32 k) (hk : k < 8192) :
    (res r n p (ix2 t h) : EReal) = if k < 204 then (p (ix3 t e h) : EReal) else 0 := by
  unfold res
  pointwise
  have e2 : IntOp.cmpi CmpIPredicate.slt (BitVec.ofNat 32 k) 204#32 = BitVec.ofBool (decide (k < 204)) := WordCmp.cmpi_slt_ofNat (by omega) (by omega)
  have hz : (id (constant (F := Ideal) S_ FTy.f32 0#32) ix0 : EReal) = 0 := by
    exact Ideal.ofBits_zero_f32
  rw [hr, hn, e2]
  refine (Finset.sum_eq_single (M := EReal) e (fun x _ hx => ?_) (fun he => absurd (Finset.mem_univ e) he)).trans ?_
  · have hw : BitVec.ofNat 32 e.val ≠ BitVec.ofNat 32 x.val := fun z =>
      hx (Fin.ext ((WordCmp.ofNat_eq_ofNat_iff (by omega) (by omega)).mp z).symm)
    rw [WordCmp.cmpi_eq_eq, decide_eq_false hw, WordCmp.andi_ofBool]
    exact hz
  · rw [WordCmp.cmpi_eq_eq, decide_eq_true rfl, WordCmp.andi_ofBool, Bool.true_and]
    by_cases h : k < 204
    · rw [if_pos h, decide_eq_true h]; rfl
    · rw [if_neg h, decide_eq_false h]; exact hz

/-- The ranks are those counted. -/
theorem rnk_at (q : ℕ → ℕ) (hq : ∀ t, t < 8192 → q t < 32) (r : IVec S8192 32) (hr : ∀ t : Fin 8192, r (ix1 t) = BitVec.ofNat 32 (q t.val)) (t : Fin 8192) :
    rnk r (ix1 t) = BitVec.ofNat 32 (KernelIdeal.Net.rankOf q t.val) := by
  unfold rnk
  rw [ix1_eq_valueIdx]
  refine (Routing.reduce_count (n := 8192) (m := 8192) (by norm_num) _ _ _ _ t (fun s => s < t.val ∧ q s = q t.val) ?_).trans ?_
  · intro s
    rw [← ix2_eq_valueIdx]
    pointwise
    have hs := hq s.val s.isLt
    have ht := hq t.val t.isLt
    rw [hr, hr, WordCmp.cmpi_eq_eq, show IntOp.cmpi CmpIPredicate.slt (BitVec.ofNat 32 s.val) (BitVec.ofNat 32 t.val) = BitVec.ofBool (decide (s.val < t.val)) from
      WordCmp.cmpi_slt_ofNat (by omega) (by omega), WordCmp.andi_ofBool, WordCmp.ofBool_eq_one_iff, Bool.and_eq_true, decide_eq_true_iff, decide_eq_true_iff]
    exact and_congr Iff.rfl (WordCmp.ofNat_eq_ofNat_iff (by omega) (by omega))
  · have e : ∀ N, t.val + N ≤ 8192 → Nat.count (fun s => s < t.val ∧ q s = q t.val) (t.val + N) = KernelIdeal.Net.rankOf q t.val := by
      intro N
      induction N with
      | zero =>
        intro _
        unfold KernelIdeal.Net.rankOf
        rw [Nat.add_zero, Nat.count_eq_card_filter_range, Nat.count_eq_card_filter_range]
        refine congrArg Finset.card (Finset.filter_congr fun s hs => ?_)
        exact and_iff_right (Finset.mem_range.mp hs)
      | succ N ih =>
        intro hN
        rw [← Nat.add_assoc, Nat.count_succ, ih (by omega), if_neg (by omega), Nat.add_zero]
    have h := e (8192 - t.val) (by omega)
    rw [Nat.add_sub_cancel' (by omega)] at h
    rw [h]

end Cert.ReferenceIdeal.Net

end
-- ==== Proof.Value.lean ====
/-
  The kernel's result on each device is that device's block of the reference's result.
-/
module

public import proofs.«01_k».proof.Defs
public import proofs.«01_k».proof.Proof.Routes
public import proofs.«01_k».proof.Proof.Ref

@[expose] public section

noncomputable section

namespace Cert.KernelIdeal.Net

open Cert.KernelIdeal Cert.KernelIdeal.Gen
open Idealize.ShloMosaic Idealize.ShloMosaic.TcCoe

/-- Where an entry of a device's rows lies in the whole array, -/
theorem block_rows {α : Type} {a A b : ℕ} (ht : Layout.Tiles ⟨2, ![a, b]⟩ ⟨2, ![A, b]⟩ 0 4) (c : Fin 4) (v : (⟨2, ![A, b]⟩ : Shape).Idx → α)
    (i : Fin a) (j : Fin b) (T : Fin A) (hT : T.val = a * c.val + i.val) :
    Layout.block ⟨2, ![a, b]⟩ ⟨2, ![A, b]⟩ 0 4 c v ht (ix2 i j) = v (ix2 T j) := by
  rw [Layout.block_apply]
  refine congrArg v (funext (Fin.forall_fin_two.mpr ⟨Fin.ext ?_, Fin.ext rfl⟩))
  show c.val * a + i.val = T.val
  rw [hT, Nat.mul_comm]
/-- and an entry of a device's experts. -/
theorem block_experts {α : Type} (ht : Layout.Tiles ⟨3, ![8, 1024, 1024]⟩ ⟨3, ![32, 1024, 1024]⟩ 0 4) (c : Fin 4) (v : (⟨3, ![32, 1024, 1024]⟩ : Shape).Idx → α)
    (κ : Fin 8) (d h : Fin 1024) (E : Fin 32) (hE : E.val = 8 * c.val + κ.val) :
    Layout.block ⟨3, ![8, 1024, 1024]⟩ ⟨3, ![32, 1024, 1024]⟩ 0 4 c v ht (ix3 κ d h) = v (ix3 E d h) := by
  rw [Layout.block_apply]
  refine congrArg v (funext fun k => ?_)
  match k with
  | 0 => exact Fin.ext (by show c.val * 8 + κ.val = E.val; omega)
  | 1 => rfl
  | 2 => rfl

/-- A word from 0 up to 31, read with its sign, is a number below 32. -/
theorem word_lt (w : BitVec 32) (h : IntOp.andi (IntOp.cmpi .sge w 0#32) (IntOp.cmpi .slt w 32#32) = 1#1) : w.toNat < 32 := by
  rw [WordCmp.cmpi_sge_eq, WordCmp.cmpi_slt_eq, WordCmp.andi_ofBool, WordCmp.ofBool_eq_one_iff, Bool.and_eq_true, decide_eq_true_iff, decide_eq_true_iff] at h
  have h0 : (0#32 : BitVec 32).toInt = 0 := by decide
  have h1 : (32#32 : BitVec 32).toInt = 32 := by decide
  rw [h0, h1, BitVec.toInt_eq_toNat_cond] at h
  have := w.isLt
  split at h <;> omega

/-- The precondition, at a token of a device. -/
theorem pre_at [Cert.Pre_routes_in_range_KernelIdeal.Facts] (m : (ℓ : Loc nD τ sig) → Buf (Elt Ideal) ℓ) (hp : Cert.Pre_KernelIdeal_routes_in_range_KernelIdeal m)
    (c : Dev nD) (i : Fin 2048) : (show BitVec 32 from m ((c : Thread nD τ).loc main_arg1) (ix2 i 0)).toNat < 32 := by
  have h := congrFun (hp c) (ix2 i 0)
  unfold Cert.Pre_routes_in_range_KernelIdeal.fn at h
  pointwise at h
  exact word_lt _ h

/-- The tokens' routes, numbered through the whole batch. -/
def qOf (r : IVec ⟨2, ![8192, 1]⟩ 32) (t : ℕ) : ℕ := if h : t < 8192 then (r (ix2 ⟨t, h⟩ 0)).toNat else 0

theorem qOf_at (r : IVec ⟨2, ![8192, 1]⟩ 32) (t : Fin 8192) : r (ix2 t 0) = BitVec.ofNat 32 (qOf r t.val) := by
  unfold qOf
  rw [dif_pos t.isLt, BitVec.ofNat_toNat, BitVec.setWidth_eq]

/-- Each device's result is its block of the reference's. -/
theorem value [Cert.Pre_routes_in_range_KernelIdeal.Facts] (m : (ℓ : Loc nD τ sig) → Buf (Elt Ideal) ℓ) (hp : Cert.Pre_KernelIdeal_routes_in_range_KernelIdeal m)
    (x : FVec Ideal ⟨2, ![8192, 1024]⟩ .f32) (r : IVec ⟨2, ![8192, 1]⟩ 32) (w : FVec Ideal ⟨3, ![32, 1024, 1024]⟩ .f32)
    (hx : ∀ c : Dev nD, m ((c : Thread nD τ).loc main_arg0) = Layout.block ⟨2, ![2048, 1024]⟩ ⟨2, ![8192, 1024]⟩ 0 4 c x)
    (hr : ∀ c : Dev nD, m ((c : Thread nD τ).loc main_arg1) = Layout.block ⟨2, ![2048, 1]⟩ ⟨2, ![8192, 1]⟩ 0 4 c r)
    (hw : ∀ c : Dev nD, m ((c : Thread nD τ).loc main_arg2) = Layout.block ⟨3, ![8, 1024, 1024]⟩ ⟨3, ![32, 1024, 1024]⟩ 0 4 c w)
    (c : Dev nD) : V9 m (outs m) c main_v41 = Layout.block ⟨2, ![2048, 1024]⟩ ⟨2, ![8192, 1024]⟩ 0 4 c (Cert.ReferenceIdeal.Net.out x r w) := by
  have hat : ∀ (c : Dev nD) (i : Fin 2048) (T : Fin 8192), T.val = 2048 * c.val + i.val → m ((c : Thread nD τ).loc main_arg1) (ix2 i 0) = r (ix2 T 0) :=
    fun c i T hT => (congrFun (hr c) _).trans (block_rows _ c r i 0 T hT)
  have hm : ∀ (c : Dev nD) (i : Fin 2048), m ((c : Thread nD τ).loc main_arg1) (ix2 i 0) = BitVec.ofNat 32 (qOf r (2048 * c.val + i.val)) := by
    intro c i
    have hc : c.val < 4 := c.isLt
    exact (hat c i ⟨2048 * c.val + i.val, by omega⟩ rfl).trans (qOf_at r ⟨2048 * c.val + i.val, by omega⟩)
  have hq : ∀ t, t < 8192 → qOf r t < 32 := by
    intro t ht
    have h := pre_at m hp ⟨t / 2048, by show _ < 4; omega⟩ ⟨t % 2048, by omega⟩
    have e := hat ⟨t / 2048, by show _ < 4; omega⟩ ⟨t % 2048, by omega⟩ ⟨t, ht⟩ (by show t = 2048 * (t / 2048) + t % 2048; omega)
    unfold qOf
    rw [dif_pos ht]
    exact lt_of_eq_of_lt (congrArg BitVec.toNat e.symm) h
  have hc : c.val < 4 := c.isLt
  funext j
  obtain ⟨i, h, rfl⟩ : ∃ (i : Fin 2048) (h : Fin 1024), j = ix2 i h := ⟨j 0, j 1, funext (Fin.forall_fin_two.mpr ⟨rfl, rfl⟩)⟩
  have hi : i.val < 2048 := i.isLt
  have ht : 2048 * c.val + i.val < 8192 := by omega
  have hq' := hq _ ht
  refine Eq.trans ?_ (block_rows _ c _ i h ⟨2048 * c.val + i.val, ht⟩ rfl).symm
  refine (out_at m (qOf r) hm hq c i h ⟨qOf r (2048 * c.val + i.val) / 8, by show _ < 4; omega⟩ ⟨qOf r (2048 * c.val + i.val) % 8, by omega⟩
    (by show qOf r _ = 8 * (qOf r _ / 8) + qOf r _ % 8; omega)).trans ?_
  have hl : ∀ t : Fin 8192, (shapeCast Cert.ReferenceIdeal.S8192 r Cert.ReferenceIdeal.Gen.shapeCasts_S8192x1_S8192) (ix1 t) = BitVec.ofNat 32 (qOf r t.val) :=
    fun t => (Cert.ReferenceIdeal.Net.line_at r t).trans (qOf_at r t)
  unfold Cert.ReferenceIdeal.Net.out
  refine Eq.trans ?_ (Cert.ReferenceIdeal.Net.res_at _ _ _ ⟨2048 * c.val + i.val, ht⟩ h ⟨qOf r (2048 * c.val + i.val), hq'⟩ (rankOf (qOf r) (2048 * c.val + i.val))
    (hl _) (Cert.ReferenceIdeal.Net.rnk_at (qOf r) hq _ hl _) (rankOf_lt _ _ ht)).symm
  refine if_congr Iff.rfl (Eq.trans (Finset.sum_congr rfl fun d _ => ?_) (Cert.ReferenceIdeal.Net.dot_at x w ⟨2048 * c.val + i.val, ht⟩ ⟨qOf r (2048 * c.val + i.val), hq'⟩ h).symm) rfl
  refine congrArg₂ (fun a b : EReal => a * b) ((congrFun (hx c) _).trans (block_rows _ c x i d _ rfl)) ((congrFun (hw _) _).trans (block_experts _ _ w _ d h _ ?_))
  show qOf r _ = 8 * (qOf r _ / 8) + qOf r _ % 8
  omega

end Cert.KernelIdeal.Net

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch1
public import proofs.«01_k».proof.Proof.Value
public import Idealize.ShloMosaic.Adequacy
public import Idealize.ShloMosaic.Init

@[expose] public section

noncomputable section

namespace Cert.Proof

open Idealize.ShloMosaic Idealize.SL.Sem Cert.Kernel

/-- Over any float values the kernel runs on the four devices, ends with its arguments unchanged and every counter at zero. -/
theorem run_args {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2))
        ∧ r.2.sem = fun _ => 0) :=
  (θ_run Cert.KernelIdeal.defs _ _).mono (fun _ h => ⟨fun c => ⟨(h.1 c).1, (h.1 c).2.1, (h.1 c).2.2.1⟩, h.2⟩)
    (Cert.KernelIdeal.Net.run_main (F := F) m ρ)

set_option smartUnfolding false in
set_option maxHeartbeats 2000000 in
/-- The kernel as printed: the run above, taken at the machine's words. The two programs have the same text. -/
theorem frame_kernel : Cert.quiescent_Kernel := fun m ρ _ => run_args (F := Bits) m ρ

/-- The idealised kernel: the same run, taken at the extended reals. -/
theorem frame_ideal : Cert.quiescent_KernelIdeal := fun m ρ _ => run_args (F := Ideal) m ρ

/-- The reference runs, ends with its arguments unchanged; it declares no counter. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

instance facts_pre_kernel : Cert.Pre_routes_in_range_KernelIdeal.Facts := ⟨by decide⟩
instance facts_pre_reference : Cert.Pre_routes_in_range_ReferenceIdeal.Facts := ⟨by decide⟩

/-- The idealised kernel ends with its blocks of what the reference ends with. -/
theorem same_value : Cert.algebraic_KernelIdeal_ReferenceIdeal_pre_routes_in_range_KernelIdeal := by
  intro m g m' g' hp hb
  refine ⟨Cert.ReferenceIdeal.Net.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ⟨(h.1 c).2.2.2.trans ?_, (h.1 c).1, (h.1 c).2.1, (h.1 c).2.2.1⟩) (Cert.KernelIdeal.Net.run_main (F := Ideal) m g)
    exact Cert.KernelIdeal.Net.value m hp _ _ _ (fun c => (hb c).1) (fun c => (hb c).2.1) (fun c => (hb c).2.2) c
  · exact (θ_run Cert.ReferenceIdeal.defs _ _).mono (fun r h => ⟨(h 0).1, (h 0).2⟩) (Cert.ReferenceIdeal.Value.run (F := Ideal) m' g')

theorem claim : Cert.Claim := ⟨Cert.Kernel.Gen.facts, Cert.KernelIdeal.Gen.facts, Cert.ReferenceIdeal.Gen.facts, facts_pre_kernel, facts_pre_reference,
  frame_kernel, frame_ideal, fun m ρ _ => frame_ideal m ρ trivial, frame_reference, fun m ρ _ => frame_reference m ρ trivial, trivial, same_value⟩

end Cert.Proof

end
